-- ==== Defs.lean ====
def Pre_Att (m : (ℓ : Loc Cert.Att.nD Cert.Att.τ Cert.Att.sig) → Buf (Elt Bits) ℓ) : Prop :=
  True

def Pre_AttIdeal (m : (ℓ : Loc Cert.AttIdeal.nD Cert.AttIdeal.τ Cert.AttIdeal.sig) → Buf (Elt Ideal) ℓ) : Prop :=
  True

def Pre_AttIdeal_finite_scores [hPre_finite_scores : Cert.Pre_finite_scores.Facts] (m : (ℓ : Loc Cert.AttIdeal.nD Cert.AttIdeal.τ Cert.AttIdeal.sig) → Buf (Elt Ideal) ℓ) : Prop :=
  ∀ c : Dev Cert.AttIdeal.nD,
    (Cert.Pre_finite_scores.fn (F := Ideal) (m ((c.tc : Thread Cert.AttIdeal.nD Cert.AttIdeal.τ).loc Cert.AttIdeal.main_arg0)) (m ((c.tc : Thread Cert.AttIdeal.nD Cert.AttIdeal.τ).loc Cert.AttIdeal.main_arg1)) (m ((c.tc : Thread Cert.AttIdeal.nD Cert.AttIdeal.τ).loc Cert.AttIdeal.main_arg2))) = (fun _ => 1#1)

def Pre_AttRefIdeal (m : (ℓ : Loc Cert.AttRefIdeal.nD Cert.AttRefIdeal.τ Cert.AttRefIdeal.sig) → Buf (Elt Ideal) ℓ) : Prop :=
  True

def Pre_AttRefIdeal_finite_scores [hPre_finite_scores : Cert.Pre_finite_scores.Facts] (m : (ℓ : Loc Cert.AttRefIdeal.nD Cert.AttRefIdeal.τ Cert.AttRefIdeal.sig) → Buf (Elt Ideal) ℓ) : Prop :=
  ∀ c : Dev Cert.AttRefIdeal.nD,
    (Cert.Pre_finite_scores.fn (F := Ideal) (m ((c.tc : Thread Cert.AttRefIdeal.nD Cert.AttRefIdeal.τ).loc Cert.AttRefIdeal.main_arg0)) (m ((c.tc : Thread Cert.AttRefIdeal.nD Cert.AttRefIdeal.τ).loc Cert.AttRefIdeal.main_arg1)) (m ((c.tc : Thread Cert.AttRefIdeal.nD Cert.AttRefIdeal.τ).loc Cert.AttRefIdeal.main_arg2))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Experts [hPre_tiles_name_experts : Cert.Pre_tiles_name_experts.Facts] (m : (ℓ : Loc Cert.Experts.nD Cert.Experts.τ Cert.Experts.sig) → Buf (Elt Bits) ℓ) : Prop :=
  ∀ c : Dev Cert.Experts.nD,
    (Cert.Pre_tiles_name_experts.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4))) = (fun _ => 1#1)

def Pre_ExpertsIdeal [hPre_tiles_name_experts : Cert.Pre_tiles_name_experts.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_tiles_name_experts.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4))) = (fun _ => 1#1)

def Pre_ExpertsRefIdeal (m : (ℓ : Loc Cert.ExpertsRefIdeal.nD Cert.ExpertsRefIdeal.τ Cert.ExpertsRefIdeal.sig) → Buf (Elt Ideal) ℓ) : Prop :=
  True

def Pre_ExpertsRefIdeal_tiles_name_experts [hPre_tiles_name_experts : Cert.Pre_tiles_name_experts.Facts] (m : (ℓ : Loc Cert.ExpertsRefIdeal.nD Cert.ExpertsRefIdeal.τ Cert.ExpertsRefIdeal.sig) → Buf (Elt Ideal) ℓ) : Prop :=
  ∀ c : Dev Cert.ExpertsRefIdeal.nD,
    (Cert.Pre_tiles_name_experts.fn (F := Ideal) (m ((c.tc : Thread Cert.ExpertsRefIdeal.nD Cert.ExpertsRefIdeal.τ).loc Cert.ExpertsRefIdeal.main_arg0)) (m ((c.tc : Thread Cert.ExpertsRefIdeal.nD Cert.ExpertsRefIdeal.τ).loc Cert.ExpertsRefIdeal.main_arg1)) (m ((c.tc : Thread Cert.ExpertsRefIdeal.nD Cert.ExpertsRefIdeal.τ).loc Cert.ExpertsRefIdeal.main_arg2)) (m ((c.tc : Thread Cert.ExpertsRefIdeal.nD Cert.ExpertsRefIdeal.τ).loc Cert.ExpertsRefIdeal.main_arg3)) (m ((c.tc : Thread Cert.ExpertsRefIdeal.nD Cert.ExpertsRefIdeal.τ).loc Cert.ExpertsRefIdeal.main_arg4))) = (fun _ => 1#1)

def Pre_Inp (m : (ℓ : Loc Cert.Inp.nD Cert.Inp.τ Cert.Inp.sig) → Buf (Elt Bits) ℓ) : Prop :=
  True

def Pre_InpIdeal (m : (ℓ : Loc Cert.InpIdeal.nD Cert.InpIdeal.τ Cert.InpIdeal.sig) → Buf (Elt Ideal) ℓ) : Prop :=
  True

def Pre_InpRefIdeal (m : (ℓ : Loc Cert.InpRefIdeal.nD Cert.InpRefIdeal.τ Cert.InpRefIdeal.sig) → Buf (Elt Ideal) ℓ) : Prop :=
  True

def quiescent_Att [hAtt : Cert.Att.Facts] : Prop :=
  ∀ (m : (ℓ : Loc Cert.Att.nD Cert.Att.τ Cert.Att.sig) → Buf (Elt Bits) ℓ) (g : Dev Cert.Att.nD → PrngReg), Pre_Att m →
    θ_run (Cert.Att.defs (F := Bits)) (onTc (τ := Cert.Att.τ) (Cert.Att.main (F := Bits))) ⟨m, fun _ => 0, g⟩ (fun r => (∀ c : Dev Cert.Att.nD,
      r.2.mem ((c.tc : Thread Cert.Att.nD Cert.Att.τ).loc Cert.Att.main_arg0) = m ((c.tc : Thread Cert.Att.nD Cert.Att.τ).loc Cert.Att.main_arg0)
      ∧ r.2.mem ((c.tc : Thread Cert.Att.nD Cert.Att.τ).loc Cert.Att.main_arg1) = m ((c.tc : Thread Cert.Att.nD Cert.Att.τ).loc Cert.Att.main_arg1)
      ∧ r.2.mem ((c.tc : Thread Cert.Att.nD Cert.Att.τ).loc Cert.Att.main_arg2) = m ((c.tc : Thread Cert.Att.nD Cert.Att.τ).loc Cert.Att.main_arg2))
      ∧ r.2.sem = fun _ => 0)

def quiescent_AttIdeal [hAttIdeal : Cert.AttIdeal.Facts] : Prop :=
  ∀ (m : (ℓ : Loc Cert.AttIdeal.nD Cert.AttIdeal.τ Cert.AttIdeal.sig) → Buf (Elt Ideal) ℓ) (g : Dev Cert.AttIdeal.nD → PrngReg), Pre_AttIdeal m →
    θ_run (Cert.AttIdeal.defs (F := Ideal)) (onTc (τ := Cert.AttIdeal.τ) (Cert.AttIdeal.main (F := Ideal))) ⟨m, fun _ => 0, g⟩ (fun r => (∀ c : Dev Cert.AttIdeal.nD,
      r.2.mem ((c.tc : Thread Cert.AttIdeal.nD Cert.AttIdeal.τ).loc Cert.AttIdeal.main_arg0) = m ((c.tc : Thread Cert.AttIdeal.nD Cert.AttIdeal.τ).loc Cert.AttIdeal.main_arg0)
      ∧ r.2.mem ((c.tc : Thread Cert.AttIdeal.nD Cert.AttIdeal.τ).loc Cert.AttIdeal.main_arg1) = m ((c.tc : Thread Cert.AttIdeal.nD Cert.AttIdeal.τ).loc Cert.AttIdeal.main_arg1)
      ∧ r.2.mem ((c.tc : Thread Cert.AttIdeal.nD Cert.AttIdeal.τ).loc Cert.AttIdeal.main_arg2) = m ((c.tc : Thread Cert.AttIdeal.nD Cert.AttIdeal.τ).loc Cert.AttIdeal.main_arg2))
      ∧ r.2.sem = fun _ => 0)

def quiescent_AttIdeal_pre_finite_scores [hAttIdeal : Cert.AttIdeal.Facts] [hPre_finite_scores : Cert.Pre_finite_scores.Facts] : Prop :=
  ∀ (m : (ℓ : Loc Cert.AttIdeal.nD Cert.AttIdeal.τ Cert.AttIdeal.sig) → Buf (Elt Ideal) ℓ) (g : Dev Cert.AttIdeal.nD → PrngReg), Pre_AttIdeal_finite_scores m →
    θ_run (Cert.AttIdeal.defs (F := Ideal)) (onTc (τ := Cert.AttIdeal.τ) (Cert.AttIdeal.main (F := Ideal))) ⟨m, fun _ => 0, g⟩ (fun r => (∀ c : Dev Cert.AttIdeal.nD,
      r.2.mem ((c.tc : Thread Cert.AttIdeal.nD Cert.AttIdeal.τ).loc Cert.AttIdeal.main_arg0) = m ((c.tc : Thread Cert.AttIdeal.nD Cert.AttIdeal.τ).loc Cert.AttIdeal.main_arg0)
      ∧ r.2.mem ((c.tc : Thread Cert.AttIdeal.nD Cert.AttIdeal.τ).loc Cert.AttIdeal.main_arg1) = m ((c.tc : Thread Cert.AttIdeal.nD Cert.AttIdeal.τ).loc Cert.AttIdeal.main_arg1)
      ∧ r.2.mem ((c.tc : Thread Cert.AttIdeal.nD Cert.AttIdeal.τ).loc Cert.AttIdeal.main_arg2) = m ((c.tc : Thread Cert.AttIdeal.nD Cert.AttIdeal.τ).loc Cert.AttIdeal.main_arg2))
      ∧ r.2.sem = fun _ => 0)

def quiescent_AttRefIdeal [hAttRefIdeal : Cert.AttRefIdeal.Facts] : Prop :=
  ∀ (m : (ℓ : Loc Cert.AttRefIdeal.nD Cert.AttRefIdeal.τ Cert.AttRefIdeal.sig) → Buf (Elt Ideal) ℓ) (g : Dev Cert.AttRefIdeal.nD → PrngReg), Pre_AttRefIdeal m →
    θ_run (Cert.AttRefIdeal.defs (F := Ideal)) (onTc (τ := Cert.AttRefIdeal.τ) (Cert.AttRefIdeal.main (F := Ideal))) ⟨m, fun _ => 0, g⟩ (fun r => (∀ c : Dev Cert.AttRefIdeal.nD,
      r.2.mem ((c.tc : Thread Cert.AttRefIdeal.nD Cert.AttRefIdeal.τ).loc Cert.AttRefIdeal.main_arg0) = m ((c.tc : Thread Cert.AttRefIdeal.nD Cert.AttRefIdeal.τ).loc Cert.AttRefIdeal.main_arg0)
      ∧ r.2.mem ((c.tc : Thread Cert.AttRefIdeal.nD Cert.AttRefIdeal.τ).loc Cert.AttRefIdeal.main_arg1) = m ((c.tc : Thread Cert.AttRefIdeal.nD Cert.AttRefIdeal.τ).loc Cert.AttRefIdeal.main_arg1)
      ∧ r.2.mem ((c.tc : Thread Cert.AttRefIdeal.nD Cert.AttRefIdeal.τ).loc Cert.AttRefIdeal.main_arg2) = m ((c.tc : Thread Cert.AttRefIdeal.nD Cert.AttRefIdeal.τ).loc Cert.AttRefIdeal.main_arg2))
      ∧ r.2.sem = fun _ => 0)

def quiescent_AttRefIdeal_pre_finite_scores [hAttRefIdeal : Cert.AttRefIdeal.Facts] [hPre_finite_scores : Cert.Pre_finite_scores.Facts] : Prop :=
  ∀ (m : (ℓ : Loc Cert.AttRefIdeal.nD Cert.AttRefIdeal.τ Cert.AttRefIdeal.sig) → Buf (Elt Ideal) ℓ) (g : Dev Cert.AttRefIdeal.nD → PrngReg), Pre_AttRefIdeal_finite_scores m →
    θ_run (Cert.AttRefIdeal.defs (F := Ideal)) (onTc (τ := Cert.AttRefIdeal.τ) (Cert.AttRefIdeal.main (F := Ideal))) ⟨m, fun _ => 0, g⟩ (fun r => (∀ c : Dev Cert.AttRefIdeal.nD,
      r.2.mem ((c.tc : Thread Cert.AttRefIdeal.nD Cert.AttRefIdeal.τ).loc Cert.AttRefIdeal.main_arg0) = m ((c.tc : Thread Cert.AttRefIdeal.nD Cert.AttRefIdeal.τ).loc Cert.AttRefIdeal.main_arg0)
      ∧ r.2.mem ((c.tc : Thread Cert.AttRefIdeal.nD Cert.AttRefIdeal.τ).loc Cert.AttRefIdeal.main_arg1) = m ((c.tc : Thread Cert.AttRefIdeal.nD Cert.AttRefIdeal.τ).loc Cert.AttRefIdeal.main_arg1)
      ∧ r.2.mem ((c.tc : Thread Cert.AttRefIdeal.nD Cert.AttRefIdeal.τ).loc Cert.AttRefIdeal.main_arg2) = m ((c.tc : Thread Cert.AttRefIdeal.nD Cert.AttRefIdeal.τ).loc Cert.AttRefIdeal.main_arg2))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6)
      ∧ r.2.mem ((c.tc : Thread Cert.Ffn.nD Cert.Ffn.τ).loc Cert.Ffn.main_arg7) = m ((c.tc : Thread Cert.Ffn.nD Cert.Ffn.τ).loc Cert.Ffn.main_arg7)
      ∧ r.2.mem ((c.tc : Thread Cert.Ffn.nD Cert.Ffn.τ).loc Cert.Ffn.main_arg8) = m ((c.tc : Thread Cert.Ffn.nD Cert.Ffn.τ).loc Cert.Ffn.main_arg8))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
      ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
      ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6)
      ∧ r.2.mem ((c.tc : Thread Cert.FfnRefIdeal.nD Cert.FfnRefIdeal.τ).loc Cert.FfnRefIdeal.main_arg7) = m ((c.tc : Thread Cert.FfnRefIdeal.nD Cert.FfnRefIdeal.τ).loc Cert.FfnRefIdeal.main_arg7)
      ∧ r.2.mem ((c.tc : Thread Cert.FfnRefIdeal.nD Cert.FfnRefIdeal.τ).loc Cert.FfnRefIdeal.main_arg8) = m ((c.tc : Thread Cert.FfnRefIdeal.nD Cert.FfnRefIdeal.τ).loc Cert.FfnRefIdeal.main_arg8))
      ∧ r.2.sem = fun _ => 0)

def quiescent_Experts [hExperts : Cert.Experts.Facts] [hPre_tiles_name_experts : Cert.Pre_tiles_name_experts.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4))
      ∧ r.2.sem = fun _ => 0)

def quiescent_ExpertsIdeal [hExpertsIdeal : Cert.ExpertsIdeal.Facts] [hPre_tiles_name_experts : Cert.Pre_tiles_name_experts.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4))
      ∧ r.2.sem = fun _ => 0)

def quiescent_ExpertsRefIdeal [hExpertsRefIdeal : Cert.ExpertsRefIdeal.Facts] : Prop :=
  ∀ (m : (ℓ : Loc Cert.ExpertsRefIdeal.nD Cert.ExpertsRefIdeal.τ Cert.ExpertsRefIdeal.sig) → Buf (Elt Ideal) ℓ) (g : Dev Cert.ExpertsRefIdeal.nD → PrngReg), Pre_ExpertsRefIdeal m →
    θ_run (Cert.ExpertsRefIdeal.defs (F := Ideal)) (onTc (τ := Cert.ExpertsRefIdeal.τ) (Cert.ExpertsRefIdeal.main (F := Ideal))) ⟨m, fun _ => 0, g⟩ (fun r => (∀ c : Dev Cert.ExpertsRefIdeal.nD,
      r.2.mem ((c.tc : Thread Cert.ExpertsRefIdeal.nD Cert.ExpertsRefIdeal.τ).loc Cert.ExpertsRefIdeal.main_arg0) = m ((c.tc : Thread Cert.ExpertsRefIdeal.nD Cert.ExpertsRefIdeal.τ).loc Cert.ExpertsRefIdeal.main_arg0)
      ∧ r.2.mem ((c.tc : Thread Cert.ExpertsRefIdeal.nD Cert.ExpertsRefIdeal.τ).loc Cert.ExpertsRefIdeal.main_arg1) = m ((c.tc : Thread Cert.ExpertsRefIdeal.nD Cert.ExpertsRefIdeal.τ).loc Cert.ExpertsRefIdeal.main_arg1)
      ∧ r.2.mem ((c.tc : Thread Cert.ExpertsRefIdeal.nD Cert.ExpertsRefIdeal.τ).loc Cert.ExpertsRefIdeal.main_arg2) = m ((c.tc : Thread Cert.ExpertsRefIdeal.nD Cert.ExpertsRefIdeal.τ).loc Cert.ExpertsRefIdeal.main_arg2)
      ∧ r.2.mem ((c.tc : Thread Cert.ExpertsRefIdeal.nD Cert.ExpertsRefIdeal.τ).loc Cert.ExpertsRefIdeal.main_arg3) = m ((c.tc : Thread Cert.ExpertsRefIdeal.nD Cert.ExpertsRefIdeal.τ).loc Cert.ExpertsRefIdeal.main_arg3)
      ∧ r.2.mem ((c.tc : Thread Cert.ExpertsRefIdeal.nD Cert.ExpertsRefIdeal.τ).loc Cert.ExpertsRefIdeal.main_arg4) = m ((c.tc : Thread Cert.ExpertsRefIdeal.nD Cert.ExpertsRefIdeal.τ).loc Cert.ExpertsRefIdeal.main_arg4))
      ∧ r.2.sem = fun _ => 0)

def quiescent_ExpertsRefIdeal_pre_tiles_name_experts [hExpertsRefIdeal : Cert.ExpertsRefIdeal.Facts] [hPre_tiles_name_experts : Cert.Pre_tiles_name_experts.Facts] : Prop :=
  ∀ (m : (ℓ : Loc Cert.ExpertsRefIdeal.nD Cert.ExpertsRefIdeal.τ Cert.ExpertsRefIdeal.sig) → Buf (Elt Ideal) ℓ) (g : Dev Cert.ExpertsRefIdeal.nD → PrngReg), Pre_ExpertsRefIdeal_tiles_name_experts m →
    θ_run (Cert.ExpertsRefIdeal.defs (F := Ideal)) (onTc (τ := Cert.ExpertsRefIdeal.τ) (Cert.ExpertsRefIdeal.main (F := Ideal))) ⟨m, fun _ => 0, g⟩ (fun r => (∀ c : Dev Cert.ExpertsRefIdeal.nD,
      r.2.mem ((c.tc : Thread Cert.ExpertsRefIdeal.nD Cert.ExpertsRefIdeal.τ).loc Cert.ExpertsRefIdeal.main_arg0) = m ((c.tc : Thread Cert.ExpertsRefIdeal.nD Cert.ExpertsRefIdeal.τ).loc Cert.ExpertsRefIdeal.main_arg0)
      ∧ r.2.mem ((c.tc : Thread Cert.ExpertsRefIdeal.nD Cert.ExpertsRefIdeal.τ).loc Cert.ExpertsRefIdeal.main_arg1) = m ((c.tc : Thread Cert.ExpertsRefIdeal.nD Cert.ExpertsRefIdeal.τ).loc Cert.ExpertsRefIdeal.main_arg1)
      ∧ r.2.mem ((c.tc : Thread Cert.ExpertsRefIdeal.nD Cert.ExpertsRefIdeal.τ).loc Cert.ExpertsRefIdeal.main_arg2) = m ((c.tc : Thread Cert.ExpertsRefIdeal.nD Cert.ExpertsRefIdeal.τ).loc Cert.ExpertsRefIdeal.main_arg2)
      ∧ r.2.mem ((c.tc : Thread Cert.ExpertsRefIdeal.nD Cert.ExpertsRefIdeal.τ).loc Cert.ExpertsRefIdeal.main_arg3) = m ((c.tc : Thread Cert.ExpertsRefIdeal.nD Cert.ExpertsRefIdeal.τ).loc Cert.ExpertsRefIdeal.main_arg3)
      ∧ r.2.mem ((c.tc : Thread Cert.ExpertsRefIdeal.nD Cert.ExpertsRefIdeal.τ).loc Cert.ExpertsRefIdeal.main_arg4) = m ((c.tc : Thread Cert.ExpertsRefIdeal.nD Cert.ExpertsRefIdeal.τ).loc Cert.ExpertsRefIdeal.main_arg4))
      ∧ r.2.sem = fun _ => 0)

def quiescent_Inp [hInp : Cert.Inp.Facts] : Prop :=
  ∀ (m : (ℓ : Loc Cert.Inp.nD Cert.Inp.τ Cert.Inp.sig) → Buf (Elt Bits) ℓ) (g : Dev Cert.Inp.nD → PrngReg), Pre_Inp m →
    θ_run (Cert.Inp.defs (F := Bits)) (onTc (τ := Cert.Inp.τ) (Cert.Inp.main (F := Bits))) ⟨m, fun _ => 0, g⟩ (fun r => (∀ c : Dev Cert.Inp.nD,
      r.2.mem ((c.tc : Thread Cert.Inp.nD Cert.Inp.τ).loc Cert.Inp.main_arg0) = m ((c.tc : Thread Cert.Inp.nD Cert.Inp.τ).loc Cert.Inp.main_arg0)
      ∧ r.2.mem ((c.tc : Thread Cert.Inp.nD Cert.Inp.τ).loc Cert.Inp.main_arg1) = m ((c.tc : Thread Cert.Inp.nD Cert.Inp.τ).loc Cert.Inp.main_arg1)
      ∧ r.2.mem ((c.tc : Thread Cert.Inp.nD Cert.Inp.τ).loc Cert.Inp.main_arg2) = m ((c.tc : Thread Cert.Inp.nD Cert.Inp.τ).loc Cert.Inp.main_arg2)
      ∧ r.2.mem ((c.tc : Thread Cert.Inp.nD Cert.Inp.τ).loc Cert.Inp.main_arg3) = m ((c.tc : Thread Cert.Inp.nD Cert.Inp.τ).loc Cert.Inp.main_arg3)
      ∧ r.2.mem ((c.tc : Thread Cert.Inp.nD Cert.Inp.τ).loc Cert.Inp.main_arg4) = m ((c.tc : Thread Cert.Inp.nD Cert.Inp.τ).loc Cert.Inp.main_arg4)
      ∧ r.2.mem ((c.tc : Thread Cert.Inp.nD Cert.Inp.τ).loc Cert.Inp.main_arg5) = m ((c.tc : Thread Cert.Inp.nD Cert.Inp.τ).loc Cert.Inp.main_arg5)
      ∧ r.2.mem ((c.tc : Thread Cert.Inp.nD Cert.Inp.τ).loc Cert.Inp.main_arg6) = m ((c.tc : Thread Cert.Inp.nD Cert.Inp.τ).loc Cert.Inp.main_arg6)
      ∧ r.2.mem ((c.tc : Thread Cert.Inp.nD Cert.Inp.τ).loc Cert.Inp.main_arg7) = m ((c.tc : Thread Cert.Inp.nD Cert.Inp.τ).loc Cert.Inp.main_arg7))
      ∧ r.2.sem = fun _ => 0)

def quiescent_InpIdeal [hInpIdeal : Cert.InpIdeal.Facts] : Prop :=
  ∀ (m : (ℓ : Loc Cert.InpIdeal.nD Cert.InpIdeal.τ Cert.InpIdeal.sig) → Buf (Elt Ideal) ℓ) (g : Dev Cert.InpIdeal.nD → PrngReg), Pre_InpIdeal m →
    θ_run (Cert.InpIdeal.defs (F := Ideal)) (onTc (τ := Cert.InpIdeal.τ) (Cert.InpIdeal.main (F := Ideal))) ⟨m, fun _ => 0, g⟩ (fun r => (∀ c : Dev Cert.InpIdeal.nD,
      r.2.mem ((c.tc : Thread Cert.InpIdeal.nD Cert.InpIdeal.τ).loc Cert.InpIdeal.main_arg0) = m ((c.tc : Thread Cert.InpIdeal.nD Cert.InpIdeal.τ).loc Cert.InpIdeal.main_arg0)
      ∧ r.2.mem ((c.tc : Thread Cert.InpIdeal.nD Cert.InpIdeal.τ).loc Cert.InpIdeal.main_arg1) = m ((c.tc : Thread Cert.InpIdeal.nD Cert.InpIdeal.τ).loc Cert.InpIdeal.main_arg1)
      ∧ r.2.mem ((c.tc : Thread Cert.InpIdeal.nD Cert.InpIdeal.τ).loc Cert.InpIdeal.main_arg2) = m ((c.tc : Thread Cert.InpIdeal.nD Cert.InpIdeal.τ).loc Cert.InpIdeal.main_arg2)
      ∧ r.2.mem ((c.tc : Thread Cert.InpIdeal.nD Cert.InpIdeal.τ).loc Cert.InpIdeal.main_arg3) = m ((c.tc : Thread Cert.InpIdeal.nD Cert.InpIdeal.τ).loc Cert.InpIdeal.main_arg3)
      ∧ r.2.mem ((c.tc : Thread Cert.InpIdeal.nD Cert.InpIdeal.τ).loc Cert.InpIdeal.main_arg4) = m ((c.tc : Thread Cert.InpIdeal.nD Cert.InpIdeal.τ).loc Cert.InpIdeal.main_arg4)
      ∧ r.2.mem ((c.tc : Thread Cert.InpIdeal.nD Cert.InpIdeal.τ).loc Cert.InpIdeal.main_arg5) = m ((c.tc : Thread Cert.InpIdeal.nD Cert.InpIdeal.τ).loc Cert.InpIdeal.main_arg5)
      ∧ r.2.mem ((c.tc : Thread Cert.InpIdeal.nD Cert.InpIdeal.τ).loc Cert.InpIdeal.main_arg6) = m ((c.tc : Thread Cert.InpIdeal.nD Cert.InpIdeal.τ).loc Cert.InpIdeal.main_arg6)
      ∧ r.2.mem ((c.tc : Thread Cert.InpIdeal.nD Cert.InpIdeal.τ).loc Cert.InpIdeal.main_arg7) = m ((c.tc : Thread Cert.InpIdeal.nD Cert.InpIdeal.τ).loc Cert.InpIdeal.main_arg7))
      ∧ r.2.sem = fun _ => 0)

def quiescent_InpRefIdeal [hInpRefIdeal : Cert.InpRefIdeal.Facts] : Prop :=
  ∀ (m : (ℓ : Loc Cert.InpRefIdeal.nD Cert.InpRefIdeal.τ Cert.InpRefIdeal.sig) → Buf (Elt Ideal) ℓ) (g : Dev Cert.InpRefIdeal.nD → PrngReg), Pre_InpRefIdeal m →
    θ_run (Cert.InpRefIdeal.defs (F := Ideal)) (onTc (τ := Cert.InpRefIdeal.τ) (Cert.InpRefIdeal.main (F := Ideal))) ⟨m, fun _ => 0, g⟩ (fun r => (∀ c : Dev Cert.InpRefIdeal.nD,
      r.2.mem ((c.tc : Thread Cert.InpRefIdeal.nD Cert.InpRefIdeal.τ).loc Cert.InpRefIdeal.main_arg0) = m ((c.tc : Thread Cert.InpRefIdeal.nD Cert.InpRefIdeal.τ).loc Cert.InpRefIdeal.main_arg0)
      ∧ r.2.mem ((c.tc : Thread Cert.InpRefIdeal.nD Cert.InpRefIdeal.τ).loc Cert.InpRefIdeal.main_arg1) = m ((c.tc : Thread Cert.InpRefIdeal.nD Cert.InpRefIdeal.τ).loc Cert.InpRefIdeal.main_arg1)
      ∧ r.2.mem ((c.tc : Thread Cert.InpRefIdeal.nD Cert.InpRefIdeal.τ).loc Cert.InpRefIdeal.main_arg2) = m ((c.tc : Thread Cert.InpRefIdeal.nD Cert.InpRefIdeal.τ).loc Cert.InpRefIdeal.main_arg2)
      ∧ r.2.mem ((c.tc : Thread Cert.InpRefIdeal.nD Cert.InpRefIdeal.τ).loc Cert.InpRefIdeal.main_arg3) = m ((c.tc : Thread Cert.InpRefIdeal.nD Cert.InpRefIdeal.τ).loc Cert.InpRefIdeal.main_arg3)
      ∧ r.2.mem ((c.tc : Thread Cert.InpRefIdeal.nD Cert.InpRefIdeal.τ).loc Cert.InpRefIdeal.main_arg4) = m ((c.tc : Thread Cert.InpRefIdeal.nD Cert.InpRefIdeal.τ).loc Cert.InpRefIdeal.main_arg4)
      ∧ r.2.mem ((c.tc : Thread Cert.InpRefIdeal.nD Cert.InpRefIdeal.τ).loc Cert.InpRefIdeal.main_arg5) = m ((c.tc : Thread Cert.InpRefIdeal.nD Cert.InpRefIdeal.τ).loc Cert.InpRefIdeal.main_arg5)
      ∧ r.2.mem ((c.tc : Thread Cert.InpRefIdeal.nD Cert.InpRefIdeal.τ).loc Cert.InpRefIdeal.main_arg6) = m ((c.tc : Thread Cert.InpRefIdeal.nD Cert.InpRefIdeal.τ).loc Cert.InpRefIdeal.main_arg6)
      ∧ r.2.mem ((c.tc : Thread Cert.InpRefIdeal.nD Cert.InpRefIdeal.τ).loc Cert.InpRefIdeal.main_arg7) = m ((c.tc : Thread Cert.InpRefIdeal.nD Cert.InpRefIdeal.τ).loc Cert.InpRefIdeal.main_arg7))
      ∧ r.2.sem = fun _ => 0)

def preserves_Att_AttIdeal : Prop :=
  True

def algebraic_AttIdeal_AttRefIdeal_pre_finite_scores [hAttIdeal : Cert.AttIdeal.Facts] [hAttRefIdeal : Cert.AttRefIdeal.Facts] [hPre_finite_scores : Cert.Pre_finite_scores.Facts] : Prop :=
  ∀ (m : (ℓ : Loc Cert.AttIdeal.nD Cert.AttIdeal.τ Cert.AttIdeal.sig) → Buf (Elt Ideal) ℓ) (g : Dev Cert.AttIdeal.nD → PrngReg)
    (m' : (ℓ : Loc Cert.AttRefIdeal.nD Cert.AttRefIdeal.τ Cert.AttRefIdeal.sig) → Buf (Elt Ideal) ℓ) (g' : Dev Cert.AttRefIdeal.nD → PrngReg), Pre_AttIdeal_finite_scores m →
    (∀ c : Dev Cert.AttIdeal.nD,
      m' ((c.tc : Thread Cert.AttRefIdeal.nD Cert.AttRefIdeal.τ).loc Cert.AttRefIdeal.main_arg0) = m ((c.tc : Thread Cert.AttIdeal.nD Cert.AttIdeal.τ).loc Cert.AttIdeal.main_arg0)
      ∧ m' ((c.tc : Thread Cert.AttRefIdeal.nD Cert.AttRefIdeal.τ).loc Cert.AttRefIdeal.main_arg1) = m ((c.tc : Thread Cert.AttIdeal.nD Cert.AttIdeal.τ).loc Cert.AttIdeal.main_arg1)
      ∧ m' ((c.tc : Thread Cert.AttRefIdeal.nD Cert.AttRefIdeal.τ).loc Cert.AttRefIdeal.main_arg2) = m ((c.tc : Thread Cert.AttIdeal.nD Cert.AttIdeal.τ).loc Cert.AttIdeal.main_arg2)) →
    ∃ (v0 : (c : Dev Cert.AttIdeal.nD) → Buf (Elt Ideal) ((c.tc : Thread Cert.AttIdeal.nD Cert.AttIdeal.τ).loc Cert.AttIdeal.main_v0)),
      θ_run (Cert.AttIdeal.defs (F := Ideal)) (onTc (τ := Cert.AttIdeal.τ) (Cert.AttIdeal.main (F := Ideal))) ⟨m, fun _ => 0, g⟩ (fun r => ∀ c : Dev Cert.AttIdeal.nD,
          r.2.mem ((c.tc : Thread Cert.AttIdeal.nD Cert.AttIdeal.τ).loc Cert.AttIdeal.main_v0) = v0 c
          ∧ r.2.mem ((c.tc : Thread Cert.AttIdeal.nD Cert.AttIdeal.τ).loc Cert.AttIdeal.main_arg0) = m ((c.tc : Thread Cert.AttIdeal.nD Cert.AttIdeal.τ).loc Cert.AttIdeal.main_arg0)
          ∧ r.2.mem ((c.tc : Thread Cert.AttIdeal.nD Cert.AttIdeal.τ).loc Cert.AttIdeal.main_arg1) = m ((c.tc : Thread Cert.AttIdeal.nD Cert.AttIdeal.τ).loc Cert.AttIdeal.main_arg1)
          ∧ r.2.mem ((c.tc : Thread Cert.AttIdeal.nD Cert.AttIdeal.τ).loc Cert.AttIdeal.main_arg2) = m ((c.tc : Thread Cert.AttIdeal.nD Cert.AttIdeal.τ).loc Cert.AttIdeal.main_arg2))
      ∧ θ_run (Cert.AttRefIdeal.defs (F := Ideal)) (onTc (τ := Cert.AttRefIdeal.τ) (Cert.AttRefIdeal.main (F := Ideal))) ⟨m', fun _ => 0, g'⟩ (fun r => ∀ c : Dev Cert.AttRefIdeal.nD,
          r.2.mem ((c.tc : Thread Cert.AttRefIdeal.nD Cert.AttRefIdeal.τ).loc Cert.AttRefIdeal.main_v33) = v0 c
          ∧ r.2.mem ((c.tc : Thread Cert.AttRefIdeal.nD Cert.AttRefIdeal.τ).loc Cert.AttRefIdeal.main_arg0) = m' ((c.tc : Thread Cert.AttRefIdeal.nD Cert.AttRefIdeal.τ).loc Cert.AttRefIdeal.main_arg0)
          ∧ r.2.mem ((c.tc : Thread Cert.AttRefIdeal.nD Cert.AttRefIdeal.τ).loc Cert.AttRefIdeal.main_arg1) = m' ((c.tc : Thread Cert.AttRefIdeal.nD Cert.AttRefIdeal.τ).loc Cert.AttRefIdeal.main_arg1)
          ∧ r.2.mem ((c.tc : Thread Cert.AttRefIdeal.nD Cert.AttRefIdeal.τ).loc Cert.AttRefIdeal.main_arg2) = m' ((c.tc : Thread Cert.AttRefIdeal.nD Cert.AttRefIdeal.τ).loc Cert.AttRefIdeal.main_arg2))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)
      ∧ m' ((c.tc : Thread Cert.FfnRefIdeal.nD Cert.FfnRefIdeal.τ).loc Cert.FfnRefIdeal.main_arg7) = m ((c.tc : Thread Cert.FfnIdeal.nD Cert.FfnIdeal.τ).loc Cert.FfnIdeal.main_arg7)
      ∧ m' ((c.tc : Thread Cert.FfnRefIdeal.nD Cert.FfnRefIdeal.τ).loc Cert.FfnRefIdeal.main_arg8) = m ((c.tc : Thread Cert.FfnIdeal.nD Cert.FfnIdeal.τ).loc Cert.FfnIdeal.main_arg8)) →
    ∃ (v0 : (c : Dev Cert.FfnIdeal.nD) → Buf (Elt Ideal) ((c.tc : Thread Cert.FfnIdeal.nD Cert.FfnIdeal.τ).loc Cert.FfnIdeal.main_v0)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v0) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
          ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
          ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v48) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6)
          ∧ r.2.mem ((c.tc : Thread Cert.FfnRefIdeal.nD Cert.FfnRefIdeal.τ).loc Cert.FfnRefIdeal.main_arg7) = m' ((c.tc : Thread Cert.FfnRefIdeal.nD Cert.FfnRefIdeal.τ).loc Cert.FfnRefIdeal.main_arg7)
          ∧ r.2.mem ((c.tc : Thread Cert.FfnRefIdeal.nD Cert.FfnRefIdeal.τ).loc Cert.FfnRefIdeal.main_arg8) = m' ((c.tc : Thread Cert.FfnRefIdeal.nD Cert.FfnRefIdeal.τ).loc Cert.FfnRefIdeal.main_arg8))

def preserves_Experts_ExpertsIdeal : Prop :=
  True

def algebraic_ExpertsIdeal_ExpertsRefIdeal [hExpertsIdeal : Cert.ExpertsIdeal.Facts] [hExpertsRefIdeal : Cert.ExpertsRefIdeal.Facts] [hPre_tiles_name_experts : Cert.Pre_tiles_name_experts.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsRefIdeal.nD Cert.ExpertsRefIdeal.τ Cert.ExpertsRefIdeal.sig) → Buf (Elt Ideal) ℓ) (g' : Dev Cert.ExpertsRefIdeal.nD → PrngReg), Pre_ExpertsIdeal m →
    (∀ c : Dev Cert.ExpertsIdeal.nD,
      m' ((c.tc : Thread Cert.ExpertsRefIdeal.nD Cert.ExpertsRefIdeal.τ).loc Cert.ExpertsRefIdeal.main_arg0) = m ((c.tc : Thread Cert.ExpertsIdeal.nD Cert.ExpertsIdeal.τ).loc Cert.ExpertsIdeal.main_arg0)
      ∧ m' ((c.tc : Thread Cert.ExpertsRefIdeal.nD Cert.ExpertsRefIdeal.τ).loc Cert.ExpertsRefIdeal.main_arg1) = m ((c.tc : Thread Cert.ExpertsIdeal.nD Cert.ExpertsIdeal.τ).loc Cert.ExpertsIdeal.main_arg1)
      ∧ m' ((c.tc : Thread Cert.ExpertsRefIdeal.nD Cert.ExpertsRefIdeal.τ).loc Cert.ExpertsRefIdeal.main_arg2) = m ((c.tc : Thread Cert.ExpertsIdeal.nD Cert.ExpertsIdeal.τ).loc Cert.ExpertsIdeal.main_arg2)
      ∧ m' ((c.tc : Thread Cert.ExpertsRefIdeal.nD Cert.ExpertsRefIdeal.τ).loc Cert.ExpertsRefIdeal.main_arg3) = m ((c.tc : Thread Cert.ExpertsIdeal.nD Cert.ExpertsIdeal.τ).loc Cert.ExpertsIdeal.main_arg3)
      ∧ m' ((c.tc : Thread Cert.ExpertsRefIdeal.nD Cert.ExpertsRefIdeal.τ).loc Cert.ExpertsRefIdeal.main_arg4) = m ((c.tc : Thread Cert.ExpertsIdeal.nD Cert.ExpertsIdeal.τ).loc Cert.ExpertsIdeal.main_arg4)) →
    ∃ (v0 : (c : Dev Cert.ExpertsIdeal.nD) → Buf (Elt Ideal) ((c.tc : Thread Cert.ExpertsIdeal.nD Cert.ExpertsIdeal.τ).loc Cert.ExpertsIdeal.main_v0)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v0) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4))
      ∧ θ_run (Cert.ExpertsRefIdeal.defs (F := Ideal)) (onTc (τ := Cert.ExpertsRefIdeal.τ) (Cert.ExpertsRefIdeal.main (F := Ideal))) ⟨m', fun _ => 0, g'⟩ (fun r => ∀ c : Dev Cert.ExpertsRefIdeal.nD,
          r.2.mem ((c.tc : Thread Cert.ExpertsRefIdeal.nD Cert.ExpertsRefIdeal.τ).loc Cert.ExpertsRefIdeal.main_v138) = v0 c
          ∧ r.2.mem ((c.tc : Thread Cert.ExpertsRefIdeal.nD Cert.ExpertsRefIdeal.τ).loc Cert.ExpertsRefIdeal.main_arg0) = m' ((c.tc : Thread Cert.ExpertsRefIdeal.nD Cert.ExpertsRefIdeal.τ).loc Cert.ExpertsRefIdeal.main_arg0)
          ∧ r.2.mem ((c.tc : Thread Cert.ExpertsRefIdeal.nD Cert.ExpertsRefIdeal.τ).loc Cert.ExpertsRefIdeal.main_arg1) = m' ((c.tc : Thread Cert.ExpertsRefIdeal.nD Cert.ExpertsRefIdeal.τ).loc Cert.ExpertsRefIdeal.main_arg1)
          ∧ r.2.mem ((c.tc : Thread Cert.ExpertsRefIdeal.nD Cert.ExpertsRefIdeal.τ).loc Cert.ExpertsRefIdeal.main_arg2) = m' ((c.tc : Thread Cert.ExpertsRefIdeal.nD Cert.ExpertsRefIdeal.τ).loc Cert.ExpertsRefIdeal.main_arg2)
          ∧ r.2.mem ((c.tc : Thread Cert.ExpertsRefIdeal.nD Cert.ExpertsRefIdeal.τ).loc Cert.ExpertsRefIdeal.main_arg3) = m' ((c.tc : Thread Cert.ExpertsRefIdeal.nD Cert.ExpertsRefIdeal.τ).loc Cert.ExpertsRefIdeal.main_arg3)
          ∧ r.2.mem ((c.tc : Thread Cert.ExpertsRefIdeal.nD Cert.ExpertsRefIdeal.τ).loc Cert.ExpertsRefIdeal.main_arg4) = m' ((c.tc : Thread Cert.ExpertsRefIdeal.nD Cert.ExpertsRefIdeal.τ).loc Cert.ExpertsRefIdeal.main_arg4))

def preserves_Inp_InpIdeal : Prop :=
  True

def algebraic_InpIdeal_InpRefIdeal [hInpIdeal : Cert.InpIdeal.Facts] [hInpRefIdeal : Cert.InpRefIdeal.Facts] : Prop :=
  ∀ (m : (ℓ : Loc Cert.InpIdeal.nD Cert.InpIdeal.τ Cert.InpIdeal.sig) → Buf (Elt Ideal) ℓ) (g : Dev Cert.InpIdeal.nD → PrngReg)
    (m' : (ℓ : Loc Cert.InpRefIdeal.nD Cert.InpRefIdeal.τ Cert.InpRefIdeal.sig) → Buf (Elt Ideal) ℓ) (g' : Dev Cert.InpRefIdeal.nD → PrngReg), Pre_InpIdeal m →
    (∀ c : Dev Cert.InpIdeal.nD,
      m' ((c.tc : Thread Cert.InpRefIdeal.nD Cert.InpRefIdeal.τ).loc Cert.InpRefIdeal.main_arg0) = m ((c.tc : Thread Cert.InpIdeal.nD Cert.InpIdeal.τ).loc Cert.InpIdeal.main_arg0)
      ∧ m' ((c.tc : Thread Cert.InpRefIdeal.nD Cert.InpRefIdeal.τ).loc Cert.InpRefIdeal.main_arg1) = m ((c.tc : Thread Cert.InpIdeal.nD Cert.InpIdeal.τ).loc Cert.InpIdeal.main_arg1)
      ∧ m' ((c.tc : Thread Cert.InpRefIdeal.nD Cert.InpRefIdeal.τ).loc Cert.InpRefIdeal.main_arg2) = m ((c.tc : Thread Cert.InpIdeal.nD Cert.InpIdeal.τ).loc Cert.InpIdeal.main_arg2)
      ∧ m' ((c.tc : Thread Cert.InpRefIdeal.nD Cert.InpRefIdeal.τ).loc Cert.InpRefIdeal.main_arg3) = m ((c.tc : Thread Cert.InpIdeal.nD Cert.InpIdeal.τ).loc Cert.InpIdeal.main_arg3)
      ∧ m' ((c.tc : Thread Cert.InpRefIdeal.nD Cert.InpRefIdeal.τ).loc Cert.InpRefIdeal.main_arg4) = m ((c.tc : Thread Cert.InpIdeal.nD Cert.InpIdeal.τ).loc Cert.InpIdeal.main_arg4)
      ∧ m' ((c.tc : Thread Cert.InpRefIdeal.nD Cert.InpRefIdeal.τ).loc Cert.InpRefIdeal.main_arg5) = m ((c.tc : Thread Cert.InpIdeal.nD Cert.InpIdeal.τ).loc Cert.InpIdeal.main_arg5)
      ∧ m' ((c.tc : Thread Cert.InpRefIdeal.nD Cert.InpRefIdeal.τ).loc Cert.InpRefIdeal.main_arg6) = m ((c.tc : Thread Cert.InpIdeal.nD Cert.InpIdeal.τ).loc Cert.InpIdeal.main_arg6)
      ∧ m' ((c.tc : Thread Cert.InpRefIdeal.nD Cert.InpRefIdeal.τ).loc Cert.InpRefIdeal.main_arg7) = m ((c.tc : Thread Cert.InpIdeal.nD Cert.InpIdeal.τ).loc Cert.InpIdeal.main_arg7)) →
    ∃ (v0 : (c : Dev Cert.InpIdeal.nD) → Buf (Elt Ideal) ((c.tc : Thread Cert.InpIdeal.nD Cert.InpIdeal.τ).loc Cert.InpIdeal.main_v0_0)) (v1 : (c : Dev Cert.InpIdeal.nD) → Buf (Elt Ideal) ((c.tc : Thread Cert.InpIdeal.nD Cert.InpIdeal.τ).loc Cert.InpIdeal.main_v0_1)) (v2 : (c : Dev Cert.InpIdeal.nD) → Buf (Elt Ideal) ((c.tc : Thread Cert.InpIdeal.nD Cert.InpIdeal.τ).loc Cert.InpIdeal.main_v0_4)),
      θ_run (Cert.InpIdeal.defs (F := Ideal)) (onTc (τ := Cert.InpIdeal.τ) (Cert.InpIdeal.main (F := Ideal))) ⟨m, fun _ => 0, g⟩ (fun r => ∀ c : Dev Cert.InpIdeal.nD,
          r.2.mem ((c.tc : Thread Cert.InpIdeal.nD Cert.InpIdeal.τ).loc Cert.InpIdeal.main_v0_0) = v0 c
          ∧ r.2.mem ((c.tc : Thread Cert.InpIdeal.nD Cert.InpIdeal.τ).loc Cert.InpIdeal.main_v0_1) = v1 c
          ∧ r.2.mem ((c.tc : Thread Cert.InpIdeal.nD Cert.InpIdeal.τ).loc Cert.InpIdeal.main_v0_4) = v2 c
          ∧ r.2.mem ((c.tc : Thread Cert.InpIdeal.nD Cert.InpIdeal.τ).loc Cert.InpIdeal.main_arg0) = m ((c.tc : Thread Cert.InpIdeal.nD Cert.InpIdeal.τ).loc Cert.InpIdeal.main_arg0)
          ∧ r.2.mem ((c.tc : Thread Cert.InpIdeal.nD Cert.InpIdeal.τ).loc Cert.InpIdeal.main_arg1) = m ((c.tc : Thread Cert.InpIdeal.nD Cert.InpIdeal.τ).loc Cert.InpIdeal.main_arg1)
          ∧ r.2.mem ((c.tc : Thread Cert.InpIdeal.nD Cert.InpIdeal.τ).loc Cert.InpIdeal.main_arg2) = m ((c.tc : Thread Cert.InpIdeal.nD Cert.InpIdeal.τ).loc Cert.InpIdeal.main_arg2)
          ∧ r.2.mem ((c.tc : Thread Cert.InpIdeal.nD Cert.InpIdeal.τ).loc Cert.InpIdeal.main_arg3) = m ((c.tc : Thread Cert.InpIdeal.nD Cert.InpIdeal.τ).loc Cert.InpIdeal.main_arg3)
          ∧ r.2.mem ((c.tc : Thread Cert.InpIdeal.nD Cert.InpIdeal.τ).loc Cert.InpIdeal.main_arg4) = m ((c.tc : Thread Cert.InpIdeal.nD Cert.InpIdeal.τ).loc Cert.InpIdeal.main_arg4)
          ∧ r.2.mem ((c.tc : Thread Cert.InpIdeal.nD Cert.InpIdeal.τ).loc Cert.InpIdeal.main_arg5) = m ((c.tc : Thread Cert.InpIdeal.nD Cert.InpIdeal.τ).loc Cert.InpIdeal.main_arg5)
          ∧ r.2.mem ((c.tc : Thread Cert.InpIdeal.nD Cert.InpIdeal.τ).loc Cert.InpIdeal.main_arg6) = m ((c.tc : Thread Cert.InpIdeal.nD Cert.InpIdeal.τ).loc Cert.InpIdeal.main_arg6)
          ∧ r.2.mem ((c.tc : Thread Cert.InpIdeal.nD Cert.InpIdeal.τ).loc Cert.InpIdeal.main_arg7) = m ((c.tc : Thread Cert.InpIdeal.nD Cert.InpIdeal.τ).loc Cert.InpIdeal.main_arg7))
      ∧ θ_run (Cert.InpRefIdeal.defs (F := Ideal)) (onTc (τ := Cert.InpRefIdeal.τ) (Cert.InpRefIdeal.main (F := Ideal))) ⟨m', fun _ => 0, g'⟩ (fun r => ∀ c : Dev Cert.InpRefIdeal.nD,
          r.2.mem ((c.tc : Thread Cert.InpRefIdeal.nD Cert.InpRefIdeal.τ).loc Cert.InpRefIdeal.main_v32) = v0 c
          ∧ r.2.mem ((c.tc : Thread Cert.InpRefIdeal.nD Cert.InpRefIdeal.τ).loc Cert.InpRefIdeal.main_v33) = v1 c
          ∧ r.2.mem ((c.tc : Thread Cert.InpRefIdeal.nD Cert.InpRefIdeal.τ).loc Cert.InpRefIdeal.main_v34) = v2 c
          ∧ r.2.mem ((c.tc : Thread Cert.InpRefIdeal.nD Cert.InpRefIdeal.τ).loc Cert.InpRefIdeal.main_arg0) = m' ((c.tc : Thread Cert.InpRefIdeal.nD Cert.InpRefIdeal.τ).loc Cert.InpRefIdeal.main_arg0)
          ∧ r.2.mem ((c.tc : Thread Cert.InpRefIdeal.nD Cert.InpRefIdeal.τ).loc Cert.InpRefIdeal.main_arg1) = m' ((c.tc : Thread Cert.InpRefIdeal.nD Cert.InpRefIdeal.τ).loc Cert.InpRefIdeal.main_arg1)
          ∧ r.2.mem ((c.tc : Thread Cert.InpRefIdeal.nD Cert.InpRefIdeal.τ).loc Cert.InpRefIdeal.main_arg2) = m' ((c.tc : Thread Cert.InpRefIdeal.nD Cert.InpRefIdeal.τ).loc Cert.InpRefIdeal.main_arg2)
          ∧ r.2.mem ((c.tc : Thread Cert.InpRefIdeal.nD Cert.InpRefIdeal.τ).loc Cert.InpRefIdeal.main_arg3) = m' ((c.tc : Thread Cert.InpRefIdeal.nD Cert.InpRefIdeal.τ).loc Cert.InpRefIdeal.main_arg3)
          ∧ r.2.mem ((c.tc : Thread Cert.InpRefIdeal.nD Cert.InpRefIdeal.τ).loc Cert.InpRefIdeal.main_arg4) = m' ((c.tc : Thread Cert.InpRefIdeal.nD Cert.InpRefIdeal.τ).loc Cert.InpRefIdeal.main_arg4)
          ∧ r.2.mem ((c.tc : Thread Cert.InpRefIdeal.nD Cert.InpRefIdeal.τ).loc Cert.InpRefIdeal.main_arg5) = m' ((c.tc : Thread Cert.InpRefIdeal.nD Cert.InpRefIdeal.τ).loc Cert.InpRefIdeal.main_arg5)
          ∧ r.2.mem ((c.tc : Thread Cert.InpRefIdeal.nD Cert.InpRefIdeal.τ).loc Cert.InpRefIdeal.main_arg6) = m' ((c.tc : Thread Cert.InpRefIdeal.nD Cert.InpRefIdeal.τ).loc Cert.InpRefIdeal.main_arg6)
          ∧ r.2.mem ((c.tc : Thread Cert.InpRefIdeal.nD Cert.InpRefIdeal.τ).loc Cert.InpRefIdeal.main_arg7) = m' ((c.tc : Thread Cert.InpRefIdeal.nD Cert.InpRefIdeal.τ).loc Cert.InpRefIdeal.main_arg7))

def Claim : Prop :=
  ∃ (hAtt : Cert.Att.Facts) (hAttIdeal : Cert.AttIdeal.Facts) (hAttRefIdeal : Cert.AttRefIdeal.Facts) (hFfn : Cert.Ffn.Facts) (hFfnIdeal : Cert.FfnIdeal.Facts) (hFfnRefIdeal : Cert.FfnRefIdeal.Facts) (hExperts : Cert.Experts.Facts) (hExpertsIdeal : Cert.ExpertsIdeal.Facts) (hExpertsRefIdeal : Cert.ExpertsRefIdeal.Facts) (hInp : Cert.Inp.Facts) (hInpIdeal : Cert.InpIdeal.Facts) (hInpRefIdeal : Cert.InpRefIdeal.Facts) (hPre_finite_scores : Cert.Pre_finite_scores.Facts) (hPre_tiles_name_experts : Cert.Pre_tiles_name_experts.Facts),
    quiescent_Att (hAtt := hAtt)
    ∧ quiescent_AttIdeal (hAttIdeal := hAttIdeal)
    ∧ quiescent_AttIdeal_pre_finite_scores (hAttIdeal := hAttIdeal) (hPre_finite_scores := hPre_finite_scores)
    ∧ quiescent_AttRefIdeal (hAttRefIdeal := hAttRefIdeal)
    ∧ quiescent_AttRefIdeal_pre_finite_scores (hAttRefIdeal := hAttRefIdeal) (hPre_finite_scores := hPre_finite_scores)
    ∧ quiescent_Ffn (hFfn := hFfn)
    ∧ quiescent_FfnIdeal (hFfnIdeal := hFfnIdeal)
    ∧ quiescent_FfnRefIdeal (hFfnRefIdeal := hFfnRefIdeal)
    ∧ quiescent_Experts (hExperts := hExperts) (hPre_tiles_name_experts := hPre_tiles_name_experts)
    ∧ quiescent_ExpertsIdeal (hExpertsIdeal := hExpertsIdeal) (hPre_tiles_name_experts := hPre_tiles_name_experts)
    ∧ quiescent_ExpertsRefIdeal (hExpertsRefIdeal := hExpertsRefIdeal)
    ∧ quiescent_ExpertsRefIdeal_pre_tiles_name_experts (hExpertsRefIdeal := hExpertsRefIdeal) (hPre_tiles_name_experts := hPre_tiles_name_experts)
    ∧ quiescent_Inp (hInp := hInp)
    ∧ quiescent_InpIdeal (hInpIdeal := hInpIdeal)
    ∧ quiescent_InpRefIdeal (hInpRefIdeal := hInpRefIdeal)
    ∧ preserves_Att_AttIdeal
    ∧ algebraic_AttIdeal_AttRefIdeal_pre_finite_scores (hAttIdeal := hAttIdeal) (hAttRefIdeal := hAttRefIdeal) (hPre_finite_scores := hPre_finite_scores)
    ∧ preserves_Ffn_FfnIdeal
    ∧ algebraic_FfnIdeal_FfnRefIdeal (hFfnIdeal := hFfnIdeal) (hFfnRefIdeal := hFfnRefIdeal)
    ∧ preserves_Experts_ExpertsIdeal
    ∧ algebraic_ExpertsIdeal_ExpertsRefIdeal (hExpertsIdeal := hExpertsIdeal) (hExpertsRefIdeal := hExpertsRefIdeal) (hPre_tiles_name_experts := hPre_tiles_name_experts)
    ∧ preserves_Inp_InpIdeal
    ∧ algebraic_InpIdeal_InpRefIdeal (hInpIdeal := hInpIdeal) (hInpRefIdeal := hInpRefIdeal)
-- ==== Pre_finite_scores.lean ====
abbrev S16x2048x512 : Shape := ⟨3, ![16, 2048, 512]⟩
abbrev S16x2048x256 : Shape := ⟨3, ![16, 2048, 256]⟩
abbrev S16x256x256 : Shape := ⟨3, ![16, 256, 256]⟩
abbrev S_ : Shape := ⟨0, ![]⟩
abbrev S16x2048x128 : Shape := ⟨3, ![16, 2048, 128]⟩
abbrev S16x256x128 : Shape := ⟨3, ![16, 256, 128]⟩

class Facts : Prop where
  bitsLt_bf16_f32 : FTy.bits .bf16 < FTy.bits .f32
  bcast_S_S16x2048x512 : S_.BroadcastsInDim S16x2048x512 (![] : Fin 0 → Fin S16x2048x512.rank)
  reducesTo_S16x2048x512_S_d0_1_2 : S16x2048x512.ReducesTo [0, 1, 2] S_
  h_S_ : 0 < S_.numel
  slices_S16x2048x256_S16x2048x128_0_0_0 : S16x2048x256.Slices ![0, 0, 0] S16x2048x128
  bcast_S_S16x2048x128 : S_.BroadcastsInDim S16x2048x128 (![] : Fin 0 → Fin S16x2048x128.rank)
  reducesTo_S16x2048x128_S_d0_1_2 : S16x2048x128.ReducesTo [0, 1, 2] S_
  slices_S16x256x256_S16x256x128_0_0_0 : S16x256x256.Slices ![0, 0, 0] S16x256x128
  bcast_S_S16x256x128 : S_.BroadcastsInDim S16x256x128 (![] : Fin 0 → Fin S16x256x128.rank)
  reducesTo_S16x256x128_S_d0_1_2 : S16x256x128.ReducesTo [0, 1, 2] S_

variable [Facts]

def fn_part1 {F : FTy → Type} [FloatOps F] (main_v11 : IVec S_ 1) (main_v17 : IVec S_ 1) : IVec S_ 1 :=
  let main_v18 : IVec S_ 1 := andi main_v11 main_v17
  main_v18

def fn {F : FTy → Type} [FloatOps F] (main_arg0 : FVec F S16x2048x512 .bf16) (main_arg1 : FVec F S16x2048x256 .bf16) (main_arg2 : FVec F S16x256x256 .bf16) : IVec S_ 1 :=
  let main_v0 : FVec F S16x2048x512 .f32 := (extf .f32 · bitsLt_bf16_f32) main_arg0
  let main_v1 : FVec F S16x2048x512 .f32 := Host.absf main_v0
  let main_cst : FVec F S_ .f32 := constant S_ .f32 0x7F800000#32
  let main_v2 : FVec F S16x2048x512 .f32 := broadcastInDim S16x2048x512 ![] bcast_S_S16x2048x512 main_cst
  let main_v3 : IVec S16x2048x512 1 := cmpf .olt main_v1 main_v2
  let main_c : IVec S_ 1 := constantI S_ 1 1#1
  let main_v4 : IVec S_ 1 := (fun x v => Host.reduce IntOp.andi x v reducesTo_S16x2048x512_S_d0_1_2 h_S_) main_v3 main_c
  let main_v5 : FVec F S16x2048x128 .bf16 := (extractStridedSlice S16x2048x128 ![0, 0, 0] · slices_S16x2048x256_S16x2048x128_0_0_0) main_arg1
  let main_v6 : FVec F S16x2048x128 .f32 := (extf .f32 · bitsLt_bf16_f32) main_v5
  let main_v7 : FVec F S16x2048x128 .f32 := Host.absf main_v6
  let main_cst_0 : FVec F S_ .f32 := constant S_ .f32 0x7F800000#32
  let main_v8 : FVec F S16x2048x128 .f32 := broadcastInDim S16x2048x128 ![] bcast_S_S16x2048x128 main_cst_0
  let main_v9 : IVec S16x2048x128 1 := cmpf .olt main_v7 main_v8
  let main_c_1 : IVec S_ 1 := constantI S_ 1 1#1
  let main_v10 : IVec S_ 1 := (fun x v => Host.reduce IntOp.andi x v reducesTo_S16x2048x128_S_d0_1_2 h_S_) main_v9 main_c_1
  let main_v11 : IVec S_ 1 := andi main_v4 main_v10
  let main_v12 : FVec F S16x256x128 .bf16 := (extractStridedSlice S16x256x128 ![0, 0, 0] · slices_S16x256x256_S16x256x128_0_0_0) main_arg2
  let main_v13 : FVec F S16x256x128 .f32 := (extf .f32 · bitsLt_bf16_f32) main_v12
  let main_v14 : FVec F S16x256x128 .f32 := Host.absf main_v13
  let main_cst_2 : FVec F S_ .f32 := constant S_ .f32 0x7F800000#32
  let main_v15 : FVec F S16x256x128 .f32 := broadcastInDim S16x256x128 ![] bcast_S_S16x256x128 main_cst_2
  let main_v16 : IVec S16x256x128 1 := cmpf .olt main_v14 main_v15
  let main_c_3 : IVec S_ 1 := constantI S_ 1 1#1
  let main_v17 : IVec S_ 1 := (fun x v => Host.reduce IntOp.andi x v reducesTo_S16x256x128_S_d0_1_2 h_S_) main_v16 main_c_3
  fn_part1 (F := F) main_v11 main_v17
-- ==== Pre_tiles_name_experts.lean ====
abbrev S136 : Shape := ⟨1, ![136]⟩
abbrev S1 : Shape := ⟨1, ![1]⟩
abbrev S69632x1024 : Shape := ⟨2, ![69632, 1024]⟩
abbrev S8x1024x5632 : Shape := ⟨3, ![8, 1024, 5632]⟩
abbrev S8x2816x1024 : Shape := ⟨3, ![8, 2816, 1024]⟩
abbrev S_ : Shape := ⟨0, ![]⟩

class Facts : Prop where
  bcast_S_S136 : S_.BroadcastsInDim S136 (![] : Fin 0 → Fin S136.rank)
  reducesTo_S136_S_d0 : S136.ReducesTo [0] S_
  h_S_ : 0 < S_.numel

variable [Facts]

def fn {F : FTy → Type} [FloatOps F] (main_arg0 : IVec S136 32) (main_arg1 : IVec S1 32) (main_arg2 : FVec F S69632x1024 .f32) (main_arg3 : FVec F S8x1024x5632 .bf16) (main_arg4 : FVec F S8x2816x1024 .bf16) : IVec S_ 1 :=
  let main_c : IVec S_ 32 := constantI S_ 32 0#32
  let main_v0 : IVec S136 32 := broadcastInDim S136 ![] bcast_S_S136 main_c
  let main_v1 : IVec S136 1 := cmpi .sge main_arg0 main_v0
  let main_c_0 : IVec S_ 32 := constantI S_ 32 8#32
  let main_v2 : IVec S136 32 := broadcastInDim S136 ![] bcast_S_S136 main_c_0
  let main_v3 : IVec S136 1 := cmpi .slt main_arg0 main_v2
  let main_v4 : IVec S136 1 := andi main_v1 main_v3
  let main_c_1 : IVec S_ 1 := constantI S_ 1 1#1
  let main_v5 : IVec S_ 1 := (fun x v => Host.reduce IntOp.andi x v reducesTo_S136_S_d0 h_S_) main_v4 main_c_1
  main_v5
-- ==== Att.lean ====
abbrev S16x2048x512 : Shape := ⟨3, ![16, 2048, 512]⟩
abbrev S16x2048x256 : Shape := ⟨3, ![16, 2048, 256]⟩
abbrev S16x256x256 : Shape := ⟨3, ![16, 256, 256]⟩
abbrev S1x256x512 : Shape := ⟨3, ![1, 256, 512]⟩
abbrev S1x2048x256 : Shape := ⟨3, ![1, 2048, 256]⟩
abbrev S1x256x256 : Shape := ⟨3, ![1, 256, 256]⟩
abbrev S256x512 : Shape := ⟨2, ![256, 512]⟩
abbrev S1x128 : Shape := ⟨2, ![1, 128]⟩
abbrev S2048x256 : Shape := ⟨2, ![2048, 256]⟩
abbrev S256x256 : Shape := ⟨2, ![256, 256]⟩
abbrev S256x128 : Shape := ⟨2, ![256, 128]⟩
abbrev S512x128 : Shape := ⟨2, ![512, 128]⟩
abbrev S2048x128 : Shape := ⟨2, ![2048, 128]⟩
abbrev S512x2048 : Shape := ⟨2, ![512, 2048]⟩
abbrev S512x256 : Shape := ⟨2, ![512, 256]⟩
abbrev S512 : Shape := ⟨1, ![512]⟩
abbrev S512x1 : Shape := ⟨2, ![512, 1]⟩

abbrev nBuf : Space → Nat
  | .hbm => 4
  | .vmem => 8
  | .smem => 0
  | _ => 0

abbrev bufTy : (tb : Table) → Fin (tcTables nBuf tb) → BufTy
  | .hbm, ⟨0, _⟩ => ⟨S16x2048x512, .bf16⟩
  | .hbm, ⟨1, _⟩ => ⟨S16x2048x256, .bf16⟩
  | .hbm, ⟨2, _⟩ => ⟨S16x256x256, .bf16⟩
  | .hbm, ⟨3, _⟩ => ⟨S16x2048x512, .bf16⟩
  | .local _ .vmem, ⟨0, _⟩ => ⟨S1x256x512, .bf16⟩
  | .local _ .vmem, ⟨1, _⟩ => ⟨S1x256x512, .bf16⟩
  | .local _ .vmem, ⟨2, _⟩ => ⟨S1x2048x256, .bf16⟩
  | .local _ .vmem, ⟨3, _⟩ => ⟨S1x2048x256, .bf16⟩
  | .local _ .vmem, ⟨4, _⟩ => ⟨S1x256x256, .bf16⟩
  | .local _ .vmem, ⟨5, _⟩ => ⟨S1x256x256, .bf16⟩
  | .local _ .vmem, ⟨6, _⟩ => ⟨S1x256x512, .bf16⟩
  | .local _ .vmem, ⟨7, _⟩ => ⟨S1x256x512, .bf16⟩
  | _, _ => ⟨S16x2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== AttRefIdeal.lean ====
abbrev S16x2048x512 : Shape := ⟨3, ![16, 2048, 512]⟩
abbrev S16x2048x256 : Shape := ⟨3, ![16, 2048, 256]⟩
abbrev S16x256x256 : Shape := ⟨3, ![16, 256, 256]⟩
abbrev S16x2048x4x2x64 : Shape := ⟨5, ![16, 2048, 4, 2, 64]⟩
abbrev S16x2048x2x4x64 : Shape := ⟨5, ![16, 2048, 2, 4, 64]⟩
abbrev S16x2048x128 : Shape := ⟨3, ![16, 2048, 128]⟩
abbrev S16x256x128 : Shape := ⟨3, ![16, 256, 128]⟩
abbrev S16x2304x128 : Shape := ⟨3, ![16, 2304, 128]⟩
abbrev S16x2304x2x64 : Shape := ⟨4, ![16, 2304, 2, 64]⟩
abbrev S16x2x2304x2048x4 : Shape := ⟨5, ![16, 2, 2304, 2048, 4]⟩
abbrev S16x2x4x2048x2304 : Shape := ⟨5, ![16, 2, 4, 2048, 2304]⟩
abbrev S_ : Shape := ⟨0, ![]⟩
abbrev S16x2x4x2048 : Shape := ⟨4, ![16, 2, 4, 2048]⟩
abbrev S16x2x4x2048x1 : Shape := ⟨5, ![16, 2, 4, 2048, 1]⟩
abbrev S16x2x64x4x2048 : Shape := ⟨5, ![16, 2, 64, 4, 2048]⟩

abbrev nBuf : Space → Nat
  | .hbm => 41
  | .vmem => 0
  | .smem => 0
  | _ => 0

abbrev bufTy : (tb : Table) → Fin (tcTables nBuf tb) → BufTy
  | .hbm, ⟨0, _⟩ => ⟨S16x2048x512, .bf16⟩
  | .hbm, ⟨1, _⟩ => ⟨S16x2048x256, .bf16⟩
  | .hbm, ⟨2, _⟩ => ⟨S16x256x256, .bf16⟩
  | .hbm, ⟨3, _⟩ => ⟨S16x2048x512, .f32⟩
  | .hbm, ⟨4, _⟩ => ⟨S16x2048x4x2x64, .f32⟩
  | .hbm, ⟨5, _⟩ => ⟨S16x2048x2x4x64, .f32⟩
  | .hbm, ⟨6, _⟩ => ⟨S16x2048x128, .bf16⟩
  | .hbm, ⟨7, _⟩ => ⟨S16x256x128, .bf16⟩
  | .hbm, ⟨8, _⟩ => ⟨S16x2304x128, .bf16⟩
  | .hbm, ⟨9, _⟩ => ⟨S16x2304x128, .f32⟩
  | .hbm, ⟨10, _⟩ => ⟨S16x2304x2x64, .f32⟩
  | .hbm, ⟨11, _⟩ => ⟨S16x2048x128, .bf16⟩
  | .hbm, ⟨12, _⟩ => ⟨S16x256x128, .bf16⟩
  | .hbm, ⟨13, _⟩ => ⟨S16x2304x128, .bf16⟩
  | .hbm, ⟨14, _⟩ => ⟨S16x2304x128, .f32⟩
  | .hbm, ⟨15, _⟩ => ⟨S16x2304x2x64, .f32⟩
  | .hbm, ⟨16, _⟩ => ⟨S16x2x2304x2048x4, .f32⟩
  | .hbm, ⟨17, _⟩ => ⟨S16x2x4x2048x2304, .f32⟩
  | .hbm, ⟨18, _⟩ => ⟨S_, .f32⟩
  | .hbm, ⟨19, _⟩ => ⟨S_, .f32⟩
  | .hbm, ⟨20, _⟩ => ⟨S16x2x4x2048x2304, .f32⟩
  | .hbm, ⟨21, _⟩ => ⟨S16x2x4x2048x2304, .f32⟩
  | .hbm, ⟨22, _⟩ => ⟨S_, .f32⟩
  | .hbm, ⟨23, _⟩ => ⟨S16x2x4x2048, .f32⟩
  | .hbm, ⟨24, _⟩ => ⟨S_, .f32⟩
  | .hbm, ⟨25, _⟩ => ⟨S16x2x4x2048, .f32⟩
  | .hbm, ⟨26, _⟩ => ⟨S16x2x4x2048, .f32⟩
  | .hbm, ⟨27, _⟩ => ⟨S16x2x4x2048x1, .f32⟩
  | .hbm, ⟨28, _⟩ => ⟨S16x2x4x2048x2304, .f32⟩
  | .hbm, ⟨29, _⟩ => ⟨S16x2x4x2048x2304, .f32⟩
  | .hbm, ⟨30, _⟩ => ⟨S16x2x4x2048x2304, .f32⟩
  | .hbm, ⟨31, _⟩ => ⟨S_, .f32⟩
  | .hbm, ⟨32, _⟩ => ⟨S16x2x4x2048, .f32⟩
  | .hbm, ⟨33, _⟩ => ⟨S16x2x4x2048x1, .f32⟩
  | .hbm, ⟨34, _⟩ => ⟨S16x2x4x2048x2304, .f32⟩
  | .hbm, ⟨35, _⟩ => ⟨S16x2x4x2048x2304, .f32⟩
  | .hbm, ⟨36, _⟩ => ⟨S16x2x64x4x2048, .f32⟩
  | .hbm, ⟨37, _⟩ => ⟨S16x2048x2x4x64, .f32⟩
  | .hbm, ⟨38, _⟩ => ⟨S16x2048x4x2x64, .f32⟩
  | .hbm, ⟨39, _⟩ => ⟨S16x2048x512, .f32⟩
  | .hbm, ⟨40, _⟩ => ⟨S16x2048x512, .bf16⟩
  | _, _ => ⟨S16x2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_cst : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_cst_0 : Ref sig .tc := ⟨.hbm, 22, rfl⟩
abbrev main_v18 : Ref sig .tc := ⟨.hbm, 23, rfl⟩
abbrev main_cst_1 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_cst_2 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩

abbrev nD : Nat := 1
abbrev τ : Topo := Topo.v7x

variable {F : FTy → Type} [FloatOps F]
-- ==== Ffn.lean ====
abbrev S32768x256 : Shape := ⟨2, ![32768, 256]⟩
abbrev S32768x512 : Shape := ⟨2, ![32768, 512]⟩
abbrev S1024x1024 : Shape := ⟨2, ![1024, 1024]⟩
abbrev S32768x1024 : Shape := ⟨2, ![32768, 1024]⟩
abbrev S144x1x1024 : Shape := ⟨3, ![144, 1, 1024]⟩
abbrev S1x1024 : Shape := ⟨2, ![1, 1024]⟩
abbrev S1024x5632 : Shape := ⟨2, ![1024, 5632]⟩
abbrev S2816x1024 : Shape := ⟨2, ![2816, 1024]⟩
abbrev S512x256 : Shape := ⟨2, ![512, 256]⟩
abbrev S512x512 : Shape := ⟨2, ![512, 512]⟩
abbrev S512x1024 : Shape := ⟨2, ![512, 1024]⟩
abbrev S1x1x1024 : Shape := ⟨3, ![1, 1, 1024]⟩
abbrev S1024x1408 : Shape := ⟨2, ![1024, 1408]⟩
abbrev S1408x1024 : Shape := ⟨2, ![1408, 1024]⟩
abbrev S256x1024 : Shape := ⟨2, ![256, 1024]⟩
abbrev S512 : Shape := ⟨1, ![512]⟩
abbrev S512x1 : Shape := ⟨2, ![512, 1]⟩
abbrev S512x1408 : Shape := ⟨2, ![512, 1408]⟩

abbrev nBuf : Space → Nat
  | .hbm => 10
  | .vmem => 29
  | .smem => 0
  | _ => 0

abbrev bufTy : (tb : Table) → Fin (tcTables nBuf tb) → BufTy
  | .hbm, ⟨0, _⟩ => ⟨S32768x256, .bf16⟩
  | .hbm, ⟨1, _⟩ => ⟨S32768x256, .bf16⟩
  | .hbm, ⟨2, _⟩ => ⟨S32768x512, .bf16⟩
  | .hbm, ⟨3, _⟩ => ⟨S1024x1024, .bf16⟩
  | .hbm, ⟨4, _⟩ => ⟨S32768x1024, .f32⟩
  | .hbm, ⟨5, _⟩ => ⟨S144x1x1024, .f32⟩
  | .hbm, ⟨6, _⟩ => ⟨S1x1024, .f32⟩
  | .hbm, ⟨7, _⟩ => ⟨S1024x5632, .bf16⟩
  | .hbm, ⟨8, _⟩ => ⟨S2816x1024, .bf16⟩
  | .hbm, ⟨9, _⟩ => ⟨S32768x1024, .f32⟩
  | .local _ .vmem, ⟨0, _⟩ => ⟨S512x256, .bf16⟩
  | .local _ .vmem, ⟨1, _⟩ => ⟨S512x256, .bf16⟩
  | .local _ .vmem, ⟨2, _⟩ => ⟨S512x256, .bf16⟩
  | .local _ .vmem, ⟨3, _⟩ => ⟨S512x256, .bf16⟩
  | .local _ .vmem, ⟨4, _⟩ => ⟨S512x512, .bf16⟩
  | .local _ .vmem, ⟨5, _⟩ => ⟨S512x512, .bf16⟩
  | .local _ .vmem, ⟨6, _⟩ => ⟨S1024x1024, .bf16⟩
  | .local _ .vmem, ⟨7, _⟩ => ⟨S512x1024, .f32⟩
  | .local _ .vmem, ⟨8, _⟩ => ⟨S512x1024, .f32⟩
  | .local _ .vmem, ⟨9, _⟩ => ⟨S1x1x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1x1024, .f32⟩
  | .local _ .vmem, ⟨13, _⟩ => ⟨S1x1x1024, .f32⟩
  | .local _ .vmem, ⟨14, _⟩ => ⟨S1x1x1024, .f32⟩
  | .local _ .vmem, ⟨15, _⟩ => ⟨S1x1x1024, .f32⟩
  | .local _ .vmem, ⟨16, _⟩ => ⟨S1x1x1024, .f32⟩
  | .local _ .vmem, ⟨17, _⟩ => ⟨S1x1024, .f32⟩
  | .local _ .vmem, ⟨18, _⟩ => ⟨S1024x1408, .bf16⟩
  | .local _ .vmem, ⟨19, _⟩ => ⟨S1024x1408, .bf16⟩
  | .local _ .vmem, ⟨20, _⟩ => ⟨S1024x1408, .bf16⟩
  | .local _ .vmem, ⟨21, _⟩ => ⟨S1024x1408, .bf16⟩
  | .local _ .vmem, ⟨22, _⟩ => ⟨S1408x1024, .bf16⟩
  | .local _ .vmem, ⟨23, _⟩ => ⟨S1408x1024, .bf16⟩
  | .local _ .vmem, ⟨24, _⟩ => ⟨S512x1024, .f32⟩
  | .local _ .vmem, ⟨25, _⟩ => ⟨S512x1024, .f32⟩
  | .local _ .vmem, ⟨26, _⟩ => ⟨S512x1024, .f32⟩
  | .local _ .vmem, ⟨27, _⟩ => ⟨S512x1024, .bf16⟩
  | .local _ .vmem, ⟨28, _⟩ => ⟨S512x1024, .f32⟩
  | _, _ => ⟨S32768x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_scratch0 : Ref sig .tc := ⟨.vmem, 26, rfl⟩
abbrev cc0_scratch1 : Ref sig .tc := ⟨.vmem, 27, rfl⟩
abbrev cc0_scratch2 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25

abbrev nD : Nat := 1
abbrev τ : Topo := Topo.v7x

variable {F : FTy → Type} [FloatOps F]

abbrev grid0 : Pipeline.Grid := ⟨2, ![64, 2], ![false, false]⟩

def k0_cond2 (i : grid0.Coords) : BitVec 1 :=
  let arg1 : BitVec 32 := BitVec.ofNat 32 (i 1).val
  let c1_i32 : BitVec 32 := 1#32
  let v23 : BitVec 1 := Scalar.cmpi .eq arg1 c1_i32
  let v24 : BitVec 32 := Scalar.extui v23
  let c0_i32_16 : BitVec 32 := 0#32
  let v25 : BitVec 1 := Scalar.cmpi .ne v24 c0_i32_16
  v25

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c6_i32 : BitVec 32 := 6#32
  let v17 : BitVec 32 := Scalar.muli v16 c6_i32
  let c2_i32 : BitVec 32 := 2#32
  let v18 : BitVec 32 := Scalar.addi v17 c2_i32
  let c0_i32_4 : BitVec 32 := 0#32
  let c0_i32_5 : BitVec 32 := 0#32
  let c0_i32_6 : BitVec 32 := 0#32
  ![v18.toNat, c0_i32_4.toNat, c0_i32_5.toNat]

def cc0_transform_6 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c6_i32 : BitVec 32 := 6#32
  let v17 : BitVec 32 := Scalar.muli v16 c6_i32
  let c3_i32 : BitVec 32 := 3#32
  let v18 : BitVec 32 := Scalar.addi v17 c3_i32
  let c0_i32_4 : BitVec 32 := 0#32
  let c0_i32_5 : BitVec 32 := 0#32
  let c0_i32_6 : BitVec 32 := 0#32
  ![v18.toNat, c0_i32_4.toNat, c0_i32_5.toNat]

def cc0_transform_7 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c6_i32 : BitVec 32 := 6#32
  let v17 : BitVec 32 := Scalar.muli v16 c6_i32
  let c4_i32_4 : BitVec 32 := 4#32
  let v18 : BitVec 32 := Scalar.addi v17 c4_i32_4
  let c0_i32_5 : BitVec 32 := 0#32
  let c0_i32_6 : BitVec 32 := 0#32
  let c0_i32_7 : BitVec 32 := 0#32
  ![v18.toNat, c0_i32_5.toNat, c0_i32_6.toNat]

def cc0_transform_8 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c6_i32 : BitVec 32 := 6#32
  let v17 : BitVec 32 := Scalar.muli v16 c6_i32
  let c5_i32 : BitVec 32 := 5#32
  let v18 : BitVec 32 := Scalar.addi v17 c5_i32
  let c0_i32_4 : BitVec 32 := 0#32
  let c0_i32_5 : BitVec 32 := 0#32
  let c0_i32_6 : BitVec 32 := 0#32
  ![v18.toNat, c0_i32_4.toNat, c0_i32_5.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_11 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  let c0_i32_0 : BitVec 32 := 0#32
  ![c0_i32.toNat, v0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1024x1408 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S1024x1408 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]

abbrev stage0_12 : Fin 2 → Memref sig .tc .vmem S1408x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![false, true]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]
-- ==== FfnRefIdeal.lean ====
abbrev S32768x256 : Shape := ⟨2, ![32768, 256]⟩
abbrev S32768x512 : Shape := ⟨2, ![32768, 512]⟩
abbrev S1024x1024 : Shape := ⟨2, ![1024, 1024]⟩
abbrev S32768x1024 : Shape := ⟨2, ![32768, 1024]⟩
abbrev S144x1x1024 : Shape := ⟨3, ![144, 1, 1024]⟩
abbrev S1x1024 : Shape := ⟨2, ![1, 1024]⟩
abbrev S1024x5632 : Shape := ⟨2, ![1024, 5632]⟩
abbrev S2816x1024 : Shape := ⟨2, ![2816, 1024]⟩
abbrev S16x2048x1024 : Shape := ⟨3, ![16, 2048, 1024]⟩
abbrev S24x1x6144 : Shape := ⟨3, ![24, 1, 6144]⟩
abbrev S16x1x6144 : Shape := ⟨3, ![16, 1, 6144]⟩
abbrev S16x1x1024 : Shape := ⟨3, ![16, 1, 1024]⟩
abbrev S1024 : Shape := ⟨1, ![1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x2048x5632 : Shape := ⟨3, ![16, 2048, 5632]⟩
abbrev S16x2048x2816 : Shape := ⟨3, ![16, 2048, 2816]⟩

abbrev nBuf : Space → Nat
  | .hbm => 70
  | .vmem => 0
  | .smem => 0
  | _ => 0

abbrev bufTy : (tb : Table) → Fin (tcTables nBuf tb) → BufTy
  | .hbm, ⟨0, _⟩ => ⟨S32768x256, .bf16⟩
  | .hbm, ⟨1, _⟩ => ⟨S32768x256, .bf16⟩
  | .hbm, ⟨2, _⟩ => ⟨S32768x512, .bf16⟩
  | .hbm, ⟨3, _⟩ => ⟨S1024x1024, .bf16⟩
  | .hbm, ⟨4, _⟩ => ⟨S32768x1024, .f32⟩
  | .hbm, ⟨5, _⟩ => ⟨S144x1x1024, .f32⟩
  | .hbm, ⟨6, _⟩ => ⟨S1x1024, .f32⟩
  | .hbm, ⟨7, _⟩ => ⟨S1024x5632, .bf16⟩
  | .hbm, ⟨8, _⟩ => ⟨S2816x1024, .bf16⟩
  | .hbm, ⟨9, _⟩ => ⟨S16x2048x1024, .f32⟩
  | .hbm, ⟨10, _⟩ => ⟨S24x1x6144, .f32⟩
  | .hbm, ⟨11, _⟩ => ⟨S16x1x6144, .f32⟩
  | .hbm, ⟨12, _⟩ => ⟨S16x1x1024, .f32⟩
  | .hbm, ⟨13, _⟩ => ⟨S16x1x1024, .f32⟩
  | .hbm, ⟨14, _⟩ => ⟨S16x1x1024, .f32⟩
  | .hbm, ⟨15, _⟩ => ⟨S16x1x1024, .f32⟩
  | .hbm, ⟨16, _⟩ => ⟨S16x1x1024, .f32⟩
  | .hbm, ⟨17, _⟩ => ⟨S16x1x1024, .f32⟩
  | .hbm, ⟨18, _⟩ => ⟨S32768x1024, .bf16⟩
  | .hbm, ⟨19, _⟩ => ⟨S32768x1024, .f32⟩
  | .hbm, ⟨20, _⟩ => ⟨S16x2048x1024, .f32⟩
  | .hbm, ⟨21, _⟩ => ⟨S1024x1024, .f32⟩
  | .hbm, ⟨22, _⟩ => ⟨S16x2048x1024, .f32⟩
  | .hbm, ⟨23, _⟩ => ⟨S16x2048x1024, .f32⟩
  | .hbm, ⟨24, _⟩ => ⟨S16x2048x1024, .f32⟩
  | .hbm, ⟨25, _⟩ => ⟨S16x2048x1024, .f32⟩
  | .hbm, ⟨26, _⟩ => ⟨S1024, .f32⟩
  | .hbm, ⟨27, _⟩ => ⟨S16x2048x1024, .f32⟩
  | .hbm, ⟨28, _⟩ => ⟨S_, .f32⟩
  | .hbm, ⟨29, _⟩ => ⟨S16x2048, .f32⟩
  | .hbm, ⟨30, _⟩ => ⟨S16x2048x1, .f32⟩
  | .hbm, ⟨31, _⟩ => ⟨S_, .f32⟩
  | .hbm, ⟨32, _⟩ => ⟨S16x2048x1, .f32⟩
  | .hbm, ⟨33, _⟩ => ⟨S16x2048x1, .f32⟩
  | .hbm, ⟨34, _⟩ => ⟨S_, .f32⟩
  | .hbm, ⟨35, _⟩ => ⟨S16x2048x1, .f32⟩
  | .hbm, ⟨36, _⟩ => ⟨S16x2048x1, .f32⟩
  | .hbm, ⟨37, _⟩ => ⟨S16x2048x1, .f32⟩
  | .hbm, ⟨38, _⟩ => ⟨S16x2048x1024, .f32⟩
  | .hbm, ⟨39, _⟩ => ⟨S16x2048x1024, .f32⟩
  | .hbm, ⟨40, _⟩ => ⟨S1x1x1024, .f32⟩
  | .hbm, ⟨41, _⟩ => ⟨S16x2048x1024, .f32⟩
  | .hbm, ⟨42, _⟩ => ⟨S16x2048x1024, .f32⟩
  | .hbm, ⟨43, _⟩ => ⟨S_, .f32⟩
  | .hbm, ⟨44, _⟩ => ⟨S16x1x1024, .f32⟩
  | .hbm, ⟨45, _⟩ => ⟨S16x1x1024, .f32⟩
  | .hbm, ⟨46, _⟩ => ⟨S16x2048x1024, .f32⟩
  | .hbm, ⟨47, _⟩ => ⟨S16x2048x1024, .f32⟩
  | .hbm, ⟨48, _⟩ => ⟨S16x2048x1024, .f32⟩
  | .hbm, ⟨49, _⟩ => ⟨S16x2048x1024, .f32⟩
  | .hbm, ⟨50, _⟩ => ⟨S1024x5632, .f32⟩
  | .hbm, ⟨51, _⟩ => ⟨S2816x1024, .f32⟩
  | .hbm, ⟨52, _⟩ => ⟨S16x2048x5632, .f32⟩
  | .hbm, ⟨53, _⟩ => ⟨S16x2048x2816, .f32⟩
  | .hbm, ⟨54, _⟩ => ⟨S16x2048x2816, .f32⟩
  | .hbm, ⟨55, _⟩ => ⟨S16x2048x2816, .f32⟩
  | .hbm, ⟨56, _⟩ => ⟨S16x2048x2816, .f32⟩
  | .hbm, ⟨57, _⟩ => ⟨S_, .f32⟩
  | .hbm, ⟨58, _⟩ => ⟨S16x2048x2816, .f32⟩
  | .hbm, ⟨59, _⟩ => ⟨S16x2048x2816, .f32⟩
  | .hbm, ⟨60, _⟩ => ⟨S_, .f32⟩
  | .hbm, ⟨61, _⟩ => ⟨S16x2048x2816, .f32⟩
  | .hbm, ⟨62, _⟩ => ⟨S16x2048x2816, .f32⟩
  | .hbm, ⟨63, _⟩ => ⟨S16x2048x2816, .f32⟩
  | .hbm, ⟨64, _⟩ => ⟨S16x2048x2816, .f32⟩
  | .hbm, ⟨65, _⟩ => ⟨S16x2048x1024, .f32⟩
  | .hbm, ⟨66, _⟩ => ⟨S16x2048x1024, .f32⟩
  | .hbm, ⟨67, _⟩ => ⟨S16x2048x1024, .f32⟩
  | .hbm, ⟨68, _⟩ => ⟨S16x2048x1024, .f32⟩
  | .hbm, ⟨69, _⟩ => ⟨S32768x1024, .f32⟩
  | _, _ => ⟨S32768x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst : Ref sig .tc := ⟨.hbm, 28, rfl⟩
abbrev main_v19 : Ref sig .tc := ⟨.hbm, 29, rfl⟩
abbrev main_v20 : Ref sig .tc := ⟨.hbm, 30, rfl⟩
abbrev main_cst_0 : Ref sig .tc := ⟨.hbm, 31, rfl⟩
abbrev main_v21 : Ref sig .tc := ⟨.hbm, 32, rfl⟩
abbrev main_v22 : Ref sig .tc := ⟨.hbm, 33, rfl⟩
abbrev main_cst_1 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_2 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_call0_v0 : Ref sig .tc := ⟨.hbm, 55, rfl⟩
abbrev main_call0_v1 : Ref sig .tc := ⟨.hbm, 56, rfl⟩
abbrev main_call0_cst : Ref sig .tc := ⟨.hbm, 57, rfl⟩
abbrev main_call0_v2 : Ref sig .tc := ⟨.hbm, 58, rfl⟩
abbrev main_call0_v3 : Ref sig .tc := ⟨.hbm, 59, rfl⟩
abbrev main_call0_cst_0 : Ref sig .tc := ⟨.hbm, 60, rfl⟩
abbrev main_call0_v4 : Ref sig .tc := ⟨.hbm, 61, rfl⟩
abbrev main_call0_v5 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩

abbrev nD : Nat := 1
abbrev τ : Topo := Topo.v7x

variable {F : FTy → Type} [FloatOps F]
-- ==== Experts.lean ====
abbrev S136 : Shape := ⟨1, ![136]⟩
abbrev S1 : Shape := ⟨1, ![1]⟩
abbrev S69632x1024 : Shape := ⟨2, ![69632, 1024]⟩
abbrev S8x1024x5632 : Shape := ⟨3, ![8, 1024, 5632]⟩
abbrev S8x2816x1024 : Shape := ⟨3, ![8, 2816, 1024]⟩
abbrev S512x1024 : Shape := ⟨2, ![512, 1024]⟩
abbrev S1x1024x1408 : Shape := ⟨3, ![1, 1024, 1408]⟩
abbrev S1x1408x1024 : Shape := ⟨3, ![1, 1408, 1024]⟩
abbrev S1024x1408 : Shape := ⟨2, ![1024, 1408]⟩
abbrev S512x1408 : Shape := ⟨2, ![512, 1408]⟩
abbrev S1408x1024 : Shape := ⟨2, ![1408, 1024]⟩

abbrev nBuf : Space → Nat
  | .hbm => 4
  | .vmem => 12
  | .smem => 2
  | _ => 0

abbrev bufTy : (tb : Table) → Fin (tcTables nBuf tb) → BufTy
  | .hbm, ⟨0, _⟩ => ⟨S69632x1024, .f32⟩
  | .hbm, ⟨1, _⟩ => ⟨S8x1024x5632, .bf16⟩
  | .hbm, ⟨2, _⟩ => ⟨S8x2816x1024, .bf16⟩
  | .hbm, ⟨3, _⟩ => ⟨S69632x1024, .f32⟩
  | .local _ .vmem, ⟨0, _⟩ => ⟨S512x1024, .f32⟩
  | .local _ .vmem, ⟨1, _⟩ => ⟨S512x1024, .f32⟩
  | .local _ .vmem, ⟨2, _⟩ => ⟨S1x1024x1408, .bf16⟩
  | .local _ .vmem, ⟨3, _⟩ => ⟨S1x1024x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S1x1408x1024, .bf16⟩
  | .local _ .vmem, ⟨7, _⟩ => ⟨S1x1408x1024, .bf16⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .f32⟩
  | .local _ .smem, ⟨0, _⟩ => ⟨S136, .i32⟩
  | .local _ .smem, ⟨1, _⟩ => ⟨S1, .i32⟩
  | _, _ => ⟨S69632x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_v0 : Ref sig .tc := ⟨.hbm, 3, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![136, 2], ![false, false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond5 (i : grid0.Coords) (v0 : BitVec 32) : BitVec 1 :=
  let arg0 : BitVec 32 := BitVec.ofNat 32 (i 0).val
  let v1 : BitVec 1 := Scalar.cmpi .slt arg0 v0
  let arg1 : BitVec 32 := BitVec.ofNat 32 (i 1).val
  let c1_i32 : BitVec 32 := 1#32
  let v8 : BitVec 1 := Scalar.cmpi .eq arg1 c1_i32
  let v9 : BitVec 1 := Scalar.andi v1 v8
  let v10 : BitVec 32 := Scalar.extui v9
  let c0_i32_2 : BitVec 32 := 0#32
  let v11 : BitVec 1 := Scalar.cmpi .ne v10 c0_i32_2
  v11

def k0_cond6 (i : grid0.Coords) (v0 : BitVec 32) : BitVec 1 :=
  let arg0 : BitVec 32 := BitVec.ofNat 32 (i 0).val
  let v1 : BitVec 1 := Scalar.cmpi .slt arg0 v0
  let v_true : BitVec 1 := 1#1
  let v12 : BitVec 1 := Scalar.xori v1 v_true
  let arg1 : BitVec 32 := BitVec.ofNat 32 (i 1).val
  let c1_i32_3 : BitVec 32 := 1#32
  let v13 : BitVec 1 := Scalar.cmpi .eq arg1 c1_i32_3
  let v14 : BitVec 1 := Scalar.andi v12 v13
  let v15 : BitVec 32 := Scalar.extui v14
  let c0_i32_4 : BitVec 32 := 0#32
  let v16 : BitVec 1 := Scalar.cmpi .ne v15 c0_i32_4
  v16

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S136.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S136) ![v0.toNat] S1.size (k0_off1_inb i)) numel1_S1
  let c0_i32 : BitVec 32 := 0#32
  let c0_i32_0 : BitVec 32 := 0#32
  ![v1.toNat, c0_i32.toNat, arg1.toNat]

def cc0_transform_2 (k0_off1_inb : ∀ i : grid0.Coords, ∀ a, (k0_off1 i) a + S1.size a ≤ S136.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S136) ![v0.toNat] S1.size (k0_off1_inb i)) numel1_S1
  let c2_i32 : BitVec 32 := 2#32
  let v2 : BitVec 32 := Scalar.addi c2_i32 arg1
  let c0_i32 : BitVec 32 := 0#32
  let c0_i32_0 : BitVec 32 := 0#32
  ![v1.toNat, c0_i32.toNat, v2.toNat]

def cc0_transform_3 (k0_off1_inb : ∀ i : grid0.Coords, ∀ a, (k0_off1 i) a + S1.size a ≤ S136.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S136) ![v0.toNat] S1.size (k0_off1_inb i)) numel1_S1
  let c0_i32 : BitVec 32 := 0#32
  let c0_i32_0 : BitVec 32 := 0#32
  ![v1.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1408x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== ExpertsRefIdeal.lean ====
abbrev S136 : Shape := ⟨1, ![136]⟩
abbrev S1 : Shape := ⟨1, ![1]⟩
abbrev S69632x1024 : Shape := ⟨2, ![69632, 1024]⟩
abbrev S8x1024x5632 : Shape := ⟨3, ![8, 1024, 5632]⟩
abbrev S8x2816x1024 : Shape := ⟨3, ![8, 2816, 1024]⟩
abbrev S_ : Shape := ⟨0, ![]⟩
abbrev S136x1 : Shape := ⟨2, ![136, 1]⟩
abbrev S1x8 : Shape := ⟨2, ![1, 8]⟩
abbrev S136x8 : Shape := ⟨2, ![136, 8]⟩
abbrev S136x1x8 : Shape := ⟨3, ![136, 1, 8]⟩
abbrev S136x512x8 : Shape := ⟨3, ![136, 512, 8]⟩
abbrev S69632x8 : Shape := ⟨2, ![69632, 8]⟩
abbrev S69632x1 : Shape := ⟨2, ![69632, 1]⟩
abbrev S1x1024x5632 : Shape := ⟨3, ![1, 1024, 5632]⟩
abbrev S1024x5632 : Shape := ⟨2, ![1024, 5632]⟩
abbrev S1x2816x1024 : Shape := ⟨3, ![1, 2816, 1024]⟩
abbrev S2816x1024 : Shape := ⟨2, ![2816, 1024]⟩
abbrev S69632x5632 : Shape := ⟨2, ![69632, 5632]⟩
abbrev S69632x2816 : Shape := ⟨2, ![69632, 2816]⟩

abbrev nBuf : Space → Nat
  | .hbm => 218
  | .vmem => 0
  | .smem => 0
  | _ => 0

abbrev hbmTy0_0 (i : Nat) : BufTy := match i % 128 with
  | 0 => ⟨S136, .i32⟩
  | 1 => ⟨S1, .i32⟩
  | 2 => ⟨S69632x1024, .f32⟩
  | 3 => ⟨S8x1024x5632, .bf16⟩
  | 4 => ⟨S8x2816x1024, .bf16⟩
  | 5 => ⟨S136, .i32⟩
  | 6 => ⟨S_, .i32⟩
  | 7 => ⟨S136, .i32⟩
  | 8 => ⟨S136, .i1⟩
  | 9 => ⟨S136x1, .i1⟩
  | 10 => ⟨S136x1, .i32⟩
  | 11 => ⟨S1x8, .i32⟩
  | 12 => ⟨S136x8, .i32⟩
  | 13 => ⟨S136x8, .i32⟩
  | 14 => ⟨S136x8, .i1⟩
  | 15 => ⟨S136x8, .f32⟩
  | 16 => ⟨S_, .f32⟩
  | 17 => ⟨S_, .f32⟩
  | 18 => ⟨S136x8, .i1⟩
  | 19 => ⟨S136x8, .f32⟩
  | 20 => ⟨S136x8, .f32⟩
  | 21 => ⟨S136x1x8, .f32⟩
  | 22 => ⟨S136x512x8, .f32⟩
  | 23 => ⟨S69632x8, .f32⟩
  | 24 => ⟨S_, .f32⟩
  | 25 => ⟨S69632x1024, .f32⟩
  | 26 => ⟨S69632x1, .f32⟩
  | 27 => ⟨S1x1024x5632, .bf16⟩
  | 28 => ⟨S1024x5632, .bf16⟩
  | 29 => ⟨S1024x5632, .f32⟩
  | 30 => ⟨S1x2816x1024, .bf16⟩
  | 31 => ⟨S2816x1024, .bf16⟩
  | 32 => ⟨S2816x1024, .f32⟩
  | 33 => ⟨S69632x5632, .f32⟩
  | 34 => ⟨S69632x2816, .f32⟩
  | 35 => ⟨S69632x2816, .f32⟩
  | 36 => ⟨S69632x2816, .f32⟩
  | 37 => ⟨S69632x2816, .f32⟩
  | 38 => ⟨S_, .f32⟩
  | 39 => ⟨S69632x2816, .f32⟩
  | 40 => ⟨S69632x2816, .f32⟩
  | 41 => ⟨S_, .f32⟩
  | 42 => ⟨S69632x2816, .f32⟩
  | 43 => ⟨S69632x2816, .f32⟩
  | 44 => ⟨S69632x2816, .f32⟩
  | 45 => ⟨S69632x2816, .f32⟩
  | 46 => ⟨S69632x1024, .f32⟩
  | 47 => ⟨S69632x1024, .f32⟩
  | 48 => ⟨S69632x1024, .f32⟩
  | 49 => ⟨S69632x1024, .f32⟩
  | 50 => ⟨S69632x1, .f32⟩
  | 51 => ⟨S1x1024x5632, .bf16⟩
  | 52 => ⟨S1024x5632, .bf16⟩
  | 53 => ⟨S1024x5632, .f32⟩
  | 54 => ⟨S1x2816x1024, .bf16⟩
  | 55 => ⟨S2816x1024, .bf16⟩
  | 56 => ⟨S2816x1024, .f32⟩
  | 57 => ⟨S69632x5632, .f32⟩
  | 58 => ⟨S69632x2816, .f32⟩
  | 59 => ⟨S69632x2816, .f32⟩
  | 60 => ⟨S69632x2816, .f32⟩
  | 61 => ⟨S69632x2816, .f32⟩
  | 62 => ⟨S_, .f32⟩
  | 63 => ⟨S69632x2816, .f32⟩
  | 64 => ⟨S69632x2816, .f32⟩
  | 65 => ⟨S_, .f32⟩
  | 66 => ⟨S69632x2816, .f32⟩
  | 67 => ⟨S69632x2816, .f32⟩
  | 68 => ⟨S69632x2816, .f32⟩
  | 69 => ⟨S69632x2816, .f32⟩
  | 70 => ⟨S69632x1024, .f32⟩
  | 71 => ⟨S69632x1024, .f32⟩
  | 72 => ⟨S69632x1024, .f32⟩
  | 73 => ⟨S69632x1024, .f32⟩
  | 74 => ⟨S69632x1, .f32⟩
  | 75 => ⟨S1x1024x5632, .bf16⟩
  | 76 => ⟨S1024x5632, .bf16⟩
  | 77 => ⟨S1024x5632, .f32⟩
  | 78 => ⟨S1x2816x1024, .bf16⟩
  | 79 => ⟨S2816x1024, .bf16⟩
  | 80 => ⟨S2816x1024, .f32⟩
  | 81 => ⟨S69632x5632, .f32⟩
  | 82 => ⟨S69632x2816, .f32⟩
  | 83 => ⟨S69632x2816, .f32⟩
  | 84 => ⟨S69632x2816, .f32⟩
  | 85 => ⟨S69632x2816, .f32⟩
  | 86 => ⟨S_, .f32⟩
  | 87 => ⟨S69632x2816, .f32⟩
  | 88 => ⟨S69632x2816, .f32⟩
  | 89 => ⟨S_, .f32⟩
  | 90 => ⟨S69632x2816, .f32⟩
  | 91 => ⟨S69632x2816, .f32⟩
  | 92 => ⟨S69632x2816, .f32⟩
  | 93 => ⟨S69632x2816, .f32⟩
  | 94 => ⟨S69632x1024, .f32⟩
  | 95 => ⟨S69632x1024, .f32⟩
  | 96 => ⟨S69632x1024, .f32⟩
  | 97 => ⟨S69632x1024, .f32⟩
  | 98 => ⟨S69632x1, .f32⟩
  | 99 => ⟨S1x1024x5632, .bf16⟩
  | 100 => ⟨S1024x5632, .bf16⟩
  | 101 => ⟨S1024x5632, .f32⟩
  | 102 => ⟨S1x2816x1024, .bf16⟩
  | 103 => ⟨S2816x1024, .bf16⟩
  | 104 => ⟨S2816x1024, .f32⟩
  | 105 => ⟨S69632x5632, .f32⟩
  | 106 => ⟨S69632x2816, .f32⟩
  | 107 => ⟨S69632x2816, .f32⟩
  | 108 => ⟨S69632x2816, .f32⟩
  | 109 => ⟨S69632x2816, .f32⟩
  | 110 => ⟨S_, .f32⟩
  | 111 => ⟨S69632x2816, .f32⟩
  | 112 => ⟨S69632x2816, .f32⟩
  | 113 => ⟨S_, .f32⟩
  | 114 => ⟨S69632x2816, .f32⟩
  | 115 => ⟨S69632x2816, .f32⟩
  | 116 => ⟨S69632x2816, .f32⟩
  | 117 => ⟨S69632x2816, .f32⟩
  | 118 => ⟨S69632x1024, .f32⟩
  | 119 => ⟨S69632x1024, .f32⟩
  | 120 => ⟨S69632x1024, .f32⟩
  | 121 => ⟨S69632x1024, .f32⟩
  | 122 => ⟨S69632x1, .f32⟩
  | 123 => ⟨S1x1024x5632, .bf16⟩
  | 124 => ⟨S1024x5632, .bf16⟩
  | 125 => ⟨S1024x5632, .f32⟩
  | 126 => ⟨S1x2816x1024, .bf16⟩
  | 127 => ⟨S2816x1024, .bf16⟩
  | _ => ⟨S136, .i32⟩

abbrev hbmTy0_1 (i : Nat) : BufTy := match i % 128 with
  | 0 => ⟨S2816x1024, .f32⟩
  | 1 => ⟨S69632x5632, .f32⟩
  | 2 => ⟨S69632x2816, .f32⟩
  | 3 => ⟨S69632x2816, .f32⟩
  | 4 => ⟨S69632x2816, .f32⟩
  | 5 => ⟨S69632x2816, .f32⟩
  | 6 => ⟨S_, .f32⟩
  | 7 => ⟨S69632x2816, .f32⟩
  | 8 => ⟨S69632x2816, .f32⟩
  | 9 => ⟨S_, .f32⟩
  | 10 => ⟨S69632x2816, .f32⟩
  | 11 => ⟨S69632x2816, .f32⟩
  | 12 => ⟨S69632x2816, .f32⟩
  | 13 => ⟨S69632x2816, .f32⟩
  | 14 => ⟨S69632x1024, .f32⟩
  | 15 => ⟨S69632x1024, .f32⟩
  | 16 => ⟨S69632x1024, .f32⟩
  | 17 => ⟨S69632x1024, .f32⟩
  | 18 => ⟨S69632x1, .f32⟩
  | 19 => ⟨S1x1024x5632, .bf16⟩
  | 20 => ⟨S1024x5632, .bf16⟩
  | 21 => ⟨S1024x5632, .f32⟩
  | 22 => ⟨S1x2816x1024, .bf16⟩
  | 23 => ⟨S2816x1024, .bf16⟩
  | 24 => ⟨S2816x1024, .f32⟩
  | 25 => ⟨S69632x5632, .f32⟩
  | 26 => ⟨S69632x2816, .f32⟩
  | 27 => ⟨S69632x2816, .f32⟩
  | 28 => ⟨S69632x2816, .f32⟩
  | 29 => ⟨S69632x2816, .f32⟩
  | 30 => ⟨S_, .f32⟩
  | 31 => ⟨S69632x2816, .f32⟩
  | 32 => ⟨S69632x2816, .f32⟩
  | 33 => ⟨S_, .f32⟩
  | 34 => ⟨S69632x2816, .f32⟩
  | 35 => ⟨S69632x2816, .f32⟩
  | 36 => ⟨S69632x2816, .f32⟩
  | 37 => ⟨S69632x2816, .f32⟩
  | 38 => ⟨S69632x1024, .f32⟩
  | 39 => ⟨S69632x1024, .f32⟩
  | 40 => ⟨S69632x1024, .f32⟩
  | 41 => ⟨S69632x1024, .f32⟩
  | 42 => ⟨S69632x1, .f32⟩
  | 43 => ⟨S1x1024x5632, .bf16⟩
  | 44 => ⟨S1024x5632, .bf16⟩
  | 45 => ⟨S1024x5632, .f32⟩
  | 46 => ⟨S1x2816x1024, .bf16⟩
  | 47 => ⟨S2816x1024, .bf16⟩
  | 48 => ⟨S2816x1024, .f32⟩
  | 49 => ⟨S69632x5632, .f32⟩
  | 50 => ⟨S69632x2816, .f32⟩
  | 51 => ⟨S69632x2816, .f32⟩
  | 52 => ⟨S69632x2816, .f32⟩
  | 53 => ⟨S69632x2816, .f32⟩
  | 54 => ⟨S_, .f32⟩
  | 55 => ⟨S69632x2816, .f32⟩
  | 56 => ⟨S69632x2816, .f32⟩
  | 57 => ⟨S_, .f32⟩
  | 58 => ⟨S69632x2816, .f32⟩
  | 59 => ⟨S69632x2816, .f32⟩
  | 60 => ⟨S69632x2816, .f32⟩
  | 61 => ⟨S69632x2816, .f32⟩
  | 62 => ⟨S69632x1024, .f32⟩
  | 63 => ⟨S69632x1024, .f32⟩
  | 64 => ⟨S69632x1024, .f32⟩
  | 65 => ⟨S69632x1024, .f32⟩
  | 66 => ⟨S69632x1, .f32⟩
  | 67 => ⟨S1x1024x5632, .bf16⟩
  | 68 => ⟨S1024x5632, .bf16⟩
  | 69 => ⟨S1024x5632, .f32⟩
  | 70 => ⟨S1x2816x1024, .bf16⟩
  | 71 => ⟨S2816x1024, .bf16⟩
  | 72 => ⟨S2816x1024, .f32⟩
  | 73 => ⟨S69632x5632, .f32⟩
  | 74 => ⟨S69632x2816, .f32⟩
  | 75 => ⟨S69632x2816, .f32⟩
  | 76 => ⟨S69632x2816, .f32⟩
  | 77 => ⟨S69632x2816, .f32⟩
  | 78 => ⟨S_, .f32⟩
  | 79 => ⟨S69632x2816, .f32⟩
  | 80 => ⟨S69632x2816, .f32⟩
  | 81 => ⟨S_, .f32⟩
  | 82 => ⟨S69632x2816, .f32⟩
  | 83 => ⟨S69632x2816, .f32⟩
  | 84 => ⟨S69632x2816, .f32⟩
  | 85 => ⟨S69632x2816, .f32⟩
  | 86 => ⟨S69632x1024, .f32⟩
  | 87 => ⟨S69632x1024, .f32⟩
  | 88 => ⟨S69632x1024, .f32⟩
  | 89 => ⟨S69632x1024, .f32⟩
  | _ => ⟨S136, .i32⟩

abbrev hbmTy (i : Nat) : BufTy := match i / 128 with
  | 0 => hbmTy0_0 i
  | 1 => hbmTy0_1 i
  | _ => ⟨S136, .i32⟩

abbrev bufTy : (tb : Table) → Fin (tcTables nBuf tb) → BufTy
  | .hbm, ⟨i, _⟩ => hbmTy i
  | _, _ => ⟨S136, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_v5 : Ref sig .tc := ⟨.hbm, 15, rfl⟩
abbrev main_cst : Ref sig .tc := ⟨.hbm, 16, rfl⟩
abbrev main_call1_v0 : Ref sig .tc := ⟨.hbm, 17, rfl⟩
abbrev main_call1_v1 : Ref sig .tc := ⟨.hbm, 18, rfl⟩
abbrev main_call1_v2 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst_0 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_call2_v0 : Ref sig .tc := ⟨.hbm, 36, rfl⟩
abbrev main_call2_v1 : Ref sig .tc := ⟨.hbm, 37, rfl⟩
abbrev main_call2_cst : Ref sig .tc := ⟨.hbm, 38, rfl⟩
abbrev main_call2_v2 : Ref sig .tc := ⟨.hbm, 39, rfl⟩
abbrev main_call2_v3 : Ref sig .tc := ⟨.hbm, 40, rfl⟩
abbrev main_call2_cst_0 : Ref sig .tc := ⟨.hbm, 41, rfl⟩
abbrev main_call2_v4 : Ref sig .tc := ⟨.hbm, 42, rfl⟩
abbrev main_call2_v5 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_call3_v0 : Ref sig .tc := ⟨.hbm, 60, rfl⟩
abbrev main_call3_v1 : Ref sig .tc := ⟨.hbm, 61, rfl⟩
abbrev main_call3_cst : Ref sig .tc := ⟨.hbm, 62, rfl⟩
abbrev main_call3_v2 : Ref sig .tc := ⟨.hbm, 63, rfl⟩
abbrev main_call3_v3 : Ref sig .tc := ⟨.hbm, 64, rfl⟩
abbrev main_call3_cst_0 : Ref sig .tc := ⟨.hbm, 65, rfl⟩
abbrev main_call3_v4 : Ref sig .tc := ⟨.hbm, 66, rfl⟩
abbrev main_call3_v5 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_call4_v0 : Ref sig .tc := ⟨.hbm, 84, rfl⟩
abbrev main_call4_v1 : Ref sig .tc := ⟨.hbm, 85, rfl⟩
abbrev main_call4_cst : Ref sig .tc := ⟨.hbm, 86, rfl⟩
abbrev main_call4_v2 : Ref sig .tc := ⟨.hbm, 87, rfl⟩
abbrev main_call4_v3 : Ref sig .tc := ⟨.hbm, 88, rfl⟩
abbrev main_call4_cst_0 : Ref sig .tc := ⟨.hbm, 89, rfl⟩
abbrev main_call4_v4 : Ref sig .tc := ⟨.hbm, 90, rfl⟩
abbrev main_call4_v5 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_call5_v0 : Ref sig .tc := ⟨.hbm, 108, rfl⟩
abbrev main_call5_v1 : Ref sig .tc := ⟨.hbm, 109, rfl⟩
abbrev main_call5_cst : Ref sig .tc := ⟨.hbm, 110, rfl⟩
abbrev main_call5_v2 : Ref sig .tc := ⟨.hbm, 111, rfl⟩
abbrev main_call5_v3 : Ref sig .tc := ⟨.hbm, 112, rfl⟩
abbrev main_call5_cst_0 : Ref sig .tc := ⟨.hbm, 113, rfl⟩
abbrev main_call5_v4 : Ref sig .tc := ⟨.hbm, 114, rfl⟩
abbrev main_call5_v5 : Ref sig .tc := ⟨.hbm, 115, rfl⟩
abbrev main_v69 : Ref sig .tc := ⟨.hbm, 116, rfl⟩
abbrev main_v70 : Ref sig .tc := ⟨.hbm, 117, rfl⟩
abbrev main_v71 : Ref sig .tc := ⟨.hbm, 118, rfl⟩
abbrev main_v72 : Ref sig .tc := ⟨.hbm, 119, rfl⟩
abbrev main_v73 : Ref sig .tc := ⟨.hbm, 120, rfl⟩
abbrev main_v74 : Ref sig .tc := ⟨.hbm, 121, rfl⟩
abbrev main_v75 : Ref sig .tc := ⟨.hbm, 122, rfl⟩
abbrev main_v76 : Ref sig .tc := ⟨.hbm, 123, rfl⟩
abbrev main_v77 : Ref sig .tc := ⟨.hbm, 124, rfl⟩
abbrev main_v78 : Ref sig .tc := ⟨.hbm, 125, rfl⟩
abbrev main_v79 : Ref sig .tc := ⟨.hbm, 126, rfl⟩
abbrev main_v80 : Ref sig .tc := ⟨.hbm, 127, rfl⟩
abbrev main_v81 : Ref sig .tc := ⟨.hbm, 128, rfl⟩
abbrev main_v82 : Ref sig .tc := ⟨.hbm, 129, rfl⟩
abbrev main_v83 : Ref sig .tc := ⟨.hbm, 130, rfl⟩
abbrev main_v84 : Ref sig .tc := ⟨.hbm, 131, rfl⟩
abbrev main_call6_v0 : Ref sig .tc := ⟨.hbm, 132, rfl⟩
abbrev main_call6_v1 : Ref sig .tc := ⟨.hbm, 133, rfl⟩
abbrev main_call6_cst : Ref sig .tc := ⟨.hbm, 134, rfl⟩
abbrev main_call6_v2 : Ref sig .tc := ⟨.hbm, 135, rfl⟩
abbrev main_call6_v3 : Ref sig .tc := ⟨.hbm, 136, rfl⟩
abbrev main_call6_cst_0 : Ref sig .tc := ⟨.hbm, 137, rfl⟩
abbrev main_call6_v4 : Ref sig .tc := ⟨.hbm, 138, rfl⟩
abbrev main_call6_v5 : Ref sig .tc := ⟨.hbm, 139, rfl⟩
abbrev main_v85 : Ref sig .tc := ⟨.hbm, 140, rfl⟩
abbrev main_v86 : Ref sig .tc := ⟨.hbm, 141, rfl⟩
abbrev main_v87 : Ref sig .tc := ⟨.hbm, 142, rfl⟩
abbrev main_v88 : Ref sig .tc := ⟨.hbm, 143, rfl⟩
abbrev main_v89 : Ref sig .tc := ⟨.hbm, 144, rfl⟩
abbrev main_v90 : Ref sig .tc := ⟨.hbm, 145, rfl⟩
abbrev main_v91 : Ref sig .tc := ⟨.hbm, 146, rfl⟩
abbrev main_v92 : Ref sig .tc := ⟨.hbm, 147, rfl⟩
abbrev main_v93 : Ref sig .tc := ⟨.hbm, 148, rfl⟩
abbrev main_v94 : Ref sig .tc := ⟨.hbm, 149, rfl⟩
abbrev main_v95 : Ref sig .tc := ⟨.hbm, 150, rfl⟩
abbrev main_v96 : Ref sig .tc := ⟨.hbm, 151, rfl⟩
abbrev main_v97 : Ref sig .tc := ⟨.hbm, 152, rfl⟩
abbrev main_v98 : Ref sig .tc := ⟨.hbm, 153, rfl⟩
abbrev main_v99 : Ref sig .tc := ⟨.hbm, 154, rfl⟩
abbrev main_v100 : Ref sig .tc := ⟨.hbm, 155, rfl⟩
abbrev main_call7_v0 : Ref sig .tc := ⟨.hbm, 156, rfl⟩
abbrev main_call7_v1 : Ref sig .tc := ⟨.hbm, 157, rfl⟩
abbrev main_call7_cst : Ref sig .tc := ⟨.hbm, 158, rfl⟩
abbrev main_call7_v2 : Ref sig .tc := ⟨.hbm, 159, rfl⟩
abbrev main_call7_v3 : Ref sig .tc := ⟨.hbm, 160, rfl⟩
abbrev main_call7_cst_0 : Ref sig .tc := ⟨.hbm, 161, rfl⟩
abbrev main_call7_v4 : Ref sig .tc := ⟨.hbm, 162, rfl⟩
abbrev main_call7_v5 : Ref sig .tc := ⟨.hbm, 163, rfl⟩
abbrev main_v101 : Ref sig .tc := ⟨.hbm, 164, rfl⟩
abbrev main_v102 : Ref sig .tc := ⟨.hbm, 165, rfl⟩
abbrev main_v103 : Ref sig .tc := ⟨.hbm, 166, rfl⟩
abbrev main_v104 : Ref sig .tc := ⟨.hbm, 167, rfl⟩
abbrev main_v105 : Ref sig .tc := ⟨.hbm, 168, rfl⟩
abbrev main_v106 : Ref sig .tc := ⟨.hbm, 169, rfl⟩
abbrev main_v107 : Ref sig .tc := ⟨.hbm, 170, rfl⟩
abbrev main_v108 : Ref sig .tc := ⟨.hbm, 171, rfl⟩
abbrev main_v109 : Ref sig .tc := ⟨.hbm, 172, rfl⟩
abbrev main_v110 : Ref sig .tc := ⟨.hbm, 173, rfl⟩
abbrev main_v111 : Ref sig .tc := ⟨.hbm, 174, rfl⟩
abbrev main_v112 : Ref sig .tc := ⟨.hbm, 175, rfl⟩
abbrev main_v113 : Ref sig .tc := ⟨.hbm, 176, rfl⟩
abbrev main_v114 : Ref sig .tc := ⟨.hbm, 177, rfl⟩
abbrev main_v115 : Ref sig .tc := ⟨.hbm, 178, rfl⟩
abbrev main_v116 : Ref sig .tc := ⟨.hbm, 179, rfl⟩
abbrev main_call8_v0 : Ref sig .tc := ⟨.hbm, 180, rfl⟩
abbrev main_call8_v1 : Ref sig .tc := ⟨.hbm, 181, rfl⟩
abbrev main_call8_cst : Ref sig .tc := ⟨.hbm, 182, rfl⟩
abbrev main_call8_v2 : Ref sig .tc := ⟨.hbm, 183, rfl⟩
abbrev main_call8_v3 : Ref sig .tc := ⟨.hbm, 184, rfl⟩
abbrev main_call8_cst_0 : Ref sig .tc := ⟨.hbm, 185, rfl⟩
abbrev main_call8_v4 : Ref sig .tc := ⟨.hbm, 186, rfl⟩
abbrev main_call8_v5 : Ref sig .tc := ⟨.hbm, 187, rfl⟩
abbrev main_v117 : Ref sig .tc := ⟨.hbm, 188, rfl⟩
abbrev main_v118 : Ref sig .tc := ⟨.hbm, 189, rfl⟩
abbrev main_v119 : Ref sig .tc := ⟨.hbm, 190, rfl⟩
abbrev main_v120 : Ref sig .tc := ⟨.hbm, 191, rfl⟩
abbrev main_v121 : Ref sig .tc := ⟨.hbm, 192, rfl⟩
abbrev main_v122 : Ref sig .tc := ⟨.hbm, 193, rfl⟩
abbrev main_v123 : Ref sig .tc := ⟨.hbm, 194, rfl⟩
abbrev main_v124 : Ref sig .tc := ⟨.hbm, 195, rfl⟩
abbrev main_v125 : Ref sig .tc := ⟨.hbm, 196, rfl⟩
abbrev main_v126 : Ref sig .tc := ⟨.hbm, 197, rfl⟩
abbrev main_v127 : Ref sig .tc := ⟨.hbm, 198, rfl⟩
abbrev main_v128 : Ref sig .tc := ⟨.hbm, 199, rfl⟩
abbrev main_v129 : Ref sig .tc := ⟨.hbm, 200, rfl⟩
abbrev main_v130 : Ref sig .tc := ⟨.hbm, 201, rfl⟩
abbrev main_v131 : Ref sig .tc := ⟨.hbm, 202, rfl⟩
abbrev main_v132 : Ref sig .tc := ⟨.hbm, 203, rfl⟩
abbrev main_call9_v0 : Ref sig .tc := ⟨.hbm, 204, rfl⟩
abbrev main_call9_v1 : Ref sig .tc := ⟨.hbm, 205, rfl⟩
abbrev main_call9_cst : Ref sig .tc := ⟨.hbm, 206, rfl⟩
abbrev main_call9_v2 : Ref sig .tc := ⟨.hbm, 207, rfl⟩
abbrev main_call9_v3 : Ref sig .tc := ⟨.hbm, 208, rfl⟩
abbrev main_call9_cst_0 : Ref sig .tc := ⟨.hbm, 209, rfl⟩
abbrev main_call9_v4 : Ref sig .tc := ⟨.hbm, 210, rfl⟩
abbrev main_call9_v5 : Ref sig .tc := ⟨.hbm, 211, rfl⟩
abbrev main_v133 : Ref sig .tc := ⟨.hbm, 212, rfl⟩
abbrev main_v134 : Ref sig .tc := ⟨.hbm, 213, rfl⟩
abbrev main_v135 : Ref sig .tc := ⟨.hbm, 214, rfl⟩
abbrev main_v136 : Ref sig .tc := ⟨.hbm, 215, rfl⟩
abbrev main_v137 : Ref sig .tc := ⟨.hbm, 216, rfl⟩
abbrev main_v138 : Ref sig .tc := ⟨.hbm, 217, rfl⟩

abbrev nD : Nat := 1
abbrev τ : Topo := Topo.v7x

variable {F : FTy → Type} [FloatOps F]
-- ==== Inp.lean ====
abbrev S32768x1024 : Shape := ⟨2, ![32768, 1024]⟩
abbrev S144x1x1024 : Shape := ⟨3, ![144, 1, 1024]⟩
abbrev S1x1024 : Shape := ⟨2, ![1, 1024]⟩
abbrev S1024x2944 : Shape := ⟨2, ![1024, 2944]⟩
abbrev S1x640 : Shape := ⟨2, ![1, 640]⟩
abbrev S128x128 : Shape := ⟨2, ![128, 128]⟩
abbrev S2048x128 : Shape := ⟨2, ![2048, 128]⟩
abbrev S32768x512 : Shape := ⟨2, ![32768, 512]⟩
abbrev S32768x256 : Shape := ⟨2, ![32768, 256]⟩
abbrev S32768x128 : Shape := ⟨2, ![32768, 128]⟩
abbrev S512x1024 : Shape := ⟨2, ![512, 1024]⟩
abbrev S1x1x1024 : Shape := ⟨3, ![1, 1, 1024]⟩
abbrev S512x128 : Shape := ⟨2, ![512, 128]⟩
abbrev S512x512 : Shape := ⟨2, ![512, 512]⟩
abbrev S512x256 : Shape := ⟨2, ![512, 256]⟩
abbrev S512 : Shape := ⟨1, ![512]⟩
abbrev S512x1 : Shape := ⟨2, ![512, 1]⟩
abbrev S512x2944 : Shape := ⟨2, ![512, 2944]⟩
abbrev S1x128 : Shape := ⟨2, ![1, 128]⟩

abbrev nBuf : Space → Nat
  | .hbm => 13
  | .vmem => 24
  | .smem => 0
  | _ => 0

abbrev bufTy : (tb : Table) → Fin (tcTables nBuf tb) → BufTy
  | .hbm, ⟨0, _⟩ => ⟨S32768x1024, .f32⟩
  | .hbm, ⟨1, _⟩ => ⟨S144x1x1024, .f32⟩
  | .hbm, ⟨2, _⟩ => ⟨S1x1024, .f32⟩
  | .hbm, ⟨3, _⟩ => ⟨S1024x2944, .bf16⟩
  | .hbm, ⟨4, _⟩ => ⟨S1x640, .f32⟩
  | .hbm, ⟨5, _⟩ => ⟨S128x128, .bf16⟩
  | .hbm, ⟨6, _⟩ => ⟨S2048x128, .f32⟩
  | .hbm, ⟨7, _⟩ => ⟨S2048x128, .f32⟩
  | .hbm, ⟨8, _⟩ => ⟨S32768x1024, .f32⟩
  | .hbm, ⟨9, _⟩ => ⟨S32768x1024, .f32⟩
  | .hbm, ⟨10, _⟩ => ⟨S32768x512, .bf16⟩
  | .hbm, ⟨11, _⟩ => ⟨S32768x256, .bf16⟩
  | .hbm, ⟨12, _⟩ => ⟨S32768x128, .f32⟩
  | .local _ .vmem, ⟨0, _⟩ => ⟨S512x1024, .f32⟩
  | .local _ .vmem, ⟨1, _⟩ => ⟨S512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1024x2944, .bf16⟩
  | .local _ .vmem, ⟨8, _⟩ => ⟨S1x640, .f32⟩
  | .local _ .vmem, ⟨9, _⟩ => ⟨S128x128, .bf16⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | .local _ .vmem, ⟨18, _⟩ => ⟨S512x512, .bf16⟩
  | .local _ .vmem, ⟨19, _⟩ => ⟨S512x512, .bf16⟩
  | .local _ .vmem, ⟨20, _⟩ => ⟨S512x256, .bf16⟩
  | .local _ .vmem, ⟨21, _⟩ => ⟨S512x256, .bf16⟩
  | .local _ .vmem, ⟨22, _⟩ => ⟨S512x128, .f32⟩
  | .local _ .vmem, ⟨23, _⟩ => ⟨S512x128, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c6_i32 : BitVec 32 := 6#32
  let v17 : BitVec 32 := Scalar.muli v16 c6_i32
  let c0_i32_4 : BitVec 32 := 0#32
  let v18 : BitVec 32 := Scalar.addi v17 c0_i32_4
  let c0_i32_5 : BitVec 32 := 0#32
  let c0_i32_6 : BitVec 32 := 0#32
  let c0_i32_7 : BitVec 32 := 0#32
  ![v18.toNat, c0_i32_5.toNat, c0_i32_6.toNat]

def cc0_transform_2 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c6_i32 : BitVec 32 := 6#32
  let v17 : BitVec 32 := Scalar.muli v16 c6_i32
  let c1_i32_4 : BitVec 32 := 1#32
  let v18 : BitVec 32 := Scalar.addi v17 c1_i32_4
  let c0_i32_5 : BitVec 32 := 0#32
  let c0_i32_6 : BitVec 32 := 0#32
  let c0_i32_7 : BitVec 32 := 0#32
  ![v18.toNat, c0_i32_5.toNat, c0_i32_6.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_8 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2944 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x640 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== InpRefIdeal.lean ====
abbrev S32768x1024 : Shape := ⟨2, ![32768, 1024]⟩
abbrev S144x1x1024 : Shape := ⟨3, ![144, 1, 1024]⟩
abbrev S1x1024 : Shape := ⟨2, ![1, 1024]⟩
abbrev S1024x2944 : Shape := ⟨2, ![1024, 2944]⟩
abbrev S1x640 : Shape := ⟨2, ![1, 640]⟩
abbrev S128x128 : Shape := ⟨2, ![128, 128]⟩
abbrev S2048x128 : Shape := ⟨2, ![2048, 128]⟩
abbrev S16x2048x1024 : Shape := ⟨3, ![16, 2048, 1024]⟩
abbrev S24x1x6144 : Shape := ⟨3, ![24, 1, 6144]⟩
abbrev S16x1x6144 : Shape := ⟨3, ![16, 1, 6144]⟩
abbrev S16x1x1024 : Shape := ⟨3, ![16, 1, 1024]⟩
abbrev S1024 : Shape := ⟨1, ![1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x2048x2944 : Shape := ⟨3, ![16, 2048, 2944]⟩
abbrev S32768x2944 : Shape := ⟨2, ![32768, 2944]⟩
abbrev S32768x128 : Shape := ⟨2, ![32768, 128]⟩

abbrev nBuf : Space → Nat
  | .hbm => 47
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S144x1x1024, .f32⟩
  | .hbm, ⟨2, _⟩ => ⟨S1x1024, .f32⟩
  | .hbm, ⟨3, _⟩ => ⟨S1024x2944, .bf16⟩
  | .hbm, ⟨4, _⟩ => ⟨S1x640, .f32⟩
  | .hbm, ⟨5, _⟩ => ⟨S128x128, .bf16⟩
  | .hbm, ⟨6, _⟩ => ⟨S2048x128, .f32⟩
  | .hbm, ⟨7, _⟩ => ⟨S2048x128, .f32⟩
  | .hbm, ⟨8, _⟩ => ⟨S16x2048x1024, .f32⟩
  | .hbm, ⟨9, _⟩ => ⟨S24x1x6144, .f32⟩
  | .hbm, ⟨10, _⟩ => ⟨S16x1x6144, .f32⟩
  | .hbm, ⟨11, _⟩ => ⟨S16x1x1024, .f32⟩
  | .hbm, ⟨12, _⟩ => ⟨S16x1x1024, .f32⟩
  | .hbm, ⟨13, _⟩ => ⟨S16x1x1024, .f32⟩
  | .hbm, ⟨14, _⟩ => ⟨S16x1x1024, .f32⟩
  | .hbm, ⟨15, _⟩ => ⟨S16x1x1024, .f32⟩
  | .hbm, ⟨16, _⟩ => ⟨S16x1x1024, .f32⟩
  | .hbm, ⟨17, _⟩ => ⟨S1024, .f32⟩
  | .hbm, ⟨18, _⟩ => ⟨S16x2048x1024, .f32⟩
  | .hbm, ⟨19, _⟩ => ⟨S_, .f32⟩
  | .hbm, ⟨20, _⟩ => ⟨S16x2048, .f32⟩
  | .hbm, ⟨21, _⟩ => ⟨S16x2048x1, .f32⟩
  | .hbm, ⟨22, _⟩ => ⟨S_, .f32⟩
  | .hbm, ⟨23, _⟩ => ⟨S16x2048x1, .f32⟩
  | .hbm, ⟨24, _⟩ => ⟨S16x2048x1, .f32⟩
  | .hbm, ⟨25, _⟩ => ⟨S_, .f32⟩
  | .hbm, ⟨26, _⟩ => ⟨S16x2048x1, .f32⟩
  | .hbm, ⟨27, _⟩ => ⟨S16x2048x1, .f32⟩
  | .hbm, ⟨28, _⟩ => ⟨S16x2048x1, .f32⟩
  | .hbm, ⟨29, _⟩ => ⟨S16x2048x1024, .f32⟩
  | .hbm, ⟨30, _⟩ => ⟨S16x2048x1024, .f32⟩
  | .hbm, ⟨31, _⟩ => ⟨S1x1x1024, .f32⟩
  | .hbm, ⟨32, _⟩ => ⟨S16x2048x1024, .f32⟩
  | .hbm, ⟨33, _⟩ => ⟨S16x2048x1024, .f32⟩
  | .hbm, ⟨34, _⟩ => ⟨S_, .f32⟩
  | .hbm, ⟨35, _⟩ => ⟨S16x1x1024, .f32⟩
  | .hbm, ⟨36, _⟩ => ⟨S16x1x1024, .f32⟩
  | .hbm, ⟨37, _⟩ => ⟨S16x2048x1024, .f32⟩
  | .hbm, ⟨38, _⟩ => ⟨S16x2048x1024, .f32⟩
  | .hbm, ⟨39, _⟩ => ⟨S16x2048x1024, .f32⟩
  | .hbm, ⟨40, _⟩ => ⟨S16x2048x1024, .f32⟩
  | .hbm, ⟨41, _⟩ => ⟨S1024x2944, .f32⟩
  | .hbm, ⟨42, _⟩ => ⟨S16x2048x2944, .f32⟩
  | .hbm, ⟨43, _⟩ => ⟨S32768x2944, .f32⟩
  | .hbm, ⟨44, _⟩ => ⟨S32768x1024, .f32⟩
  | .hbm, ⟨45, _⟩ => ⟨S32768x1024, .f32⟩
  | .hbm, ⟨46, _⟩ => ⟨S32768x128, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_cst_0 : Ref sig .tc := ⟨.hbm, 22, rfl⟩
abbrev main_v13 : Ref sig .tc := ⟨.hbm, 23, rfl⟩
abbrev main_v14 : Ref sig .tc := ⟨.hbm, 24, rfl⟩
abbrev main_cst_1 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_2 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩

abbrev nD : Nat := 1
abbrev τ : Topo := Topo.v7x

variable {F : FTy → Type} [FloatOps F]
-- ==== Proof.AttSoftmax.lean ====
/- The mathematics of one attention row on the extended reals, apart from any program: a softmax in powers
   of two over keys cut in two pieces, normalised after the weighted sum, is the softmax in powers of e of the
   scores times ln 2, normalised before it. -/
module

public import Idealize.ShloMosaic.Lib.Pointwise

@[expose] public section

noncomputable section

namespace Cert.AttSoftmax

open Idealize.ShloMosaic

/-- A finite sum of real numbers read in the extended reals. -/
theorem coe_sum {n : ℕ} (f : Fin n → ℝ) : ((∑ k, f k : ℝ) : EReal) = ∑ k, (f k : EReal) :=
  map_sum (⟨⟨(fun r : ℝ => (r : EReal)), EReal.coe_zero⟩, EReal.coe_add⟩ : ℝ →+ EReal) f Finset.univ

/-- A nonnegative real factor goes into a finite sum of extended reals. -/
theorem sum_mul_coe {n : ℕ} (f : Fin n → EReal) (c : ℝ) (hc : 0 ≤ c) : (∑ k, f k) * (c : EReal) = ∑ k, f k * (c : EReal) := by
  have key : ∀ s : Finset (Fin n), (∑ k ∈ s, f k) * (c : EReal) = ∑ k ∈ s, f k * (c : EReal) := by
    intro s
    induction s using Finset.induction_on with
    | empty => simp
    | insert a s ha ih =>
      rw [Finset.sum_insert ha, Finset.sum_insert ha, ← ih]
      exact EReal.right_distrib_of_nonneg_of_ne_top (EReal.coe_nonneg.2 hc) (EReal.coe_ne_top c) _ _
  exact key _

/-- The largest of finitely many reals (at least one), started from minus infinity, is a real number. -/
theorem fold_max_coe {n : ℕ} (hn : 0 < n) (r : Fin n → ℝ) :
    ∃ μ : ℝ, Finset.univ.fold max (⊥ : EReal) (fun k => (r k : EReal)) = μ := by
  have hne : (Finset.univ : Finset (Fin n)).Nonempty := ⟨⟨0, hn⟩, Finset.mem_univ _⟩
  refine ⟨Finset.univ.sup' hne r, ?_⟩
  have h1 : Finset.univ.fold max (⊥ : EReal) (fun k => (r k : EReal)) = Finset.univ.sup (fun k => (r k : EReal)) := rfl
  rw [h1, ← Finset.sup'_eq_sup hne]
  exact (Finset.comp_sup'_eq_sup'_comp hne (fun x : ℝ => (x : EReal)) (fun x y => EReal.coe_strictMono.monotone.map_sup x y)).symm

/-- Maxima commute with a positive real factor. -/
theorem fold_max_mul {n : ℕ} (hn : 0 < n) (r : Fin n → ℝ) (c : ℝ) (hc : 0 < c) (μ : ℝ)
    (h : Finset.univ.fold max (⊥ : EReal) (fun k => (r k : EReal)) = μ) :
    Finset.univ.fold max (⊥ : EReal) (fun k => ((r k : EReal) * (c : EReal))) = ((μ * c : ℝ) : EReal) := by
  have hne : (Finset.univ : Finset (Fin n)).Nonempty := ⟨⟨0, hn⟩, Finset.mem_univ _⟩
  have e1 : (fun k => ((r k : EReal) * (c : EReal))) = fun k => ((r k * c : ℝ) : EReal) := by
    funext k; exact (EReal.coe_mul _ _).symm
  have h1 : ∀ q : Fin n → ℝ, Finset.univ.fold max (⊥ : EReal) (fun k => (q k : EReal)) = ((Finset.univ.sup' hne q : ℝ) : EReal) := by
    intro q
    have h0 : Finset.univ.fold max (⊥ : EReal) (fun k => (q k : EReal)) = Finset.univ.sup (fun k => (q k : EReal)) := rfl
    rw [h0, ← Finset.sup'_eq_sup hne]
    exact (Finset.comp_sup'_eq_sup'_comp hne (fun x : ℝ => (x : EReal)) (fun x y => EReal.coe_strictMono.monotone.map_sup x y)).symm
  rw [e1, h1]
  rw [h1, EReal.coe_eq_coe_iff] at h
  rw [← h]
  congr 1
  exact (Finset.comp_sup'_eq_sup'_comp hne (fun x : ℝ => x * c)
    (fun x y => (monotone_id.mul_const hc.le).map_sup x y)).symm

/-- One row as the kernel computes it, over the keys in two pieces: powers of two, the largest score
    subtracted, the weighted sum of the values divided by the sum of the powers. -/
def head {a b : ℕ} (s₁ : Fin a → EReal) (s₂ : Fin b → EReal) (v₁ : Fin a → EReal) (v₂ : Fin b → EReal) : EReal :=
  let m := max (Finset.univ.fold max (⊥ : EReal) s₁) (Finset.univ.fold max (⊥ : EReal) s₂)
  Ideal.div ((∑ k, Ideal.exp2 (s₁ k - m) * v₁ k) + ∑ k, Ideal.exp2 (s₂ k - m) * v₂ k)
    ((∑ k, Ideal.exp2 (s₁ k - m)) + ∑ k, Ideal.exp2 (s₂ k - m))

/-- One row as the reference computes it: jax's softmax of the scores times ln 2, then the weighted sum. -/
def refHead {n : ℕ} (s : Fin n → EReal) (v : Fin n → EReal) : EReal :=
  ∑ k, v k * Ideal.div (Ideal.exp (s k * Ideal.log 2 - max ⊥ (Finset.univ.fold max (⊥ : EReal) fun k => s k * Ideal.log 2)))
    (∑ l, Ideal.exp (s l * Ideal.log 2 - max ⊥ (Finset.univ.fold max (⊥ : EReal) fun k => s k * Ideal.log 2)))

theorem fold_split {a b : ℕ} (f : Fin (a + b) → EReal) :
    Finset.univ.fold max (⊥ : EReal) f
      = max (Finset.univ.fold max (⊥ : EReal) fun k => f (Fin.castAdd b k)) (Finset.univ.fold max (⊥ : EReal) fun k => f (Fin.natAdd a k)) := by
  have hs : ∀ {n : ℕ} (q : Fin n → EReal), Finset.univ.fold max (⊥ : EReal) q = Finset.univ.sup q := fun _ => rfl
  rw [hs, hs, hs]
  apply le_antisymm
  · refine Finset.sup_le fun k _ => ?_
    refine Fin.addCases (fun i => ?_) (fun i => ?_) k
    · exact le_max_of_le_left (Finset.le_sup (f := fun k => f (Fin.castAdd b k)) (Finset.mem_univ i))
    · exact le_max_of_le_right (Finset.le_sup (f := fun k => f (Fin.natAdd a k)) (Finset.mem_univ i))
  · refine max_le (Finset.sup_le fun k _ => ?_) (Finset.sup_le fun k _ => ?_)
    · exact Finset.le_sup (f := f) (Finset.mem_univ _)
    · exact Finset.le_sup (f := f) (Finset.mem_univ _)

theorem exp_eq_exp2 (r μ : ℝ) :
    Ideal.exp ((r : EReal) * ((Real.log 2 : ℝ) : EReal) - ((μ * Real.log 2 : ℝ) : EReal)) = ((Real.exp ((r - μ) * Real.log 2) : ℝ) : EReal)
    ∧ Ideal.exp2 ((r : EReal) - (μ : EReal)) = ((Real.exp ((r - μ) * Real.log 2) : ℝ) : EReal) := by
  constructor
  · rw [← EReal.coe_mul, ← EReal.coe_sub]
    show ((Real.exp _ : ℝ) : EReal) = _
    congr 2; ring
  · rw [← EReal.coe_sub]
    show ((Real.rpow 2 _ : ℝ) : EReal) = _
    congr 1
    show (2 : ℝ) ^ (r - μ) = _
    rw [Real.rpow_def_of_pos (by norm_num), mul_comm]

theorem log_two : Ideal.log 2 = ((Real.log 2 : ℝ) : EReal) := by
  show Ideal.log ((2 : ℝ) : EReal) = _
  rw [Ideal.log_coe, if_neg (by norm_num)]

/-- The two rows agree whenever the scores are real numbers; the values may be anything. -/
theorem head_eq {a b : ℕ} (ha : 0 < a) (s v : Fin (a + b) → EReal) (hs : ∀ k, ∃ r : ℝ, s k = r) :
    head (fun k => s (Fin.castAdd b k)) (fun k => s (Fin.natAdd a k)) (fun k => v (Fin.castAdd b k)) (fun k => v (Fin.natAdd a k))
      = refHead s v := by
  choose r hr using hs
  obtain rfl : s = fun k => (r k : EReal) := funext hr
  have hn : 0 < a + b := by omega
  obtain ⟨μ, hμ⟩ := fold_max_coe hn r
  have hlog : 0 < Real.log 2 := Real.log_pos (by norm_num)
  have hM := fold_max_mul hn r (Real.log 2) hlog μ hμ
  unfold head refHead
  dsimp only
  rw [← fold_split (fun k => (r k : EReal)), hμ, log_two, hM, max_eq_right bot_le]
  simp only [(exp_eq_exp2 _ _).1, (exp_eq_exp2 _ _).2]
  set P : Fin (a + b) → ℝ := fun k => Real.exp ((r k - μ) * Real.log 2) with hP
  have hsum : ((∑ k : Fin a, ((P (Fin.castAdd b k) : ℝ) : EReal)) + ∑ k : Fin b, ((P (Fin.natAdd a k) : ℝ) : EReal)) = ((∑ k, P k : ℝ) : EReal) := by
    rw [coe_sum, Fin.sum_univ_add]
  have hpos : 0 < ∑ k, P k := Finset.sum_pos (fun k _ => Real.exp_pos _) ⟨⟨0, hn⟩, Finset.mem_univ _⟩
  have hden : (∑ l, ((P l : ℝ) : EReal)) = ((∑ k, P k : ℝ) : EReal) := (coe_sum P).symm
  have hnum : ((∑ k : Fin a, ((P (Fin.castAdd b k) : ℝ) : EReal) * v (Fin.castAdd b k)) + ∑ k : Fin b, ((P (Fin.natAdd a k) : ℝ) : EReal) * v (Fin.natAdd a k))
      = ∑ k, ((P k : ℝ) : EReal) * v k := (Fin.sum_univ_add (fun k => ((P k : ℝ) : EReal) * v k)).symm
  show Ideal.div ((∑ k : Fin a, ((P (Fin.castAdd b k) : ℝ) : EReal) * v (Fin.castAdd b k)) + ∑ k : Fin b, ((P (Fin.natAdd a k) : ℝ) : EReal) * v (Fin.natAdd a k))
      ((∑ k : Fin a, ((P (Fin.castAdd b k) : ℝ) : EReal)) + ∑ k : Fin b, ((P (Fin.natAdd a k) : ℝ) : EReal))
    = ∑ k, v k * Ideal.div ((P k : ℝ) : EReal) (∑ l, ((P l : ℝ) : EReal))
  rw [hsum, hnum, hden]
  set L : ℝ := ∑ k, P k with hL
  have hdiv : ∀ x : EReal, Ideal.div x ((L : ℝ) : EReal) = x * ((L⁻¹ : ℝ) : EReal) := fun x => by
    rw [Ideal.div_coe hpos.ne', one_div]
  rw [hdiv, sum_mul_coe _ _ (inv_nonneg.2 hpos.le)]
  refine Finset.sum_congr rfl fun k _ => ?_
  rw [hdiv, mul_comm ((P k : ℝ) : EReal), mul_assoc]

end Cert.AttSoftmax

end
-- ==== Proof.AttScores.lean ====
/- The attention kernel's scores, chunk by chunk and half by half. -/
module

public import proofs.«01_k».proof.Proof.Gen.AttIdeal.Frame
public import proofs.«01_k».proof.Proof.AttSoftmax
public import Idealize.ShloMosaic.Lib.Pipeline.ValueKit
public import Idealize.ShloMosaic.Lib.Pointwise

@[expose] public section

set_option maxRecDepth 16384

noncomputable section

namespace Cert.AttIdeal.Hand

open Cert.AttIdeal Cert.AttIdeal.Gen Idealize.ShloMosaic Idealize.ShloMosaic.TcCoe Idealize.SL.Sem

/-! ## The lane masks: a 128-lane product with one half masked off is a 64-lane product -/

theorem lo_bit : ∀ x : Fin 128, IntOp.cmpi CmpIPredicate.slt (BitVec.ofNat 32 (x : ℕ)) 64#32 = if (x : ℕ) < 64 then 1#1 else 0#1 := by decide
theorem hi_bit : ∀ x : Fin 128, IntOp.cmpi CmpIPredicate.sge (BitVec.ofNat 32 (x : ℕ)) 64#32 = if (x : ℕ) < 64 then 0#1 else 1#1 := by decide

theorem mask_one : (FloatOps.sitofp (F := Ideal) FTy.f32 (BitVec.setWidth 32 1#1) : EReal) = 1 := by
  show (((BitVec.setWidth 32 1#1).toInt : ℝ) : EReal) = 1
  have : (BitVec.setWidth 32 1#1).toInt = 1 := by decide
  rw [this]; norm_num
theorem mask_zero : (FloatOps.sitofp (F := Ideal) FTy.f32 (BitVec.setWidth 32 0#1) : EReal) = 0 := by
  show (((BitVec.setWidth 32 0#1).toInt : ℝ) : EReal) = 0
  have : (BitVec.setWidth 32 0#1).toInt = 0 := by decide
  rw [this]; norm_num

theorem sum_lo (f g : Fin 128 → EReal) :
    (∑ x : Fin 128, (f x * (FloatOps.sitofp (F := Ideal) FTy.f32 (BitVec.setWidth 32 (IntOp.cmpi CmpIPredicate.slt (BitVec.ofNat 32 (x : ℕ)) 64#32)) : EReal)) * g x)
      = ∑ e : Fin 64, f ⟨0 + e, by omega⟩ * g ⟨0 + e, by omega⟩ := by
  rw [Fin.sum_univ_two_halves 64 64 rfl]
  refine (congrArg₂ (· + ·) (Finset.sum_congr rfl fun e _ => ?_) (Finset.sum_eq_zero fun b _ => ?_)).trans (add_zero _)
  · rw [lo_bit, if_pos (by show (e : ℕ) < 64; omega), mask_one, mul_one]
    simp only [Nat.zero_add]
  · rw [lo_bit, if_neg (by show ¬ (64 + (b : ℕ)) < 64; omega), mask_zero, mul_zero, zero_mul]

theorem sum_hi (f g : Fin 128 → EReal) :
    (∑ x : Fin 128, (f x * (FloatOps.sitofp (F := Ideal) FTy.f32 (BitVec.setWidth 32 (IntOp.cmpi CmpIPredicate.sge (BitVec.ofNat 32 (x : ℕ)) 64#32)) : EReal)) * g x)
      = ∑ e : Fin 64, f ⟨64 + e, by omega⟩ * g ⟨64 + e, by omega⟩ := by
  rw [Fin.sum_univ_two_halves 64 64 rfl]
  refine (congrArg₂ (· + ·) (Finset.sum_eq_zero fun b _ => ?_) (Finset.sum_congr rfl fun e _ => ?_)).trans (zero_add _)
  · rw [hi_bit, if_pos (by show (b : ℕ) < 64; omega), mask_zero, mul_zero, zero_mul]
  · rw [hi_bit, if_neg (by show ¬ (64 + (e : ℕ)) < 64; omega), mask_one, mul_one]

/-- The score of the query in row `r` of a block against key `n` of a block of `N` keys: the query's 64 lanes from
    `off + ho` on, the key's from `ho` on. -/
def score {N : ℕ} (X0 : Vec Ideal S1x256x512 .bf16) (X : FVec Ideal ⟨3, ![1, N, 256]⟩ .bf16) (off ho : ℕ) (h₁ : off + 128 ≤ 512)
    (h₂ : ho + 64 ≤ 128) (r : Fin 256) (n : Fin N) : EReal :=
  ∑ e : Fin 64, (show EReal from X0 (ix3 0 r ⟨off + (ho + e), by omega⟩)) * X (ix3 0 n ⟨ho + e, by omega⟩)

/-- One entry of the attention over the blocks: `head` of the scores and of lane `128 + l` of the values. -/
def HD (X0 : Vec Ideal S1x256x512 .bf16) (X1 : Vec Ideal S1x2048x256 .bf16) (X2 : Vec Ideal S1x256x256 .bf16) (off ho : ℕ)
    (h₁ : off + 128 ≤ 512) (h₂ : ho + 64 ≤ 128) (r : Fin 256) (l : Fin 128) : EReal :=
  AttSoftmax.head (score X0 X1 off ho h₁ h₂ r) (score X0 X2 off ho h₁ h₂ r)
    (fun n => X1 (ix3 0 n ⟨128 + l, by omega⟩)) (fun n => X2 (ix3 0 n ⟨128 + l, by omega⟩))

theorem bits_bot : Ideal.ofBits FTy.f32 4286578688#32 = (⊥ : EReal) := by simp [Ideal.ofBits, Ideal.ieee]

theorem pay8_lo (X0 : Vec Ideal S1x256x512 .bf16) (X1 : Vec Ideal S1x2048x256 .bf16) (r : Fin 256) (n : Fin 2048) :
    k0_pay8 (F := Ideal) X0 X1 (ix2 ⟨r, by omega⟩ n) = score X0 X1 0 0 (by omega) (by omega) r n := by
  pointwise [k0_pay8, k0_pay7, k0_pay2, k0_pay3, k0_pay4, k0_pay5]
  refine Eq.trans ?_ (sum_lo (fun x => X0 (ix3 0 r ⟨0 + x, by omega⟩)) (fun x => X1 (ix3 0 n ⟨x, by omega⟩)))
  simp only [Nat.zero_add]

theorem pay8_hi (X0 : Vec Ideal S1x256x512 .bf16) (X1 : Vec Ideal S1x2048x256 .bf16) (r : Fin 256) (n : Fin 2048) :
    k0_pay8 (F := Ideal) X0 X1 (ix2 ⟨256 + r, by omega⟩ n) = score X0 X1 0 64 (by omega) (by omega) r n := by
  pointwise [k0_pay8, k0_pay7, k0_pay2, k0_pay3, k0_pay4, k0_pay5]
  refine Eq.trans ?_ (sum_hi (fun x => X0 (ix3 0 r ⟨0 + x, by omega⟩)) (fun x => X1 (ix3 0 n ⟨x, by omega⟩)))
  simp only [Nat.zero_add]

theorem pay9_lo (X0 : Vec Ideal S1x256x512 .bf16) (X2 : Vec Ideal S1x256x256 .bf16) (r : Fin 256) (n : Fin 256) :
    k0_pay9 (F := Ideal) X0 X2 (ix2 ⟨r, by omega⟩ n) = score X0 X2 0 0 (by omega) (by omega) r n := by
  pointwise [k0_pay9, k0_pay7, k0_pay2, k0_pay3, k0_pay4, k0_pay6]
  refine Eq.trans ?_ (sum_lo (fun x => X0 (ix3 0 r ⟨0 + x, by omega⟩)) (fun x => X2 (ix3 0 n ⟨x, by omega⟩)))
  simp only [Nat.zero_add]

theorem pay9_hi (X0 : Vec Ideal S1x256x512 .bf16) (X2 : Vec Ideal S1x256x256 .bf16) (r : Fin 256) (n : Fin 256) :
    k0_pay9 (F := Ideal) X0 X2 (ix2 ⟨256 + r, by omega⟩ n) = score X0 X2 0 64 (by omega) (by omega) r n := by
  pointwise [k0_pay9, k0_pay7, k0_pay2, k0_pay3, k0_pay4, k0_pay6]
  refine Eq.trans ?_ (sum_hi (fun x => X0 (ix3 0 r ⟨0 + x, by omega⟩)) (fun x => X2 (ix3 0 n ⟨x, by omega⟩)))
  simp only [Nat.zero_add]

theorem pay11_lo (X0 : Vec Ideal S1x256x512 .bf16) (X1 : Vec Ideal S1x2048x256 .bf16) (r : Fin 256) (n : Fin 2048) :
    k0_pay11 (F := Ideal) X0 X1 (ix2 ⟨r, by omega⟩ n) = score X0 X1 128 0 (by omega) (by omega) r n := by
  pointwise [k0_pay11, k0_pay10, k0_pay2, k0_pay3, k0_pay4, k0_pay5]
  refine Eq.trans ?_ (sum_lo (fun x => X0 (ix3 0 r ⟨128 + x, by omega⟩)) (fun x => X1 (ix3 0 n ⟨x, by omega⟩)))
  rfl

theorem pay11_hi (X0 : Vec Ideal S1x256x512 .bf16) (X1 : Vec Ideal S1x2048x256 .bf16) (r : Fin 256) (n : Fin 2048) :
    k0_pay11 (F := Ideal) X0 X1 (ix2 ⟨256 + r, by omega⟩ n) = score X0 X1 128 64 (by omega) (by omega) r n := by
  pointwise [k0_pay11, k0_pay10, k0_pay2, k0_pay3, k0_pay4, k0_pay5]
  refine Eq.trans ?_ (sum_hi (fun x => X0 (ix3 0 r ⟨128 + x, by omega⟩)) (fun x => X1 (ix3 0 n ⟨x, by omega⟩)))
  rfl

theorem pay12_lo (X0 : Vec Ideal S1x256x512 .bf16) (X2 : Vec Ideal S1x256x256 .bf16) (r : Fin 256) (n : Fin 256) :
    k0_pay12 (F := Ideal) X0 X2 (ix2 ⟨r, by omega⟩ n) = score X0 X2 128 0 (by omega) (by omega) r n := by
  pointwise [k0_pay12, k0_pay10, k0_pay2, k0_pay3, k0_pay4, k0_pay6]
  refine Eq.trans ?_ (sum_lo (fun x => X0 (ix3 0 r ⟨128 + x, by omega⟩)) (fun x => X2 (ix3 0 n ⟨x, by omega⟩)))
  rfl

theorem pay12_hi (X0 : Vec Ideal S1x256x512 .bf16) (X2 : Vec Ideal S1x256x256 .bf16) (r : Fin 256) (n : Fin 256) :
    k0_pay12 (F := Ideal) X0 X2 (ix2 ⟨256 + r, by omega⟩ n) = score X0 X2 128 64 (by omega) (by omega) r n := by
  pointwise [k0_pay12, k0_pay10, k0_pay2, k0_pay3, k0_pay4, k0_pay6]
  refine Eq.trans ?_ (sum_hi (fun x => X0 (ix3 0 r ⟨128 + x, by omega⟩)) (fun x => X2 (ix3 0 n ⟨x, by omega⟩)))
  rfl

theorem pay17_lo (X0 : Vec Ideal S1x256x512 .bf16) (X1 : Vec Ideal S1x2048x256 .bf16) (r : Fin 256) (n : Fin 2048) :
    k0_pay17 (F := Ideal) (k0_pay2 X0) k0_pay3 k0_pay4 (k0_pay5 X1) (ix2 ⟨r, by omega⟩ n) = score X0 X1 256 0 (by omega) (by omega) r n := by
  pointwise [k0_pay17, k0_pay16, k0_pay2, k0_pay3, k0_pay4, k0_pay5]
  refine Eq.trans ?_ (sum_lo (fun x => X0 (ix3 0 r ⟨256 + x, by omega⟩)) (fun x => X1 (ix3 0 n ⟨x, by omega⟩)))
  rfl

theorem pay17_hi (X0 : Vec Ideal S1x256x512 .bf16) (X1 : Vec Ideal S1x2048x256 .bf16) (r : Fin 256) (n : Fin 2048) :
    k0_pay17 (F := Ideal) (k0_pay2 X0) k0_pay3 k0_pay4 (k0_pay5 X1) (ix2 ⟨256 + r, by omega⟩ n) = score X0 X1 256 64 (by omega) (by omega) r n := by
  pointwise [k0_pay17, k0_pay16, k0_pay2, k0_pay3, k0_pay4, k0_pay5]
  refine Eq.trans ?_ (sum_hi (fun x => X0 (ix3 0 r ⟨256 + x, by omega⟩)) (fun x => X1 (ix3 0 n ⟨x, by omega⟩)))
  rfl

theorem pay18_lo (X0 : Vec Ideal S1x256x512 .bf16) (X2 : Vec Ideal S1x256x256 .bf16) (r : Fin 256) (n : Fin 256) :
    k0_pay18 (F := Ideal) (k0_pay2 X0) k0_pay3 k0_pay4 (k0_pay6 X2) (ix2 ⟨r, by omega⟩ n) = score X0 X2 256 0 (by omega) (by omega) r n := by
  pointwise [k0_pay18, k0_pay16, k0_pay2, k0_pay3, k0_pay4, k0_pay6]
  refine Eq.trans ?_ (sum_lo (fun x => X0 (ix3 0 r ⟨256 + x, by omega⟩)) (fun x => X2 (ix3 0 n ⟨x, by omega⟩)))
  rfl

theorem pay18_hi (X0 : Vec Ideal S1x256x512 .bf16) (X2 : Vec Ideal S1x256x256 .bf16) (r : Fin 256) (n : Fin 256) :
    k0_pay18 (F := Ideal) (k0_pay2 X0) k0_pay3 k0_pay4 (k0_pay6 X2) (ix2 ⟨256 + r, by omega⟩ n) = score X0 X2 256 64 (by omega) (by omega) r n := by
  pointwise [k0_pay18, k0_pay16, k0_pay2, k0_pay3, k0_pay4, k0_pay6]
  refine Eq.trans ?_ (sum_hi (fun x => X0 (ix3 0 r ⟨256 + x, by omega⟩)) (fun x => X2 (ix3 0 n ⟨x, by omega⟩)))
  rfl

theorem pay25_lo (X0 : Vec Ideal S1x256x512 .bf16) (X1 : Vec Ideal S1x2048x256 .bf16) (r : Fin 256) (n : Fin 2048) :
    k0_pay25 (F := Ideal) (k0_pay2 X0) k0_pay3 k0_pay4 (k0_pay5 X1) (ix2 ⟨r, by omega⟩ n) = score X0 X1 384 0 (by omega) (by omega) r n := by
  pointwise [k0_pay25, k0_pay24, k0_pay2, k0_pay3, k0_pay4, k0_pay5]
  refine Eq.trans ?_ (sum_lo (fun x => X0 (ix3 0 r ⟨384 + x, by omega⟩)) (fun x => X1 (ix3 0 n ⟨x, by omega⟩)))
  rfl

theorem pay25_hi (X0 : Vec Ideal S1x256x512 .bf16) (X1 : Vec Ideal S1x2048x256 .bf16) (r : Fin 256) (n : Fin 2048) :
    k0_pay25 (F := Ideal) (k0_pay2 X0) k0_pay3 k0_pay4 (k0_pay5 X1) (ix2 ⟨256 + r, by omega⟩ n) = score X0 X1 384 64 (by omega) (by omega) r n := by
  pointwise [k0_pay25, k0_pay24, k0_pay2, k0_pay3, k0_pay4, k0_pay5]
  refine Eq.trans ?_ (sum_hi (fun x => X0 (ix3 0 r ⟨384 + x, by omega⟩)) (fun x => X1 (ix3 0 n ⟨x, by omega⟩)))
  rfl

theorem pay26_lo (X0 : Vec Ideal S1x256x512 .bf16) (X2 : Vec Ideal S1x256x256 .bf16) (r : Fin 256) (n : Fin 256) :
    k0_pay26 (F := Ideal) (k0_pay2 X0) k0_pay3 k0_pay4 (k0_pay6 X2) (ix2 ⟨r, by omega⟩ n) = score X0 X2 384 0 (by omega) (by omega) r n := by
  pointwise [k0_pay26, k0_pay24, k0_pay2, k0_pay3, k0_pay4, k0_pay6]
  refine Eq.trans ?_ (sum_lo (fun x => X0 (ix3 0 r ⟨384 + x, by omega⟩)) (fun x => X2 (ix3 0 n ⟨x, by omega⟩)))
  rfl

theorem pay26_hi (X0 : Vec Ideal S1x256x512 .bf16) (X2 : Vec Ideal S1x256x256 .bf16) (r : Fin 256) (n : Fin 256) :
    k0_pay26 (F := Ideal) (k0_pay2 X0) k0_pay3 k0_pay4 (k0_pay6 X2) (ix2 ⟨256 + r, by omega⟩ n) = score X0 X2 384 64 (by omega) (by omega) r n := by
  pointwise [k0_pay26, k0_pay24, k0_pay2, k0_pay3, k0_pay4, k0_pay6]
  refine Eq.trans ?_ (sum_hi (fun x => X0 (ix3 0 r ⟨384 + x, by omega⟩)) (fun x => X2 (ix3 0 n ⟨x, by omega⟩)))
  rfl

end Cert.AttIdeal.Hand

end
-- ==== Proof.AttChunks.lean ====
/- The attention kernel's stored block, read at an index: `HD` of the score lemmas, chunk by chunk. -/
module

public import proofs.«01_k».proof.Proof.AttScores

@[expose] public section

set_option maxRecDepth 16384

noncomputable section

namespace Cert.AttIdeal.Hand

open Cert.AttIdeal Cert.AttIdeal.Gen Idealize.ShloMosaic Idealize.ShloMosaic.TcCoe Idealize.SL.Sem

theorem sel_bit (l : Fin 128) (a b : EReal) :
    Scalar.select (IntOp.cmpi CmpIPredicate.slt (BitVec.ofNat 32 (l : ℕ)) 64#32) a b = if (l : ℕ) < 64 then a else b := by
  rw [lo_bit]
  split <;> rfl

/-- One chunk of 128 lanes as the body builds it, from the scores against the two pieces of keys and the rows' largest. -/
def chunk (v2 : IVec S1x128 32) (v14 : FVec Ideal S2048x256 .bf16) (v16 : FVec Ideal S256x256 .bf16) (T1 : FVec Ideal S512x2048 .f32) (T2 : FVec Ideal S512x256 .f32) (M : FVec Ideal S512x1 .f32) : FVec Ideal S256x128 .f32 :=
  have v158 : FVec Ideal S512x2048 .f32 := broadcastTo S512x2048 M broadcasts_S512x1_S512x2048
  have v159 : FVec Ideal S512x2048 .f32 := subf T1 v158
  have v160 : FVec Ideal S512x2048 .f32 := exp2 v159
  have v161 : FVec Ideal S512x256 .f32 := broadcastTo S512x256 M broadcasts_S512x1_S512x256
  have v162 : FVec Ideal S512x256 .f32 := subf T2 v161
  have v163 : FVec Ideal S512x256 .f32 := exp2 v162
  have v164 : FVec Ideal S512 .f32 := multiReduction .add [1] S512 v160 0x00000000#32 reduces_S512x2048_S512 (.inl rfl) rfl
  have v165 : FVec Ideal S512x1 .f32 := shapeCast S512x1 v164 shapeCasts_S512_S512x1
  have v166 : FVec Ideal S512 .f32 := multiReduction .add [1] S512 v163 0x00000000#32 reduces_S512x256_S512 (.inl rfl) rfl
  have v167 : FVec Ideal S512x1 .f32 := shapeCast S512x1 v166 shapeCasts_S512_S512x1
  have v168 : FVec Ideal S512x1 .f32 := addf v165 v167
  have v169 : FVec Ideal S512x2048 .bf16 := truncf .bf16 v160 bitsLt_bf16_f32
  have v170 : FVec Ideal S2048x128 .bf16 := extractStridedSlice S2048x128 ![0, 128] v14 slices_S2048x256_o0_128_S2048x128
  have cst_41 : FVec Ideal S512x128 .f32 := constant S512x128 .f32 0x00000000#32
  have v171 : FVec Ideal S512x128 .f32 := matmul dot_S512x2048_S2048x128_S512x128_1_0_0_1_n_n none v169 v170 cst_41
  have v172 : FVec Ideal S512x256 .bf16 := truncf .bf16 v163 bitsLt_bf16_f32
  have v173 : FVec Ideal S256x128 .bf16 := extractStridedSlice S256x128 ![0, 128] v16 slices_S256x256_o0_128_S256x128
  have cst_42 : FVec Ideal S512x128 .f32 := constant S512x128 .f32 0x00000000#32
  have v174 : FVec Ideal S512x128 .f32 := matmul dot_S512x256_S256x128_S512x128_1_0_0_1_n_n none v172 v173 cst_42
  have v175 : FVec Ideal S512x128 .f32 := addf v171 v174
  have v176 : FVec Ideal S512x128 .f32 := broadcastTo S512x128 v168 broadcasts_S512x1_S512x128
  have v177 : FVec Ideal S512x128 .f32 := divf v175 v176
  have v178 : IVec S1x128 32 := broadcast S1x128 64#32
  have v179 : IVec S1x128 1 := cmpi .slt v2 v178
  have v180 : FVec Ideal S256x128 .f32 := extractStridedSlice S256x128 ![0, 0] v177 slices_S512x128_o0_0_S256x128
  have v181 : FVec Ideal S256x128 .f32 := extractStridedSlice S256x128 ![256, 0] v177 slices_S512x128_o256_0_S256x128
  have v182 : IVec S1x128 1 := shapeCast S1x128 v179 shapeCasts_S1x128_S1x128
  have v183 : IVec S256x128 1 := broadcastTo S256x128 v182 broadcasts_S1x128_S256x128
  select v183 v180 v181

/-- The largest score of each row, over both pieces. -/
def rowMax (T1 : FVec Ideal S512x2048 .f32) (T2 : FVec Ideal S512x256 .f32) : FVec Ideal S512x1 .f32 :=
  maximumf (shapeCast S512x1 (multiReduction .maximumf [1] S512 T1 0xFF800000#32 reduces_S512x2048_S512 (.inl rfl) rfl) shapeCasts_S512_S512x1)
    (shapeCast S512x1 (multiReduction .maximumf [1] S512 T2 0xFF800000#32 reduces_S512x256_S512 (.inl rfl) rfl) shapeCasts_S512_S512x1)

theorem max_l (T : FVec Ideal S512x2048 .f32) (r : Fin 512) :
    multiReduction .maximumf [1] S512 T 0xFF800000#32 reduces_S512x2048_S512 (.inl rfl) rfl (ix1 r) = Finset.univ.fold max (⊥ : EReal) (fun k => T (ix2 r k)) := by
  pointwise
  rw [bits_bot]
theorem max_c (T : FVec Ideal S512x256 .f32) (r : Fin 512) :
    multiReduction .maximumf [1] S512 T 0xFF800000#32 reduces_S512x256_S512 (.inl rfl) rfl (ix1 r) = Finset.univ.fold max (⊥ : EReal) (fun k => T (ix2 r k)) := by
  pointwise
  rw [bits_bot]
theorem max_cast (M1 M2 : FVec Ideal S512 .f32) (r : Fin 512) :
    maximumf (shapeCast S512x1 M1 shapeCasts_S512_S512x1) (shapeCast S512x1 M2 shapeCasts_S512_S512x1) (ix2 r 0) = max (M1 (ix1 r)) (M2 (ix1 r)) := by
  pointwise

theorem rowMax_at (T1 : FVec Ideal S512x2048 .f32) (T2 : FVec Ideal S512x256 .f32) (r : Fin 512) :
    rowMax T1 T2 (ix2 r 0) = max (Finset.univ.fold max (⊥ : EReal) fun k => T1 (ix2 r k)) (Finset.univ.fold max (⊥ : EReal) fun k => T2 (ix2 r k)) :=
  (max_cast _ _ r).trans (congrArg₂ max (max_l T1 r) (max_c T2 r))

theorem chunk_at (v14 : FVec Ideal S2048x256 .bf16) (v16 : FVec Ideal S256x256 .bf16) (T1 : FVec Ideal S512x2048 .f32) (T2 : FVec Ideal S512x256 .f32) (r : Fin 256) (l : Fin 128) :
    chunk (iota .tc S1x128 32 [1] iota_S1x128_d1_w32) v14 v16 T1 T2 (rowMax T1 T2) (ix2 r l)
      = if (l : ℕ) < 64 then AttSoftmax.head (fun n => T1 (ix2 ⟨r, by omega⟩ n)) (fun n => T2 (ix2 ⟨r, by omega⟩ n)) (fun n => v14 (ix2 n ⟨128 + l, by omega⟩)) (fun n => v16 (ix2 n ⟨128 + l, by omega⟩))
        else AttSoftmax.head (fun n => T1 (ix2 ⟨256 + r, by omega⟩ n)) (fun n => T2 (ix2 ⟨256 + r, by omega⟩ n)) (fun n => v14 (ix2 n ⟨128 + l, by omega⟩)) (fun n => v16 (ix2 n ⟨128 + l, by omega⟩)) := by
  have open_at : ∀ M : FVec Ideal S512x1 .f32, chunk (iota .tc S1x128 32 [1] iota_S1x128_d1_w32) v14 v16 T1 T2 M (ix2 r l) = (if (l : ℕ) < 64 then
      Ideal.div
        ((∑ x, Ideal.exp2 (T1 (ix2 ⟨r, by omega⟩ x) - M (ix2 ⟨r, by omega⟩ 0)) * v14 (ix2 x ⟨128 + l, by omega⟩)) +
          ∑ x, Ideal.exp2 (T2 (ix2 ⟨r, by omega⟩ x) - M (ix2 ⟨r, by omega⟩ 0)) * v16 (ix2 x ⟨128 + l, by omega⟩))
        ((∑ x, Ideal.exp2 (T1 (ix2 ⟨r, by omega⟩ x) - M (ix2 ⟨r, by omega⟩ 0))) +
          ∑ x, Ideal.exp2 (T2 (ix2 ⟨r, by omega⟩ x) - M (ix2 ⟨r, by omega⟩ 0)))
    else
      Ideal.div
        ((∑ x, Ideal.exp2 (T1 (ix2 ⟨256 + r, by omega⟩ x) - M (ix2 ⟨256 + r, by omega⟩ 0)) * v14 (ix2 x ⟨128 + l, by omega⟩)) +
          ∑ x, Ideal.exp2 (T2 (ix2 ⟨256 + r, by omega⟩ x) - M (ix2 ⟨256 + r, by omega⟩ 0)) * v16 (ix2 x ⟨128 + l, by omega⟩))
        ((∑ x, Ideal.exp2 (T1 (ix2 ⟨256 + r, by omega⟩ x) - M (ix2 ⟨256 + r, by omega⟩ 0))) +
          ∑ x, Ideal.exp2 (T2 (ix2 ⟨256 + r, by omega⟩ x) - M (ix2 ⟨256 + r, by omega⟩ 0)))) := by
    intro M
    pointwise [chunk]
    rw [sel_bit]
    rfl
  rw [open_at, rowMax_at, rowMax_at]
  rfl

/-- The whole stored vector over the loaded blocks, as the body builds it. -/
def stored (X0 : Vec Ideal S1x256x512 .bf16) (X1 : Vec Ideal S1x2048x256 .bf16) (X2 : Vec Ideal S1x256x256 .bf16) : FVec Ideal S256x512 .bf16 :=
  k0_pay32 (F := Ideal) (iota .tc S1x128 32 [1] iota_S1x128_d1_w32) (k0_pay5 X1) (k0_pay6 X2) (k0_pay15 (F := Ideal) (iota .tc S1x128 32 [1] iota_S1x128_d1_w32) (k0_pay5 X1) (k0_pay6 X2) (k0_pay8 X0 X1) (k0_pay9 X0 X2) (k0_pay13 X0 X1) (k0_pay14 X0 X2)) (k0_pay23 (F := Ideal) (iota .tc S1x128 32 [1] iota_S1x128_d1_w32) (k0_pay5 X1) (k0_pay6 X2) (k0_pay20 (k0_pay11 X0 X1) (k0_pay12 X0 X2)) (k0_pay21 (k0_pay11 X0 X1) (k0_pay12 X0 X2)) (k0_pay22 (k0_pay11 X0 X1) (k0_pay12 X0 X2)))
    (k0_pay25 (k0_pay2 X0) k0_pay3 k0_pay4 (k0_pay5 X1)) (k0_pay26 (k0_pay2 X0) k0_pay3 k0_pay4 (k0_pay6 X2))
    (k0_pay29 (k0_pay17 (k0_pay2 X0) k0_pay3 k0_pay4 (k0_pay5 X1)) (k0_pay18 (k0_pay2 X0) k0_pay3 k0_pay4 (k0_pay6 X2)))
    (k0_pay30 (k0_pay17 (k0_pay2 X0) k0_pay3 k0_pay4 (k0_pay5 X1)) (k0_pay18 (k0_pay2 X0) k0_pay3 k0_pay4 (k0_pay6 X2)))
    (k0_pay31 (k0_pay5 X1) (k0_pay17 (k0_pay2 X0) k0_pay3 k0_pay4 (k0_pay5 X1)) (k0_pay18 (k0_pay2 X0) k0_pay3 k0_pay4 (k0_pay6 X2)))

/-- The stored vector is its four chunks side by side. -/
theorem stored_eq (X0 : Vec Ideal S1x256x512 .bf16) (X1 : Vec Ideal S1x2048x256 .bf16) (X2 : Vec Ideal S1x256x256 .bf16) :
    stored X0 X1 X2 = truncf .bf16 (concatenate S256x512 1 [⟨S256x128, chunk (iota .tc S1x128 32 [1] iota_S1x128_d1_w32) (k0_pay5 X1) (k0_pay6 X2) (k0_pay8 X0 X1) (k0_pay9 X0 X2) (rowMax (k0_pay8 X0 X1) (k0_pay9 X0 X2))⟩, ⟨S256x128, chunk (iota .tc S1x128 32 [1] iota_S1x128_d1_w32) (k0_pay5 X1) (k0_pay6 X2) (k0_pay11 X0 X1) (k0_pay12 X0 X2) (rowMax (k0_pay11 X0 X1) (k0_pay12 X0 X2))⟩,
      ⟨S256x128, chunk (iota .tc S1x128 32 [1] iota_S1x128_d1_w32) (k0_pay5 X1) (k0_pay6 X2) (k0_pay17 (k0_pay2 X0) k0_pay3 k0_pay4 (k0_pay5 X1)) (k0_pay18 (k0_pay2 X0) k0_pay3 k0_pay4 (k0_pay6 X2)) (rowMax (k0_pay17 (k0_pay2 X0) k0_pay3 k0_pay4 (k0_pay5 X1)) (k0_pay18 (k0_pay2 X0) k0_pay3 k0_pay4 (k0_pay6 X2)))⟩, ⟨S256x128, chunk (iota .tc S1x128 32 [1] iota_S1x128_d1_w32) (k0_pay5 X1) (k0_pay6 X2) (k0_pay25 (k0_pay2 X0) k0_pay3 k0_pay4 (k0_pay5 X1)) (k0_pay26 (k0_pay2 X0) k0_pay3 k0_pay4 (k0_pay6 X2)) (rowMax (k0_pay25 (k0_pay2 X0) k0_pay3 k0_pay4 (k0_pay5 X1)) (k0_pay26 (k0_pay2 X0) k0_pay3 k0_pay4 (k0_pay6 X2)))⟩] concatenates_S256x128_S256x128_S256x128_S256x128_S256x512_d1) bitsLt_bf16_f32 := rfl

theorem concat_at (C1 C2 C3 C4 : FVec Ideal S256x128 .f32) (r : Fin 256) (c : Fin 512) :
    truncf (F := Ideal) .bf16 (concatenate S256x512 1 [⟨S256x128, C1⟩, ⟨S256x128, C2⟩, ⟨S256x128, C3⟩, ⟨S256x128, C4⟩] concatenates_S256x128_S256x128_S256x128_S256x128_S256x512_d1) bitsLt_bf16_f32 (ix2 r c)
      = if (c : ℕ) / 128 = 0 then C1 (ix2 r ⟨c % 128, by omega⟩) else if (c : ℕ) / 128 = 1 then C2 (ix2 r ⟨c % 128, by omega⟩)
        else if (c : ℕ) / 128 = 2 then C3 (ix2 r ⟨c % 128, by omega⟩) else C4 (ix2 r ⟨c % 128, by omega⟩) := by
  pointwise
  have hc : (c : ℕ) < 512 := c.isLt
  have cong : ∀ (C : FVec Ideal S256x128 .f32) (a b : Fin 128), (a : ℕ) = b → C (ix2 r a) = C (ix2 r b) := fun C a b e => by rw [Fin.ext e]
  repeat' split
  all_goals first | omega | exact cong _ _ _ (by first | omega | (simp only; omega))

theorem HD_congr (X0 : Vec Ideal S1x256x512 .bf16) (X1 : Vec Ideal S1x2048x256 .bf16) (X2 : Vec Ideal S1x256x256 .bf16) {off off' ho ho' : ℕ}
    (h₁ : off + 128 ≤ 512) (h₁' : off' + 128 ≤ 512) (h₂ : ho + 64 ≤ 128) (h₂' : ho' + 64 ≤ 128) (r : Fin 256) {l l' : Fin 128}
    (e₁ : off = off') (e₂ : ho = ho') (e₃ : (l : ℕ) = l') : HD X0 X1 X2 off ho h₁ h₂ r l = HD X0 X1 X2 off' ho' h₁' h₂' r l' := by
  subst e₁ e₂; rw [Fin.ext e₃]

theorem val_l (X1 : Vec Ideal S1x2048x256 .bf16) (n : Fin 2048) (l : Fin 256) : k0_pay5 (F := Ideal) X1 (ix2 n l) = X1 (ix3 0 n l) := by
  pointwise [k0_pay5]
theorem val_c (X2 : Vec Ideal S1x256x256 .bf16) (n : Fin 256) (l : Fin 256) : k0_pay6 (F := Ideal) X2 (ix2 n l) = X2 (ix3 0 n l) := by
  pointwise [k0_pay6]

theorem chunk1 (X0 : Vec Ideal S1x256x512 .bf16) (X1 : Vec Ideal S1x2048x256 .bf16) (X2 : Vec Ideal S1x256x256 .bf16) (r : Fin 256) (l : Fin 128) :
    chunk (iota .tc S1x128 32 [1] iota_S1x128_d1_w32) (k0_pay5 X1) (k0_pay6 X2) (k0_pay8 X0 X1) (k0_pay9 X0 X2) (rowMax (k0_pay8 X0 X1) (k0_pay9 X0 X2)) (ix2 r l)
      = if (l : ℕ) < 64 then HD X0 X1 X2 0 0 (by omega) (by omega) r l else HD X0 X1 X2 0 64 (by omega) (by omega) r l := by
  rw [chunk_at]
  simp only [pay8_lo, pay8_hi, pay9_lo, pay9_hi, val_l, val_c]
  rfl

theorem chunk2 (X0 : Vec Ideal S1x256x512 .bf16) (X1 : Vec Ideal S1x2048x256 .bf16) (X2 : Vec Ideal S1x256x256 .bf16) (r : Fin 256) (l : Fin 128) :
    chunk (iota .tc S1x128 32 [1] iota_S1x128_d1_w32) (k0_pay5 X1) (k0_pay6 X2) (k0_pay11 X0 X1) (k0_pay12 X0 X2) (rowMax (k0_pay11 X0 X1) (k0_pay12 X0 X2)) (ix2 r l)
      = if (l : ℕ) < 64 then HD X0 X1 X2 128 0 (by omega) (by omega) r l else HD X0 X1 X2 128 64 (by omega) (by omega) r l := by
  rw [chunk_at]
  simp only [pay11_lo, pay11_hi, pay12_lo, pay12_hi, val_l, val_c]
  rfl

theorem chunk3 (X0 : Vec Ideal S1x256x512 .bf16) (X1 : Vec Ideal S1x2048x256 .bf16) (X2 : Vec Ideal S1x256x256 .bf16) (r : Fin 256) (l : Fin 128) :
    chunk (iota .tc S1x128 32 [1] iota_S1x128_d1_w32) (k0_pay5 X1) (k0_pay6 X2) (k0_pay17 (k0_pay2 X0) k0_pay3 k0_pay4 (k0_pay5 X1)) (k0_pay18 (k0_pay2 X0) k0_pay3 k0_pay4 (k0_pay6 X2)) (rowMax (k0_pay17 (k0_pay2 X0) k0_pay3 k0_pay4 (k0_pay5 X1)) (k0_pay18 (k0_pay2 X0) k0_pay3 k0_pay4 (k0_pay6 X2))) (ix2 r l)
      = if (l : ℕ) < 64 then HD X0 X1 X2 256 0 (by omega) (by omega) r l else HD X0 X1 X2 256 64 (by omega) (by omega) r l := by
  rw [chunk_at]
  simp only [pay17_lo, pay17_hi, pay18_lo, pay18_hi, val_l, val_c]
  rfl

theorem chunk4 (X0 : Vec Ideal S1x256x512 .bf16) (X1 : Vec Ideal S1x2048x256 .bf16) (X2 : Vec Ideal S1x256x256 .bf16) (r : Fin 256) (l : Fin 128) :
    chunk (iota .tc S1x128 32 [1] iota_S1x128_d1_w32) (k0_pay5 X1) (k0_pay6 X2) (k0_pay25 (k0_pay2 X0) k0_pay3 k0_pay4 (k0_pay5 X1)) (k0_pay26 (k0_pay2 X0) k0_pay3 k0_pay4 (k0_pay6 X2)) (rowMax (k0_pay25 (k0_pay2 X0) k0_pay3 k0_pay4 (k0_pay5 X1)) (k0_pay26 (k0_pay2 X0) k0_pay3 k0_pay4 (k0_pay6 X2))) (ix2 r l)
      = if (l : ℕ) < 64 then HD X0 X1 X2 384 0 (by omega) (by omega) r l else HD X0 X1 X2 384 64 (by omega) (by omega) r l := by
  rw [chunk_at]
  simp only [pay25_lo, pay25_hi, pay26_lo, pay26_hi, val_l, val_c]
  rfl

theorem stored_at (X0 : Vec Ideal S1x256x512 .bf16) (X1 : Vec Ideal S1x2048x256 .bf16) (X2 : Vec Ideal S1x256x256 .bf16) (r : Fin 256) (c : Fin 512) :
    stored X0 X1 X2 (ix2 r c)
      = HD X0 X1 X2 (c / 128 * 128) (c / 64 % 2 * 64) (by omega) (by omega) r ⟨c % 128, by omega⟩ := by
  rw [stored_eq, concat_at, chunk1, chunk2, chunk3, chunk4]
  have hc : (c : ℕ) < 512 := c.isLt
  split_ifs <;> exact HD_congr X0 X1 X2 _ _ _ _ r (by omega) (by simp only at *; omega) rfl

end Cert.AttIdeal.Hand

end
-- ==== Proof.AttRefPure.lean ====
/- The attention reference's result, read at an index: each head's row is the plain softmax average of the values. -/
module

public import proofs.«01_k».proof.Proof.Gen.AttRefIdeal.Run
public import proofs.«01_k».proof.Proof.AttSoftmax
public import Idealize.ShloMosaic.Lib.Pointwise

@[expose] public section

set_option maxRecDepth 16384

noncomputable section

namespace Cert.AttRefIdeal.Hand

open Cert.AttRefIdeal Cert.AttRefIdeal.Gen Idealize.ShloMosaic Idealize.ShloMosaic.TcCoe Idealize.SL.Sem Idealize.ShloMosaic.StableHlo

/-- The reference's scores times ln 2, of every head, query and key. -/
def refScore (Q : FVec Ideal S16x2048x512 .bf16) (L : FVec Ideal S16x2048x256 .bf16) (C : FVec Ideal S16x256x256 .bf16) :
    FVec Ideal S16x2x4x2048x2304 .f32 :=
  mulf (transpose S16x2x4x2048x2304 [0, 1, 4, 3, 2] (Host.dotGeneral dot_S16x2304x2x64_S16x2048x2x4x64_S16x2x2304x2048x4_3_4_1_13_02_02 none (shapeCast _ (extf .f32 (concatenate S16x2304x128 1 [⟨S16x2048x128, (extractStridedSlice S16x2048x128 ![0, 0, 0] L slices_S16x2048x256_S16x2048x128_0_0_0)⟩, ⟨S16x256x128, (extractStridedSlice S16x256x128 ![0, 0, 0] C slices_S16x256x256_S16x256x128_0_0_0)⟩] concatenates_S16x2048x128_S16x256x128_S16x2304x128_d1) bitsLt_bf16_f32) shapeCasts_S16x2304x128_S16x2304x2x64) (transpose S16x2048x2x4x64 [0, 1, 3, 2, 4] (shapeCast _ (extf .f32 Q bitsLt_bf16_f32) shapeCasts_S16x2048x512_S16x2048x4x2x64) transposes_S16x2048x4x2x64_S16x2048x2x4x64_0_1_3_2_4)) transposes_S16x2x2304x2048x4_S16x2x4x2048x2304_0_1_4_3_2) (broadcastInDim S16x2x4x2048x2304 ![] bcast_S_S16x2x4x2048x2304 (Host.log (constant S_ .f32 0x40000000#32)))

/-- The powers of e of the scores `T`, less `M`, each row's largest. -/
def refExpM (T : FVec Ideal S16x2x4x2048x2304 .f32) (M : FVec Ideal S16x2x4x2048 .f32) : FVec Ideal S16x2x4x2048x2304 .f32 :=
  Host.exp (subf T (broadcastInDim S16x2x4x2048x2304 ![0, 1, 2, 3, 4] bcast_S16x2x4x2048x1_S16x2x4x2048x2304_0_1_2_3_4 (broadcastInDim S16x2x4x2048x1 ![0, 1, 2, 3] bcast_S16x2x4x2048_S16x2x4x2048x1_0_1_2_3 (maximumf (broadcastInDim S16x2x4x2048 ![] bcast_S_S16x2x4x2048 (constant S_ .f32 0xFF800000#32)) M))))

/-- The powers of e of the scores, the largest subtracted. -/
def refExp (T : FVec Ideal S16x2x4x2048x2304 .f32) : FVec Ideal S16x2x4x2048x2304 .f32 :=
  refExpM T (Host.reduce FloatOps.maximumf T (constant S_ .f32 0xFF800000#32) reducesTo_S16x2x4x2048x2304_S16x2x4x2048_d4 h_S_)

/-- The reference's result over its three arguments. -/
def REF (Q : FVec Ideal S16x2048x512 .bf16) (L : FVec Ideal S16x2048x256 .bf16) (C : FVec Ideal S16x256x256 .bf16) : FVec Ideal S16x2048x512 .bf16 :=
  truncf .bf16 (shapeCast _ (transpose S16x2048x4x2x64 [0, 1, 3, 2, 4] (transpose S16x2048x2x4x64 [0, 4, 1, 3, 2] (Host.dotGeneral dot_S16x2304x2x64_S16x2x4x2048x2304_S16x2x64x4x2048_1_4_3_23_02_01 none (shapeCast _ (extf .f32 (concatenate S16x2304x128 1 [⟨S16x2048x128, (extractStridedSlice S16x2048x128 ![0, 0, 128] L slices_S16x2048x256_S16x2048x128_0_0_128)⟩, ⟨S16x256x128, (extractStridedSlice S16x256x128 ![0, 0, 128] C slices_S16x256x256_S16x256x128_0_0_128)⟩] concatenates_S16x2048x128_S16x256x128_S16x2304x128_d1) bitsLt_bf16_f32) shapeCasts_S16x2304x128_S16x2304x2x64) (Host.divf (refExp (refScore Q L C)) (broadcastInDim S16x2x4x2048x2304 ![0, 1, 2, 3, 4] bcast_S16x2x4x2048x1_S16x2x4x2048x2304_0_1_2_3_4 (broadcastInDim S16x2x4x2048x1 ![0, 1, 2, 3] bcast_S16x2x4x2048_S16x2x4x2048x1_0_1_2_3 (Host.reduceAdd (refExp (refScore Q L C)) (constant S_ .f32 0x00000000#32) reducesTo_S16x2x4x2048x2304_S16x2x4x2048_d4 h_S_))))) transposes_S16x2x64x4x2048_S16x2048x2x4x64_0_4_1_3_2) transposes_S16x2048x2x4x64_S16x2048x4x2x64_0_1_3_2_4) shapeCasts_S16x2048x4x2x64_S16x2048x512) bitsLt_bf16_f32

theorem res_eq (m : (ℓ : Loc nD τ sig) → Buf (Elt Ideal) ℓ) (c : Dev nD) :
    Value.res_main_v33 m c = REF (m ((c.tc : Thread nD τ).loc main_arg0)) (m ((c.tc : Thread nD τ).loc main_arg1)) (m ((c.tc : Thread nD τ).loc main_arg2)) := rfl

/-- The score of query `q` of head `(h, j)` against key `k` of the sequence (`k < 2048`) or of the context. -/
def S (Q : FVec Ideal S16x2048x512 .bf16) (L : FVec Ideal S16x2048x256 .bf16) (C : FVec Ideal S16x256x256 .bf16) (b : Fin 16) (h : Fin 2) (j : Fin 4) (q : Fin 2048) (k : Fin (2048 + 256)) : EReal :=
  Fin.addCases (fun n => ∑ e : Fin 64, (show EReal from Q (ix3 b q ⟨j * 128 + h * 64 + e, by omega⟩)) * L (ix3 b n ⟨h * 64 + e, by omega⟩))
    (fun n => ∑ e : Fin 64, (show EReal from Q (ix3 b q ⟨j * 128 + h * 64 + e, by omega⟩)) * C (ix3 b n ⟨h * 64 + e, by omega⟩)) k

/-- Lane `e` of head `h` of the value at key `k` of the sequence or of the context. -/
def V (L : FVec Ideal S16x2048x256 .bf16) (C : FVec Ideal S16x256x256 .bf16) (b : Fin 16) (h : Fin 2) (e : Fin 64) (k : Fin (2048 + 256)) : EReal :=
  Fin.addCases (fun n => L (ix3 b n ⟨128 + (h * 64 + e), by omega⟩)) (fun n => C (ix3 b n ⟨128 + (h * 64 + e), by omega⟩)) k

theorem bits_two : Ideal.ofBits FTy.f32 1073741824#32 = (2 : EReal) := by
  simp [Ideal.ofBits, Ideal.ieee]
  rw [← EReal.coe_mul]
  show _ = ((2 : ℝ) : EReal)
  congr 1
  norm_num
theorem bits_bot : Ideal.ofBits FTy.f32 4286578688#32 = (⊥ : EReal) := by simp [Ideal.ofBits, Ideal.ieee]

theorem score_at (Q : FVec Ideal S16x2048x512 .bf16) (L : FVec Ideal S16x2048x256 .bf16) (C : FVec Ideal S16x256x256 .bf16) (b : Fin 16) (h : Fin 2) (j : Fin 4) (q : Fin 2048) (k : Fin 2304) :
    refScore Q L C (ix5 b h j q k) = S Q L C b h j q k * Ideal.log 2 := by
  pointwise [refScore]
  rw [bits_two]
  refine congrArg (· * Ideal.log 2) ?_
  refine Fin.addCases (motive := fun k : Fin (2048 + 256) => (∑ x : Fin 64,
        (show EReal from if h_1 : (k : ℕ) < 2048 then L (ix3 b ⟨k, h_1⟩ ⟨h * 64 + x, by omega⟩) else C (ix3 b ⟨k - 2048, by omega⟩ ⟨h * 64 + x, by omega⟩)) *
          Q (ix3 b q ⟨j * 128 + h * 64 + x, by omega⟩)) = S Q L C b h j q k) (fun n => ?_) (fun n => ?_) k
  · unfold S
    rw [Fin.addCases_left]
    refine Finset.sum_congr rfl fun e _ => ?_
    simp only [Fin.val_castAdd, n.isLt, dite_true]
    exact mul_comm _ _
  · unfold S
    rw [Fin.addCases_right]
    refine Finset.sum_congr rfl fun e _ => ?_
    have e1 : ¬ 2048 + (n : ℕ) < 2048 := by omega
    simp only [Fin.val_natAdd, e1, dite_false, Nat.add_sub_cancel_left]
    exact mul_comm _ _

theorem expM_at (T : FVec Ideal S16x2x4x2048x2304 .f32) (M : FVec Ideal S16x2x4x2048 .f32) (b : Fin 16) (h : Fin 2) (j : Fin 4) (q : Fin 2048) (k : Fin 2304) :
    refExpM T M (ix5 b h j q k) = Ideal.exp (T (ix5 b h j q k) - max (Ideal.ofBits FTy.f32 4286578688#32) (M (ix4 b h j q))) := by
  pointwise [refExpM]

theorem max_at (T : FVec Ideal S16x2x4x2048x2304 .f32) (b : Fin 16) (h : Fin 2) (j : Fin 4) (q : Fin 2048) :
    Host.reduce FloatOps.maximumf T (constant S_ .f32 0xFF800000#32) reducesTo_S16x2x4x2048x2304_S16x2x4x2048_d4 h_S_ (ix4 b h j q)
      = Finset.univ.fold max (Ideal.ofBits FTy.f32 4286578688#32) fun k => T (ix5 b h j q k) := by
  pointwise

theorem exp_at (Q : FVec Ideal S16x2048x512 .bf16) (L : FVec Ideal S16x2048x256 .bf16) (C : FVec Ideal S16x256x256 .bf16) (b : Fin 16) (h : Fin 2) (j : Fin 4) (q : Fin 2048) (k : Fin 2304) :
    refExp (refScore Q L C) (ix5 b h j q k)
      = Ideal.exp (S Q L C b h j q k * Ideal.log 2 - max ⊥ (Finset.univ.fold max (⊥ : EReal) fun k => S Q L C b h j q k * Ideal.log 2)) := by
  refine (expM_at _ _ b h j q k).trans ?_
  rw [max_at, bits_bot, score_at]
  simp only [score_at]

theorem ref_open (Q : FVec Ideal S16x2048x512 .bf16) (L : FVec Ideal S16x2048x256 .bf16) (C : FVec Ideal S16x256x256 .bf16) (b : Fin 16) (q : Fin 2048) (c : Fin 512) :
    REF Q L C (ix3 b q c)
      = (∑ x : Fin 2048, (show EReal from L (ix3 b x ⟨128 + (c / 64 % 2 * 64 + c % 64), by omega⟩)) *
          Ideal.div (refExp (refScore Q L C) (ix5 b ⟨c / 64 % 2, by omega⟩ ⟨c / 128, by omega⟩ q ⟨x, by omega⟩))
            (∑ k, refExp (refScore Q L C) (ix5 b ⟨c / 64 % 2, by omega⟩ ⟨c / 128, by omega⟩ q k))) +
      ∑ x : Fin 256, (show EReal from C (ix3 b x ⟨128 + (c / 64 % 2 * 64 + c % 64), by omega⟩)) *
          Ideal.div (refExp (refScore Q L C) (ix5 b ⟨c / 64 % 2, by omega⟩ ⟨c / 128, by omega⟩ q ⟨2048 + x, by omega⟩))
            (∑ k, refExp (refScore Q L C) (ix5 b ⟨c / 64 % 2, by omega⟩ ⟨c / 128, by omega⟩ q k)) := by
  pointwise [REF]

/-- The reference at an index: one row of jax's softmax over the scores of its head. -/
theorem ref_at (Q : FVec Ideal S16x2048x512 .bf16) (L : FVec Ideal S16x2048x256 .bf16) (C : FVec Ideal S16x256x256 .bf16) (b : Fin 16) (q : Fin 2048) (c : Fin 512) :
    REF Q L C (ix3 b q c) = AttSoftmax.refHead (S Q L C b ⟨c / 64 % 2, by omega⟩ ⟨c / 128, by omega⟩ q) (V L C b ⟨c / 64 % 2, by omega⟩ ⟨c % 64, by omega⟩) := by
  rw [ref_open]
  simp only [exp_at]
  unfold AttSoftmax.refHead
  rw [Fin.sum_univ_add]
  refine congrArg₂ (· + ·) (Finset.sum_congr rfl fun x _ => ?_) (Finset.sum_congr rfl fun x _ => ?_)
  · unfold V
    rw [Fin.addCases_left]
    rfl
  · unfold V
    rw [Fin.addCases_right]
    rfl

end Cert.AttRefIdeal.Hand

end
-- ==== Proof.AttPre.lean ====
/- What the precondition `finite_scores` says of the attention's arguments: every number the scores read is a real number. -/
module

public import proofs.«01_k».proof.Proof.Gen.Pre_finite_scores
public import Idealize.ShloMosaic.Lib.Pointwise
public import Idealize.ShloMosaic.Lib.ReduceAll
public import Idealize.ShloMosaic.Lib.Decide

@[expose] public section

set_option maxRecDepth 16384

noncomputable section

namespace Cert.Pre_finite_scores.Hand

open Cert.Pre_finite_scores Idealize.ShloMosaic Idealize.ShloMosaic.TcCoe Idealize.SL.Sem

theorem bits_top : Ideal.ofBits FTy.f32 2139095040#32 = (⊤ : EReal) := by simp [Ideal.ofBits, Ideal.ieee]

/-- An extended real whose absolute value is below infinity is a real number. -/
theorem real_of_lt (x : EReal) (h : Ideal.cmp .olt (max x (-x)) (Ideal.ofBits FTy.f32 2139095040#32) = 1#1) : ∃ r : ℝ, x = r := by
  rw [bits_top] at h
  have h' : max x (-x) < ⊤ := by
    by_contra hn
    simp [Ideal.cmp, hn] at h
  induction x using EReal.rec with
  | bot => simp at h'
  | coe r => exact ⟨r, rfl⟩
  | top => simp at h'

instance : Subsingleton S_.Idx := ⟨fun a b => funext fun i => i.elim0⟩

theorem real (Q : FVec Ideal S16x2048x512 .bf16) (L : FVec Ideal S16x2048x256 .bf16) (C : FVec Ideal S16x256x256 .bf16)
    (h : fn (F := Ideal) Q L C = fun _ => 1#1) :
    (∀ b q l, ∃ r : ℝ, (show EReal from Q (ix3 b q l)) = r)
    ∧ (∀ b n (l : Fin 128), ∃ r : ℝ, (show EReal from L (ix3 b n ⟨l, by omega⟩)) = r)
    ∧ ∀ b n (l : Fin 128), ∃ r : ℝ, (show EReal from C (ix3 b n ⟨l, by omega⟩)) = r := by
  have e := congrFun h (fun i => i.elim0)
  dsimp only [fn, fn_part1] at e
  obtain ⟨e12, e3⟩ := IntOp.andi_eq_one.1 e
  obtain ⟨e1, e2⟩ := IntOp.andi_eq_one.1 e12
  refine ⟨fun b q l => real_of_lt _ (Host.reduce_andi_all _ _ _ _ _ e1 (ix3 b q l)), fun b n l => ?_, fun b n l => ?_⟩
  · have e := Host.reduce_andi_all _ _ _ _ _ e2 (ix3 b n l)
    refine real_of_lt _ (Eq.trans ?_ e)
    pointwise
    rfl
  · have e := Host.reduce_andi_all _ _ _ _ _ e3 (ix3 b n l)
    refine real_of_lt _ (Eq.trans ?_ e)
    pointwise
    rfl

end Cert.Pre_finite_scores.Hand

end
-- ==== Proof.AttFinal.lean ====
/- The attention kernel's result array is the reference's result over the same arguments. -/
module

public import proofs.«01_k».proof.Proof.AttChunks
public import proofs.«01_k».proof.Proof.AttRefPure
public import proofs.«01_k».proof.Proof.AttPre
public import proofs.«01_k».proof.Proof.Gen.AttIdeal.Value

@[expose] public section

set_option maxRecDepth 16384

noncomputable section

namespace Cert.AttIdeal.Hand

open Cert.AttIdeal Cert.AttIdeal.Gen Idealize.ShloMosaic Idealize.ShloMosaic.TcCoe Idealize.SL.Sem
open Idealize.ShloMosaic.Pipeline (Dat)

variable (m : (ℓ : Loc nD τ sig) → Buf (Elt Ideal) ℓ)

theorem idx : ∀ t : Fin cfg0.N, win0_0.index t = ![t.val / 8, t.val % 8, 0] ∧ win0_1.index t = ![t.val / 8, 0, 0] ∧ win0_2.index t = ![t.val / 8, 0, 0]
    ∧ win0_3.index t = ![t.val / 8, t.val % 8, 0] := (by decide +kernel : ∀ t : Fin grid0.N, _)

theorem read_q (c : Dev nD) (t : Fin cfg0.N) (r : Fin 256) (l : Fin 512) (hb : (t : ℕ) / 8 < 16) (hq : (t : ℕ) % 8 * 256 + r < 2048) :
    iblk m c 0 t (ix3 0 r l) = m ((c : Thread nD τ).loc main_arg0) (ix3 ⟨t / 8, hb⟩ ⟨t % 8 * 256 + r, hq⟩ l) := by
  blk_ext [iblk, V, idx t]
theorem read_l (c : Dev nD) (t : Fin cfg0.N) (n : Fin 2048) (l : Fin 256) (hb : (t : ℕ) / 8 < 16) :
    iblk m c 1 t (ix3 0 n l) = m ((c : Thread nD τ).loc main_arg1) (ix3 ⟨t / 8, hb⟩ n l) := by
  blk_ext [iblk, V, idx t]
theorem read_c (c : Dev nD) (t : Fin cfg0.N) (n : Fin 256) (l : Fin 256) (hb : (t : ℕ) / 8 < 16) :
    iblk m c 2 t (ix3 0 n l) = m ((c : Thread nD τ).loc main_arg2) (ix3 ⟨t / 8, hb⟩ n l) := by
  blk_ext [iblk, V, idx t]

/-- A row over blocks that are read out of three arrays is the reference's entry over these arrays. -/
theorem row (Q : FVec Ideal S16x2048x512 .bf16) (L : FVec Ideal S16x2048x256 .bf16) (C : FVec Ideal S16x256x256 .bf16)
    (fin : Cert.Pre_finite_scores.fn (F := Ideal) Q L C = fun _ => 1#1)
    (X0 : Vec Ideal S1x256x512 .bf16) (X1 : Vec Ideal S1x2048x256 .bf16) (X2 : Vec Ideal S1x256x256 .bf16)
    (b : Fin 16) (q : Fin 2048) (r : Fin 256) (hq : ∀ l, X0 (ix3 0 r l) = Q (ix3 b q l)) (hl : ∀ n l, X1 (ix3 0 n l) = L (ix3 b n l))
    (hc : ∀ n l, X2 (ix3 0 n l) = C (ix3 b n l)) (c : Fin 512) :
    HD X0 X1 X2 (c / 128 * 128) (c / 64 % 2 * 64) (by omega) (by omega) r ⟨c % 128, by omega⟩ = AttRefIdeal.Hand.REF Q L C (ix3 b q c) := by
  obtain ⟨rq, rl, rc⟩ := Pre_finite_scores.Hand.real Q L C fin
  rw [AttRefIdeal.Hand.ref_at, ← AttSoftmax.head_eq (by omega)]
  · unfold HD
    congr 1
    · funext n
      simp only [score, AttRefIdeal.Hand.S, Fin.addCases_left, hq, hl]
      refine Finset.sum_congr rfl fun e _ => ?_
      congr 3
      apply Fin.ext
      show (c : ℕ) / 128 * 128 + ((c : ℕ) / 64 % 2 * 64 + e) = (c : ℕ) / 128 * 128 + (c : ℕ) / 64 % 2 * 64 + e
      omega
    · funext n
      simp only [score, AttRefIdeal.Hand.S, Fin.addCases_right, hq, hc]
      refine Finset.sum_congr rfl fun e _ => ?_
      congr 3
      apply Fin.ext
      show (c : ℕ) / 128 * 128 + ((c : ℕ) / 64 % 2 * 64 + e) = (c : ℕ) / 128 * 128 + (c : ℕ) / 64 % 2 * 64 + e
      omega
    · funext n
      simp only [AttRefIdeal.Hand.V, Fin.addCases_left, hl]
      congr 2
      apply Fin.ext
      show 128 + (c : ℕ) % 128 = 128 + ((c : ℕ) / 64 % 2 * 64 + (c : ℕ) % 64)
      omega
    · funext n
      simp only [AttRefIdeal.Hand.V, Fin.addCases_right, hc]
      congr 2
      apply Fin.ext
      show 128 + (c : ℕ) % 128 = 128 + ((c : ℕ) / 64 % 2 * 64 + (c : ℕ) % 64)
      omega
  · have dot : ∀ f g : Fin 64 → EReal, (∀ e, ∃ r : ℝ, f e = r) → (∀ e, ∃ r : ℝ, g e = r) → ∃ r : ℝ, ∑ e, f e * g e = r := by
      intro f g hf hg
      choose f' hf' using hf
      choose g' hg' using hg
      refine ⟨∑ e, f' e * g' e, ?_⟩
      rw [AttSoftmax.coe_sum]
      refine Finset.sum_congr rfl fun e _ => ?_
      rw [hf', hg', EReal.coe_mul]
    intro k
    refine Fin.addCases (fun n => ?_) (fun n => ?_) k
    · rw [AttRefIdeal.Hand.S, Fin.addCases_left]
      exact dot _ _ (fun e => rq _ _ _) (fun e => rl b n ⟨(c : ℕ) / 64 % 2 * 64 + e, by omega⟩)
    · rw [AttRefIdeal.Hand.S, Fin.addCases_right]
      exact dot _ _ (fun e => rq _ _ _) (fun e => rc b n ⟨(c : ℕ) / 64 % 2 * 64 + e, by omega⟩)

theorem pay1_at (v : FVec Ideal S256x512 .bf16) (r : Fin 256) (l : Fin 512) : k0_pay1 (F := Ideal) v (ix3 0 r l) = v (ix2 r l) := by
  pointwise [k0_pay1]

theorem final (c : Dev nD) (fin : Cert.Pre_finite_scores.fn (F := Ideal) (m ((c : Thread nD τ).loc main_arg0)) (m ((c : Thread nD τ).loc main_arg1)) (m ((c : Thread nD τ).loc main_arg2)) = fun _ => 1#1) :
    (dats m 0 c).arrAt 3 (cfgs 0).N
      = AttRefIdeal.Hand.REF (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  unfold_out out0_3
  frame_out
  have ht : (t : ℕ) < 128 := t.isLt
  obtain ⟨r, l, rfl⟩ : ∃ (r : Fin 256) (l : Fin 512), y = ix3 0 r l :=
    ⟨y 1, y 2, (eq_ix3 (n0 := 1) (n1 := 256) (n2 := 512) y).trans (congrArg (fun a : Fin 1 => ix3 a (y 1) (y 2)) (Fin.fin_one_eq_zero (y 0)))⟩
  have e : ((cfg0.win 3).blk t).view.emb (ix3 0 r l) = ix3 ⟨(t : ℕ) / 8, by omega⟩ ⟨(t : ℕ) % 8 * 256 + r, by omega⟩ l := by
    blk_ext [iblk, V, idx t]
  refine Eq.trans ?_ (congrArg (AttRefIdeal.Hand.REF _ _ _) e).symm
  refine Eq.trans ?_ (row _ _ _ fin (iblk m c 0 t) (iblk m c 1 t) (iblk m c 2 t) _ _ r (fun l => read_q m c t r l _ _) (fun n l => read_l m c t n l _) (fun n l => read_c m c t n l _) l)
  refine (pay1_at _ r l).trans ?_
  refine Eq.trans ?_ (stored_at _ _ _ r l)
  rfl

end Cert.AttIdeal.Hand

end
-- ==== Proof.AttAlg.lean ====
/- The attention's value claim, from the two runs and the equality of their results. -/
module

public import proofs.«01_k».proof.Defs
public import proofs.«01_k».proof.Proof.AttFinal
public import Idealize.ShloMosaic.Lib.Claim
public import Idealize.ShloMosaic.Adequacy
public import Idealize.ShloMosaic.Init

@[expose] public section

noncomputable section
namespace Cert.Proof

open Idealize.ShloMosaic Idealize.SL.Sem

/-- The attention kernel's result is the reference's, wherever the scores' arguments are finite. -/
theorem att_algebraic : Cert.algebraic_AttIdeal_AttRefIdeal_pre_finite_scores (hAttIdeal := Cert.AttIdeal.Gen.facts)
    (hAttRefIdeal := Cert.AttRefIdeal.Gen.facts) (hPre_finite_scores := Cert.Pre_finite_scores.Gen.facts) := by
  pair_intro
  · run_from Cert.AttIdeal.Gen.run_main m g
  · run_from Cert.AttRefIdeal.Value.run m' g'
    obtain ⟨h0, h1, h2⟩ := hagree c
    refine (Cert.AttRefIdeal.Hand.res_eq m' c).trans ?_
    rw [h0, h1, h2]
    exact (Cert.AttIdeal.Hand.final m c (hpre c)).symm

end Cert.Proof

end
-- ==== Proof.FfnMath.lean ====
/- The mathematics of one row of the feed-forward on the extended reals, apart from any program: the swish gate written as
   one quotient or as a product with the logistic function, and the norm's gain folded into the modulation or not. -/
module

public import Idealize.ShloMosaic.Lib.Pointwise

@[expose] public section

noncomputable section

namespace Cert.FfnMath

open Idealize.ShloMosaic

/-- The kernel's constants, by their words. -/
abbrev one : EReal := Ideal.ofBits FTy.f32 0x3F800000#32
abbrev width : EReal := Ideal.ofBits FTy.f32 0x44800000#32
abbrev eps : EReal := Ideal.ofBits FTy.f32 0x358637BD#32
abbrev zero : EReal := Ideal.ofBits FTy.f32 0x00000000#32

theorem one_eq : one = 1 := by
  show Ideal.ofBits FTy.f32 0x3F800000#32 = 1
  simp [Ideal.ofBits, Ideal.ieee]
  rw [← EReal.coe_mul]
  show _ = ((1 : ℝ) : EReal)
  congr 1
  norm_num

theorem zero_eq : zero = 0 := by
  show Ideal.ofBits FTy.f32 0x00000000#32 = 0
  simp [Ideal.ofBits, Ideal.ieee]

/-- One power of e is never negative. -/
theorem exp_nonneg (x : EReal) : 0 ≤ Ideal.exp x := by
  induction x using EReal.rec with
  | bot => exact le_refl _
  | top => exact le_top
  | coe r => exact EReal.coe_nonneg.mpr (Real.exp_pos r).le

/-- The gate's denominator is never zero. -/
theorem den_ne (x : EReal) : one + Ideal.exp x ≠ 0 := by
  rw [one_eq]
  have h : (1 : EReal) + 0 ≤ 1 + Ideal.exp x := add_le_add le_rfl (exp_nonneg x)
  rw [add_zero] at h
  exact (lt_of_lt_of_le zero_lt_one h).ne'

/-- A quotient is the product with one over the denominator: the two writings of the swish gate. -/
theorem gate_eq (g : EReal) : Ideal.div g (one + Ideal.exp (zero - g)) = g * Ideal.div one (one + Ideal.exp (-g)) := by
  rw [zero_eq, zero_sub]
  unfold Ideal.div
  rw [if_neg (den_ne _), if_neg (den_ne _), one_eq, one_mul]

/-- The normalised and modulated row, as the kernel multiplies it. -/
def normed (H gain sc sh : Fin 1024 → EReal) (d : Fin 1024) : EReal :=
  H d * Ideal.rsqrt (Ideal.div (∑ k : Fin 1024, H k * H k) width + eps) * (gain d * (one + sc d)) + sh d

/-- … and as the reference does. -/
theorem normed_eq (H gain sc sh : Fin 1024 → EReal) (d : Fin 1024) :
    normed H gain sc sh d = H d * Ideal.rsqrt (Ideal.div (∑ k : Fin 1024, H k * H k) width + eps) * gain d * (one + sc d) + sh d := by
  unfold normed
  rw [mul_assoc (H d * _) (gain d)]

/-- One hidden unit: the swish of the gate column's product times the up column's. -/
def hid (B wg wu : Fin 1024 → EReal) : EReal :=
  Ideal.div (∑ e : Fin 1024, B e * wg e) (one + Ideal.exp (zero - ∑ e : Fin 1024, B e * wg e)) * ∑ e : Fin 1024, B e * wu e

/-- A sum over the 1024 columns of the three mixers side by side, cut where they meet. -/
theorem sum_three (f : Fin 1024 → EReal) :
    ∑ k, f k = (∑ k : Fin 256, f ⟨k, by omega⟩) + (∑ k : Fin 256, f ⟨256 + k, by omega⟩) + ∑ k : Fin 512, f ⟨512 + k, by omega⟩ := by
  refine (Fin.sum_univ_add (a := 512) (b := 512) f).trans (congrArg₂ (· + ·) ?_ rfl)
  exact Fin.sum_univ_add (a := 256) (b := 256) fun k => f (Fin.castAdd 512 k)

/-- A sum over the 2816 hidden units, cut in the two tiles. -/
theorem sum_tiles (f : Fin 2816 → EReal) : ∑ n, f n = (∑ j : Fin 1408, f ⟨j, by omega⟩) + ∑ j : Fin 1408, f ⟨1408 + j, by omega⟩ :=
  Fin.sum_univ_add (a := 1408) (b := 1408) f

end Cert.FfnMath

end
-- ==== Proof.FfnBlock.lean ====
/- What the feed-forward kernel computes of one block, read at an index. -/
module

public import proofs.«01_k».proof.Proof.Gen.FfnIdeal.Frame
public import proofs.«01_k».proof.Proof.FfnMath

@[expose] public section

set_option maxRecDepth 16384

noncomputable section

namespace Cert.FfnIdeal.Hand

open Cert.FfnIdeal Cert.FfnIdeal.Gen Idealize.ShloMosaic Idealize.ShloMosaic.TcCoe Idealize.SL.Sem Cert.FfnMath

/-- The residual after the output projection: three products, one for each mixer's columns. -/
theorem mix_at (v26 : Vec Ideal S512x256 .bf16) (v27 : Vec Ideal S256x1024 .bf16) (v29 : Vec Ideal S512x256 .bf16) (v30 : Vec Ideal S256x1024 .bf16)
    (v33 : Vec Ideal S512x512 .bf16) (v34 : Vec Ideal S512x1024 .bf16) (v37 : Vec Ideal S512x1024 .f32) (v38 : Vec Ideal S1x1x1024 .f32) (r : Fin 512) (d : Fin 1024) :
    k0_pay5 (F := Ideal) v26 v27 v29 v30 v33 v34 v37 v38 (ix2 r d)
      = (show EReal from v37 (ix2 r d)) + (show EReal from v38 (ix3 0 0 d)) *
        ((∑ k : Fin 256, (show EReal from v26 (ix2 r k)) * v27 (ix2 k d)) + (∑ k : Fin 256, (show EReal from v29 (ix2 r k)) * v30 (ix2 k d))
          + ∑ k : Fin 512, (show EReal from v33 (ix2 r k)) * v34 (ix2 k d)) := by
  pointwise [k0_pay5]

theorem keep_at (v26 : Vec Ideal S512x256 .bf16) (v27 : Vec Ideal S256x1024 .bf16) (v29 : Vec Ideal S512x256 .bf16) (v30 : Vec Ideal S256x1024 .bf16)
    (v33 : Vec Ideal S512x512 .bf16) (v34 : Vec Ideal S512x1024 .bf16) (v37 : Vec Ideal S512x1024 .f32) (v38 : Vec Ideal S1x1x1024 .f32) (r : Fin 512) (d : Fin 1024) :
    k0_pay6 (F := Ideal) v26 v27 v29 v30 v33 v34 v37 v38 (ix2 r d) = k0_pay5 (F := Ideal) v26 v27 v29 v30 v33 v34 v37 v38 (ix2 r d) := by
  pointwise [k0_pay6]

theorem scaled_at (v26 : Vec Ideal S512x256 .bf16) (v27 : Vec Ideal S256x1024 .bf16) (v29 : Vec Ideal S512x256 .bf16) (v30 : Vec Ideal S256x1024 .bf16)
    (v33 : Vec Ideal S512x512 .bf16) (v34 : Vec Ideal S512x1024 .bf16) (v37 : Vec Ideal S512x1024 .f32) (v38 : Vec Ideal S1x1x1024 .f32) (r : Fin 512) (d : Fin 1024) :
    k0_pay7 (F := Ideal) v26 v27 v29 v30 v33 v34 v37 v38 (ix2 r d)
      = (show EReal from k0_pay5 (F := Ideal) v26 v27 v29 v30 v33 v34 v37 v38 (ix2 r d)) *
        Ideal.rsqrt (Ideal.div (∑ k : Fin 1024, (show EReal from k0_pay5 (F := Ideal) v26 v27 v29 v30 v33 v34 v37 v38 (ix2 r k)) * k0_pay5 (F := Ideal) v26 v27 v29 v30 v33 v34 v37 v38 (ix2 r k)) width + eps) := by
  pointwise [k0_pay7]

theorem modulated_at (v55 : FVec Ideal S512x1024 .f32) (v56 : Vec Ideal S1x1024 .f32) (v57 v64 : Vec Ideal S1x1x1024 .f32) (r : Fin 512) (d : Fin 1024) :
    k0_pay1 (F := Ideal) v55 v56 v57 v64 (ix2 r d)
      = (show EReal from v55 (ix2 r d)) * ((show EReal from v56 (ix2 0 d)) * (one + v57 (ix3 0 0 d))) + v64 (ix3 0 0 d) := by
  pointwise [k0_pay1]

theorem zeros_at (r : Fin 512) (d : Fin 1024) : k0_pay2 (F := Ideal) (ix2 r d) = (0 : EReal) := by
  pointwise [k0_pay2]

theorem tile_at (v3 : Vec Ideal S512x1024 .bf16) (v4 : Vec Ideal S512x1024 .f32) (v5 v7 : Vec Ideal S1024x1408 .bf16) (v17 : Vec Ideal S1408x1024 .bf16) (r : Fin 512) (d : Fin 1024) :
    k0_pay3 (F := Ideal) v3 v4 v5 v7 v17 (ix2 r d)
      = (show EReal from v4 (ix2 r d)) + ∑ j : Fin 1408, hid (fun e => v3 (ix2 r e)) (fun e => v5 (ix2 e j)) (fun e => v7 (ix2 e j)) * v17 (ix2 j d) := by
  unfold hid
  pointwise [k0_pay3]

theorem gated_at (v26 : Vec Ideal S512x1024 .f32) (v27 : Vec Ideal S1x1x1024 .f32) (v29 : Vec Ideal S512x1024 .f32) (r : Fin 512) (d : Fin 1024) :
    k0_pay4 (F := Ideal) v26 v27 v29 (ix2 r d) = (show EReal from v26 (ix2 r d)) + (show EReal from v27 (ix3 0 0 d)) * v29 (ix2 r d) := by
  pointwise [k0_pay4]

end Cert.FfnIdeal.Hand

end
-- ==== Proof.FfnRefPure.lean ====
/- The feed-forward reference's result, read at an index. -/
module

public import proofs.«01_k».proof.Proof.Gen.FfnRefIdeal.Run
public import proofs.«01_k».proof.Proof.FfnMath

@[expose] public section

set_option maxRecDepth 16384

noncomputable section

namespace Cert.FfnRefIdeal.Hand

open Cert.FfnRefIdeal Cert.FfnRefIdeal.Gen Idealize.ShloMosaic Idealize.ShloMosaic.TcCoe Idealize.SL.Sem Idealize.ShloMosaic.StableHlo Cert.FfnMath

/-- The residual after the output projection of the three mixers side by side. -/
def refH (x0 x1 : FVec Ideal S32768x256 .bf16) (x2 : FVec Ideal S32768x512 .bf16) (x3 : FVec Ideal S1024x1024 .bf16) (x4 : FVec Ideal S32768x1024 .f32) (x5 : FVec Ideal S144x1x1024 .f32) : FVec Ideal S16x2048x1024 .f32 :=
  addf (shapeCast _ x4 shapeCasts_S32768x1024_S16x2048x1024) (mulf (broadcastInDim S16x2048x1024 ![0, 1, 2] bcast_S16x1x1024_S16x2048x1024_0_1_2 (extractStridedSlice S16x1x1024 ![0, 0, 2048] (extractStridedSlice S16x1x6144 ![0, 0, 0] (shapeCast _ x5 shapeCasts_S144x1x1024_S24x1x6144) slices_S24x1x6144_S16x1x6144_0_0_0) slices_S16x1x6144_S16x1x1024_0_0_2048)) (Host.dotGeneral dot_S16x2048x1024_S1024x1024_S16x2048x1024_2_0_01_1_n_n none (shapeCast _ (extf .f32 ((concatenate S32768x1024 1 [⟨S32768x256, (x0 : FVec Ideal S32768x256 .bf16)⟩, ⟨S32768x256, (x1 : FVec Ideal S32768x256 .bf16)⟩, ⟨S32768x512, (x2 : FVec Ideal S32768x512 .bf16)⟩] concatenates_S32768x256_S32768x256_S32768x512_S32768x1024_d1 : FVec Ideal S32768x1024 .bf16)) bitsLt_bf16_f32) shapeCasts_S32768x1024_S16x2048x1024) (extf .f32 x3 bitsLt_bf16_f32)))

/-- The normalised and modulated rows of `H`. -/
def refB (H : FVec Ideal S16x2048x1024 .f32) (x5 : FVec Ideal S144x1x1024 .f32) (x6 : FVec Ideal S1x1024 .f32) : FVec Ideal S16x2048x1024 .f32 :=
  addf (mulf (mulf (mulf H (broadcastInDim S16x2048x1024 ![0, 1, 2] bcast_S16x2048x1_S16x2048x1024_0_1_2 (Host.rsqrt (addf (Host.divf (broadcastInDim S16x2048x1 ![0, 1] bcast_S16x2048_S16x2048x1_0_1 (Host.reduceAdd (mulf H H) (constant S_ .f32 0x00000000#32) reducesTo_S16x2048x1024_S16x2048_d2 h_S_)) (broadcastInDim S16x2048x1 ![] bcast_S_S16x2048x1 (constant S_ .f32 0x44800000#32))) (broadcastInDim S16x2048x1 ![] bcast_S_S16x2048x1 (constant S_ .f32 0x358637BD#32)))))) (broadcastInDim S16x2048x1024 ![0, 1, 2] bcast_S1x1x1024_S16x2048x1024_0_1_2 (broadcastInDim S1x1x1024 ![2] bcast_S1024_S1x1x1024_2 (shapeCast _ x6 shapeCasts_S1x1024_S1024)))) (broadcastInDim S16x2048x1024 ![0, 1, 2] bcast_S16x1x1024_S16x2048x1024_0_1_2 (addf (broadcastInDim S16x1x1024 ![] bcast_S_S16x1x1024 (constant S_ .f32 0x3F800000#32)) (extractStridedSlice S16x1x1024 ![0, 0, 4096] (extractStridedSlice S16x1x6144 ![0, 0, 0] (shapeCast _ x5 shapeCasts_S144x1x1024_S24x1x6144) slices_S24x1x6144_S16x1x6144_0_0_0) slices_S16x1x6144_S16x1x1024_0_0_4096)))) (broadcastInDim S16x2048x1024 ![0, 1, 2] bcast_S16x1x1024_S16x2048x1024_0_1_2 (extractStridedSlice S16x1x1024 ![0, 0, 3072] (extractStridedSlice S16x1x6144 ![0, 0, 0] (shapeCast _ x5 shapeCasts_S144x1x1024_S24x1x6144) slices_S24x1x6144_S16x1x6144_0_0_0) slices_S16x1x6144_S16x1x1024_0_0_3072))

/-- The gate's and the up projection's columns of `B`. -/
def refG (B : FVec Ideal S16x2048x1024 .f32) (x7 : FVec Ideal S1024x5632 .bf16) : FVec Ideal S16x2048x5632 .f32 :=
  Host.dotGeneral dot_S16x2048x1024_S1024x5632_S16x2048x5632_2_0_01_1_n_n none B (extf .f32 x7 bitsLt_bf16_f32)

/-- The hidden units of the two halves of `G`. -/
def refU (G : FVec Ideal S16x2048x5632 .f32) : FVec Ideal S16x2048x2816 .f32 :=
  mulf (mulf (extractStridedSlice S16x2048x2816 ![0, 0, 0] G slices_S16x2048x5632_S16x2048x2816_0_0_0) (Host.divf (broadcastInDim S16x2048x2816 ![] bcast_S_S16x2048x2816 (constant S_ .f32 0x3F800000#32)) (addf (broadcastInDim S16x2048x2816 ![] bcast_S_S16x2048x2816 (constant S_ .f32 0x3F800000#32)) (Host.exp (Host.negf (extractStridedSlice S16x2048x2816 ![0, 0, 0] G slices_S16x2048x5632_S16x2048x2816_0_0_0)))))) (extractStridedSlice S16x2048x2816 ![0, 0, 2816] G slices_S16x2048x5632_S16x2048x2816_0_0_2816)

/-- The down projection and the gated residual. -/
def refF (H : FVec Ideal S16x2048x1024 .f32) (U : FVec Ideal S16x2048x2816 .f32) (x5 : FVec Ideal S144x1x1024 .f32) (x8 : FVec Ideal S2816x1024 .bf16) : FVec Ideal S32768x1024 .f32 :=
  shapeCast _ (addf H (mulf (broadcastInDim S16x2048x1024 ![0, 1, 2] bcast_S16x1x1024_S16x2048x1024_0_1_2 (extractStridedSlice S16x1x1024 ![0, 0, 5120] (extractStridedSlice S16x1x6144 ![0, 0, 0] (shapeCast _ x5 shapeCasts_S144x1x1024_S24x1x6144) slices_S24x1x6144_S16x1x6144_0_0_0) slices_S16x1x6144_S16x1x1024_0_0_5120)) (Host.dotGeneral dot_S16x2048x2816_S2816x1024_S16x2048x1024_2_0_01_1_n_n none U (extf .f32 x8 bitsLt_bf16_f32)))) shapeCasts_S16x2048x1024_S32768x1024

/-- The reference's result over its nine arguments. -/
def REF (x0 x1 : FVec Ideal S32768x256 .bf16) (x2 : FVec Ideal S32768x512 .bf16) (x3 : FVec Ideal S1024x1024 .bf16) (x4 : FVec Ideal S32768x1024 .f32) (x5 : FVec Ideal S144x1x1024 .f32) (x6 : FVec Ideal S1x1024 .f32) (x7 : FVec Ideal S1024x5632 .bf16) (x8 : FVec Ideal S2816x1024 .bf16) : FVec Ideal S32768x1024 .f32 :=
  refF (refH x0 x1 x2 x3 x4 x5) (refU (refG (refB (refH x0 x1 x2 x3 x4 x5) x5 x6) x7)) x5 x8

theorem res_eq (m : (ℓ : Loc nD τ sig) → Buf (Elt Ideal) ℓ) (c : Dev nD) :
    Value.res_main_v48 m c = REF (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)) (m ((c.tc : Thread nD τ).loc main_arg8)) := rfl

/-- Row `i` of the 32768 is row `i % 2048` of sequence `i / 2048`. -/
theorem H_at (x0 x1 : FVec Ideal S32768x256 .bf16) (x2 : FVec Ideal S32768x512 .bf16) (x3 : FVec Ideal S1024x1024 .bf16) (x4 : FVec Ideal S32768x1024 .f32) (x5 : FVec Ideal S144x1x1024 .f32) (b : Fin 16) (q : Fin 2048) (d : Fin 1024) :
    refH x0 x1 x2 x3 x4 x5 (ix3 b q d)
      = (show EReal from x4 (ix2 ⟨b * 2048 + q, by omega⟩ d)) + (show EReal from x5 (ix3 ⟨b * 6 + 2, by omega⟩ 0 d)) *
        ((∑ k : Fin 256, (show EReal from x0 (ix2 ⟨b * 2048 + q, by omega⟩ k)) * x3 (ix2 ⟨k, by omega⟩ d))
          + (∑ k : Fin 256, (show EReal from x1 (ix2 ⟨b * 2048 + q, by omega⟩ k)) * x3 (ix2 ⟨256 + k, by omega⟩ d))
          + ∑ k : Fin 512, (show EReal from x2 (ix2 ⟨b * 2048 + q, by omega⟩ k)) * x3 (ix2 ⟨512 + k, by omega⟩ d)) := by
  pointwise [refH]
  have e : (2048 + (d : ℕ)) / 1024 = 2 := by omega
  simp only [e]
  rw [sum_three]
  have c0 : ∀ k : Fin 256, (k : ℕ) < 256 := fun k => k.isLt
  have c1 : ∀ k : Fin 256, ¬ 256 + (k : ℕ) < 256 := fun k => by omega
  have c2 : ∀ k : Fin 512, ¬ 512 + (k : ℕ) < 256 := fun k => by omega
  have c3 : ∀ k : Fin 512, ¬ 512 + (k : ℕ) - 256 < 256 := fun k => by omega
  have e1 : ∀ k : Fin 256, 256 + (k : ℕ) - 256 = k := fun k => by omega
  have e2 : ∀ k : Fin 512, 512 + (k : ℕ) - 256 - 256 = k := fun k => by omega
  simp only [c0, c1, c2, c3, e1, dite_true, dite_false, e2, Fin.eta]

theorem B_at (H : FVec Ideal S16x2048x1024 .f32) (x5 : FVec Ideal S144x1x1024 .f32) (x6 : FVec Ideal S1x1024 .f32) (b : Fin 16) (q : Fin 2048) (d : Fin 1024) :
    refB H x5 x6 (ix3 b q d) = normed (fun k => H (ix3 b q k)) (fun k => x6 (ix2 0 k)) (fun k => x5 (ix3 ⟨b * 6 + 4, by omega⟩ 0 k)) (fun k => x5 (ix3 ⟨b * 6 + 3, by omega⟩ 0 k)) d := by
  rw [normed_eq]
  pointwise [refB]
  have e4 : (4096 + (d : ℕ)) / 1024 = 4 := by omega
  have e3 : (3072 + (d : ℕ)) / 1024 = 3 := by omega
  simp only [e4, e3]

theorem G_at (B : FVec Ideal S16x2048x1024 .f32) (x7 : FVec Ideal S1024x5632 .bf16) (b : Fin 16) (q : Fin 2048) (n : Fin 5632) :
    refG B x7 (ix3 b q n) = ∑ e : Fin 1024, (show EReal from B (ix3 b q e)) * x7 (ix2 e n) := by
  pointwise [refG]

theorem U_at (G : FVec Ideal S16x2048x5632 .f32) (b : Fin 16) (q : Fin 2048) (n : Fin 2816) :
    refU G (ix3 b q n) = (show EReal from G (ix3 b q ⟨n, by omega⟩)) * Ideal.div one (one + Ideal.exp (-(show EReal from G (ix3 b q ⟨n, by omega⟩)))) * G (ix3 b q ⟨2816 + n, by omega⟩) := by
  pointwise [refU]

theorem F_at (H : FVec Ideal S16x2048x1024 .f32) (U : FVec Ideal S16x2048x2816 .f32) (x5 : FVec Ideal S144x1x1024 .f32) (x8 : FVec Ideal S2816x1024 .bf16) (i : Fin 32768) (d : Fin 1024) :
    refF H U x5 x8 (ix2 i d) = (show EReal from H (ix3 ⟨i / 2048, by omega⟩ ⟨i % 2048, by omega⟩ d)) + (show EReal from x5 (ix3 ⟨i / 2048 * 6 + 5, by omega⟩ 0 d)) *
      ∑ n : Fin 2816, (show EReal from U (ix3 ⟨i / 2048, by omega⟩ ⟨i % 2048, by omega⟩ n)) * x8 (ix2 n d) := by
  pointwise [refF]
  have e : (5120 + (d : ℕ)) / 1024 = 5 := by omega
  simp only [e]

end Cert.FfnRefIdeal.Hand

end
-- ==== Proof.FfnFinal.lean ====
/- The feed-forward kernel's result array is the reference's: the two points of a block of rows, put together. -/
module

public import proofs.«01_k».proof.Proof.FfnBlock
public import proofs.«01_k».proof.Proof.FfnRefPure
public import proofs.«01_k».proof.Proof.Gen.FfnIdeal.Value
public import Idealize.ShloMosaic.Lib.Pipeline.ValueKit
public import Idealize.ShloMosaic.Lib.Pointwise

@[expose] public section

set_option maxRecDepth 16384

noncomputable section

namespace Cert.FfnIdeal.Hand

open Cert.FfnIdeal Cert.FfnIdeal.Gen Idealize.ShloMosaic Idealize.ShloMosaic.TcCoe Idealize.SL.Sem Cert.FfnMath

variable (m : (ℓ : Loc nD τ sig) → Buf (Elt Ideal) ℓ)

theorem idx : ∀ t : Fin cfg0.N, win0_0.index t = ![t.val / 2, 0] ∧ win0_1.index t = ![t.val / 2, 0] ∧ win0_2.index t = ![t.val / 2, 0]
    ∧ win0_3.index t = ![0, 0] ∧ win0_4.index t = ![t.val / 2, 0] ∧ win0_5.index t = ![t.val / 8 * 6 + 2, 0, 0] ∧ win0_6.index t = ![t.val / 8 * 6 + 3, 0, 0]
    ∧ win0_7.index t = ![t.val / 8 * 6 + 4, 0, 0] ∧ win0_8.index t = ![t.val / 8 * 6 + 5, 0, 0] ∧ win0_9.index t = ![0, 0] ∧ win0_10.index t = ![0, t.val % 2]
    ∧ win0_11.index t = ![0, 2 + t.val % 2] ∧ win0_12.index t = ![t.val % 2, 0] ∧ win0_13.index t = ![t.val / 2, 0] :=
  (by decide +kernel : ∀ t : Fin grid0.N, _)

/-- Two readings of one array at equal places. -/
theorem at2 {n0 n1 : ℕ} {α : Type} (f : Shape.Idx ⟨2, ![n0, n1]⟩ → α) {i i' : Fin n0} {j j' : Fin n1} (hi : (i : ℕ) = i') (hj : (j : ℕ) = j') : f (ix2 i j) = f (ix2 i' j') := by
  rw [Fin.ext hi, Fin.ext hj]
theorem at3 {n0 n2 : ℕ} {α : Type} (f : Shape.Idx ⟨3, ![n0, 1, n2]⟩ → α) {i i' : Fin n0} {j : Fin n2} (hi : (i : ℕ) = i') : f (ix3 i 0 j) = f (ix3 i' 0 j) := by
  rw [Fin.ext hi]

/-- What an even point leaves: the residual, -/
theorem kept (c : Dev nD) (s : Fin cfg0.N) (h0 : s.val % 2 = 0) (h1 : ¬ s.val % 2 = 1) :
    (outsAt0 m c s.val s.isLt).2.1 = k0_pay6 (iblk m c 0 s) (View.ld (iblk m c 3 s) (Rect.unit ![0, 0] ![256, 1024] inb_S1024x1024_S256x1024_0_0)) (iblk m c 1 s) (View.ld (iblk m c 3 s) (Rect.unit ![256, 0] ![256, 1024] inb_S1024x1024_S256x1024_256_0)) (iblk m c 2 s) (View.ld (iblk m c 3 s) (Rect.unit ![512, 0] ![512, 1024] inb_S1024x1024_S512x1024_512_0)) (iblk m c 4 s) (iblk m c 5 s) := by
  rw [outsAt0_A m c s h0 h1]
  dsimp only
  unfold sout0_A_0
  frame_out <;> rfl

/-- the normalised rows, -/
theorem rows (c : Dev nD) (s : Fin cfg0.N) (h0 : s.val % 2 = 0) (h1 : ¬ s.val % 2 = 1) :
    (outsAt0 m c s.val s.isLt).2.2.1 = (k0_pay1 (k0_pay7 (iblk m c 0 s) (View.ld (iblk m c 3 s) (Rect.unit ![0, 0] ![256, 1024] inb_S1024x1024_S256x1024_0_0)) (iblk m c 1 s) (View.ld (iblk m c 3 s) (Rect.unit ![256, 0] ![256, 1024] inb_S1024x1024_S256x1024_256_0)) (iblk m c 2 s) (View.ld (iblk m c 3 s) (Rect.unit ![512, 0] ![512, 1024] inb_S1024x1024_S512x1024_512_0)) (iblk m c 4 s) (iblk m c 5 s)) (iblk m c 9 s) (iblk m c 7 s) (iblk m c 6 s)) := by
  rw [outsAt0_A m c s h0 h1]
  dsimp only
  unfold sout0_A_1
  frame_out <;> rfl

/-- and the first tile's part of the sum. -/
theorem part (c : Dev nD) (s : Fin cfg0.N) (h0 : s.val % 2 = 0) (h1 : ¬ s.val % 2 = 1) :
    (outsAt0 m c s.val s.isLt).2.2.2 = k0_pay3 (k0_pay1 (k0_pay7 (iblk m c 0 s) (View.ld (iblk m c 3 s) (Rect.unit ![0, 0] ![256, 1024] inb_S1024x1024_S256x1024_0_0)) (iblk m c 1 s) (View.ld (iblk m c 3 s) (Rect.unit ![256, 0] ![256, 1024] inb_S1024x1024_S256x1024_256_0)) (iblk m c 2 s) (View.ld (iblk m c 3 s) (Rect.unit ![512, 0] ![512, 1024] inb_S1024x1024_S512x1024_512_0)) (iblk m c 4 s) (iblk m c 5 s)) (iblk m c 9 s) (iblk m c 7 s) (iblk m c 6 s)) (k0_pay2 (F := Ideal)) (iblk m c 10 s) (iblk m c 11 s) (iblk m c 12 s) := by
  rw [outsAt0_A m c s h0 h1]
  dsimp only
  unfold sout0_A_2
  frame_out <;> rfl

/-- What the odd point after it writes. -/
theorem written (c : Dev nD) (s t : Fin cfg0.N) (hs : t.val - 1 = s.val) (g0 : s.val % 2 = 0) (g1 : ¬ s.val % 2 = 1) (h0 : ¬ t.val % 2 = 0) (h1 : t.val % 2 = 1) :
    (outsAt0 m c t.val t.isLt).1 = k0_pay4 (k0_pay6 (iblk m c 0 s) (View.ld (iblk m c 3 s) (Rect.unit ![0, 0] ![256, 1024] inb_S1024x1024_S256x1024_0_0)) (iblk m c 1 s) (View.ld (iblk m c 3 s) (Rect.unit ![256, 0] ![256, 1024] inb_S1024x1024_S256x1024_256_0)) (iblk m c 2 s) (View.ld (iblk m c 3 s) (Rect.unit ![512, 0] ![512, 1024] inb_S1024x1024_S512x1024_512_0)) (iblk m c 4 s) (iblk m c 5 s)) (iblk m c 8 t)
      (k0_pay3 (k0_pay1 (k0_pay7 (iblk m c 0 s) (View.ld (iblk m c 3 s) (Rect.unit ![0, 0] ![256, 1024] inb_S1024x1024_S256x1024_0_0)) (iblk m c 1 s) (View.ld (iblk m c 3 s) (Rect.unit ![256, 0] ![256, 1024] inb_S1024x1024_S256x1024_256_0)) (iblk m c 2 s) (View.ld (iblk m c 3 s) (Rect.unit ![512, 0] ![512, 1024] inb_S1024x1024_S512x1024_512_0)) (iblk m c 4 s) (iblk m c 5 s)) (iblk m c 9 s) (iblk m c 7 s) (iblk m c 6 s)) (k0_pay3 (k0_pay1 (k0_pay7 (iblk m c 0 s) (View.ld (iblk m c 3 s) (Rect.unit ![0, 0] ![256, 1024] inb_S1024x1024_S256x1024_0_0)) (iblk m c 1 s) (View.ld (iblk m c 3 s) (Rect.unit ![256, 0] ![256, 1024] inb_S1024x1024_S256x1024_256_0)) (iblk m c 2 s) (View.ld (iblk m c 3 s) (Rect.unit ![512, 0] ![512, 1024] inb_S1024x1024_S512x1024_512_0)) (iblk m c 4 s) (iblk m c 5 s)) (iblk m c 9 s) (iblk m c 7 s) (iblk m c 6 s)) (k0_pay2 (F := Ideal)) (iblk m c 10 s) (iblk m c 11 s) (iblk m c 12 s)) (iblk m c 10 t) (iblk m c 11 t) (iblk m c 12 t)) := by
  obtain ⟨s, ls⟩ := s
  dsimp only at hs
  subst hs
  rw [outsAt0_B m c t h0 h1]
  dsimp only
  unfold out0_B_13
  frame_out
  have k := kept m c ⟨t.val - 1, ls⟩ g0 g1
  have b := rows m c ⟨t.val - 1, ls⟩ g0 g1
  have a := part m c ⟨t.val - 1, ls⟩ g0 g1
  exact congrArg₂ (fun K A => k0_pay4 K (iblk m c 8 t) A) (((Memref.isWhole_whole cc0_scratch0).read_unread _).trans k)
    (congrArg₂ (fun B A => k0_pay3 B A (iblk m c 10 t) (iblk m c 11 t) (iblk m c 12 t)) (((Memref.isWhole_whole cc0_scratch1).read_unread _).trans b)
      (((Memref.isWhole_whole cc0_scratch2).read_unread _).trans a))

section Row

variable (x0 x1 : FVec Ideal S32768x256 .bf16) (x2 : FVec Ideal S32768x512 .bf16) (x3 : FVec Ideal S1024x1024 .bf16) (x4 : FVec Ideal S32768x1024 .f32)
  (x5 : FVec Ideal S144x1x1024 .f32) (x6 : FVec Ideal S1x1024 .f32) (x7 : FVec Ideal S1024x5632 .bf16) (x8 : FVec Ideal S2816x1024 .bf16)
  (X0 : Vec Ideal S512x256 .bf16) (W0 : Vec Ideal S256x1024 .bf16) (X1 : Vec Ideal S512x256 .bf16) (W1 : Vec Ideal S256x1024 .bf16)
  (X2 : Vec Ideal S512x512 .bf16) (W2 : Vec Ideal S512x1024 .bf16) (X4 : Vec Ideal S512x1024 .f32) (X5 X6 X7 X8 : Vec Ideal S1x1x1024 .f32) (X9 : Vec Ideal S1x1024 .f32)
  (b : Fin 16) (q : Fin 2048) (r : Fin 512)

/-- A row of the residual over blocks that are read out of the arrays is the reference's. -/
theorem mix_row
    (h0 : ∀ k, X0 (ix2 r k) = x0 (ix2 ⟨b * 2048 + q, by omega⟩ k)) (h1 : ∀ k, X1 (ix2 r k) = x1 (ix2 ⟨b * 2048 + q, by omega⟩ k))
    (h2 : ∀ k, X2 (ix2 r k) = x2 (ix2 ⟨b * 2048 + q, by omega⟩ k)) (h4 : ∀ d, X4 (ix2 r d) = x4 (ix2 ⟨b * 2048 + q, by omega⟩ d))
    (h5 : ∀ d, X5 (ix3 0 0 d) = x5 (ix3 ⟨b * 6 + 2, by omega⟩ 0 d))
    (w0 : ∀ k d, W0 (ix2 k d) = x3 (ix2 ⟨k, by omega⟩ d)) (w1 : ∀ k d, W1 (ix2 k d) = x3 (ix2 ⟨256 + k, by omega⟩ d)) (w2 : ∀ k d, W2 (ix2 k d) = x3 (ix2 ⟨512 + k, by omega⟩ d))
    (d : Fin 1024) :
    k0_pay5 X0 W0 X1 W1 X2 W2 X4 X5 (ix2 r d) = FfnRefIdeal.Hand.refH x0 x1 x2 x3 x4 x5 (ix3 b q d) := by
  refine (mix_at _ _ _ _ _ _ _ _ r d).trans ?_
  rw [FfnRefIdeal.Hand.H_at]
  simp only [h0, h1, h2, h4, h5, w0, w1, w2]

theorem norm_row (H : FVec Ideal FfnRefIdeal.S16x2048x1024 .f32) (hH : ∀ d, k0_pay5 (F := Ideal) X0 W0 X1 W1 X2 W2 X4 X5 (ix2 r d) = H (ix3 b q d))
    (h6 : ∀ d, X6 (ix3 0 0 d) = x5 (ix3 ⟨b * 6 + 3, by omega⟩ 0 d)) (h7 : ∀ d, X7 (ix3 0 0 d) = x5 (ix3 ⟨b * 6 + 4, by omega⟩ 0 d)) (h9 : ∀ d, X9 (ix2 0 d) = x6 (ix2 0 d))
    (d : Fin 1024) :
    k0_pay1 (k0_pay7 X0 W0 X1 W1 X2 W2 X4 X5) X9 X7 X6 (ix2 r d) = FfnRefIdeal.Hand.refB H x5 x6 (ix3 b q d) := by
  refine (modulated_at _ _ _ _ r d).trans ?_
  rw [FfnRefIdeal.Hand.B_at, scaled_at]
  unfold normed
  simp only [hH, h6, h7, h9]

theorem hid_eq (B : FVec Ideal FfnRefIdeal.S16x2048x1024 .f32) (n : Fin 2816) :
    hid (fun e => B (ix3 b q e)) (fun e => x7 (ix2 e ⟨n, by omega⟩)) (fun e => x7 (ix2 e ⟨2816 + n, by omega⟩)) = FfnRefIdeal.Hand.refU (FfnRefIdeal.Hand.refG B x7) (ix3 b q n) := by
  rw [FfnRefIdeal.Hand.U_at, FfnRefIdeal.Hand.G_at, FfnRefIdeal.Hand.G_at]
  unfold hid
  rw [gate_eq]

/-- Both tiles of the hidden units, and the gated residual. -/
theorem row (Z K : Vec Ideal S512x1024 .f32) (B : Vec Ideal S512x1024 .bf16) (P Q P' Q' : Vec Ideal S1024x1408 .bf16) (R R' : Vec Ideal S1408x1024 .bf16)
    (H RB : FVec Ideal FfnRefIdeal.S16x2048x1024 .f32) (i : Fin 32768) (hb : (b : ℕ) = i / 2048) (hq : (q : ℕ) = i % 2048)
    (hZ : ∀ d, Z (ix2 r d) = (0 : EReal)) (hK : ∀ d, K (ix2 r d) = H (ix3 b q d)) (hB : ∀ d, B (ix2 r d) = RB (ix3 b q d))
    (h8 : ∀ d, X8 (ix3 0 0 d) = x5 (ix3 ⟨b * 6 + 5, by omega⟩ 0 d))
    (p : ∀ e j, P (ix2 e j) = x7 (ix2 e ⟨j, by omega⟩)) (p' : ∀ e j, P' (ix2 e j) = x7 (ix2 e ⟨1408 + j, by omega⟩))
    (hQ : ∀ e j, Q (ix2 e j) = x7 (ix2 e ⟨2816 + j, by omega⟩)) (hQ' : ∀ e j, Q' (ix2 e j) = x7 (ix2 e ⟨2816 + (1408 + j), by omega⟩))
    (hR : ∀ j d, R (ix2 j d) = x8 (ix2 ⟨j, by omega⟩ d)) (hR' : ∀ j d, R' (ix2 j d) = x8 (ix2 ⟨1408 + j, by omega⟩ d)) (d : Fin 1024) :
    k0_pay4 K X8 (k0_pay3 B (k0_pay3 B Z P Q R) P' Q' R') (ix2 r d)
      = FfnRefIdeal.Hand.refF H (FfnRefIdeal.Hand.refU (FfnRefIdeal.Hand.refG RB x7)) x5 x8 (ix2 i d) := by
  refine (gated_at _ _ _ r d).trans ?_
  rw [FfnRefIdeal.Hand.F_at, tile_at, tile_at, hZ, zero_add, sum_tiles]
  have eb : (⟨(i : ℕ) / 2048, by omega⟩ : Fin 16) = b := Fin.ext hb.symm
  have eq : (⟨(i : ℕ) % 2048, by omega⟩ : Fin 2048) = q := Fin.ext hq.symm
  simp only [eb, eq, hK, hB, h8, p, p', hQ, hQ', hR, hR', ← hb]
  simp only [← hid_eq]

end Row

theorem read_0 (c : Dev nD) (t : Fin cfg0.N) (r : Fin 512) (k : Fin 256) (h : (t : ℕ) / 2 * 512 + r < 32768) :
    iblk m c 0 t (ix2 r k) = m ((c : Thread nD τ).loc main_arg0) (ix2 ⟨t / 2 * 512 + r, h⟩ k) := by
  blk_ext [iblk, V, idx t]
theorem read_1 (c : Dev nD) (t : Fin cfg0.N) (r : Fin 512) (k : Fin 256) (h : (t : ℕ) / 2 * 512 + r < 32768) :
    iblk m c 1 t (ix2 r k) = m ((c : Thread nD τ).loc main_arg1) (ix2 ⟨t / 2 * 512 + r, h⟩ k) := by
  blk_ext [iblk, V, idx t]
theorem read_2 (c : Dev nD) (t : Fin cfg0.N) (r : Fin 512) (k : Fin 512) (h : (t : ℕ) / 2 * 512 + r < 32768) :
    iblk m c 2 t (ix2 r k) = m ((c : Thread nD τ).loc main_arg2) (ix2 ⟨t / 2 * 512 + r, h⟩ k) := by
  blk_ext [iblk, V, idx t]
theorem read_4 (c : Dev nD) (t : Fin cfg0.N) (r : Fin 512) (k : Fin 1024) (h : (t : ℕ) / 2 * 512 + r < 32768) :
    iblk m c 4 t (ix2 r k) = m ((c : Thread nD τ).loc main_arg4) (ix2 ⟨t / 2 * 512 + r, h⟩ k) := by
  blk_ext [iblk, V, idx t]
theorem read_5 (c : Dev nD) (t : Fin cfg0.N) (d : Fin 1024) (h : (t : ℕ) / 8 * 6 + 2 < 144) :
    iblk m c 5 t (ix3 0 0 d) = m ((c : Thread nD τ).loc main_arg5) (ix3 ⟨t / 8 * 6 + 2, h⟩ 0 d) := by
  blk_ext [iblk, V, idx t]
theorem read_6 (c : Dev nD) (t : Fin cfg0.N) (d : Fin 1024) (h : (t : ℕ) / 8 * 6 + 3 < 144) :
    iblk m c 6 t (ix3 0 0 d) = m ((c : Thread nD τ).loc main_arg5) (ix3 ⟨t / 8 * 6 + 3, h⟩ 0 d) := by
  blk_ext [iblk, V, idx t]
theorem read_7 (c : Dev nD) (t : Fin cfg0.N) (d : Fin 1024) (h : (t : ℕ) / 8 * 6 + 4 < 144) :
    iblk m c 7 t (ix3 0 0 d) = m ((c : Thread nD τ).loc main_arg5) (ix3 ⟨t / 8 * 6 + 4, h⟩ 0 d) := by
  blk_ext [iblk, V, idx t]
theorem read_8 (c : Dev nD) (t : Fin cfg0.N) (d : Fin 1024) (h : (t : ℕ) / 8 * 6 + 5 < 144) :
    iblk m c 8 t (ix3 0 0 d) = m ((c : Thread nD τ).loc main_arg5) (ix3 ⟨t / 8 * 6 + 5, h⟩ 0 d) := by
  blk_ext [iblk, V, idx t]
theorem read_9 (c : Dev nD) (t : Fin cfg0.N) (d : Fin 1024)  :
    iblk m c 9 t (ix2 0 d) = m ((c : Thread nD τ).loc main_arg6) (ix2 0 d) := by
  blk_ext [iblk, V, idx t]
theorem read_3 (c : Dev nD) (t : Fin cfg0.N) (e d : Fin 1024) : iblk m c 3 t (ix2 e d) = m ((c : Thread nD τ).loc main_arg3) (ix2 e d) := by
  blk_ext [iblk, V, idx t]
theorem read_3a (c : Dev nD) (t : Fin cfg0.N) (k : Fin 256) (d : Fin 1024)  :
    View.ld (iblk m c 3 t) (Rect.unit ![0, 0] ![256, 1024] inb_S1024x1024_S256x1024_0_0) (ix2 k d) = m ((c : Thread nD τ).loc main_arg3) (ix2 ⟨k, by omega⟩ d) := by
  refine (View.ld_unit_apply_of (iblk m c 3 t) _ _ _ (ix2 k d) (ix2 ⟨k, by omega⟩ d) fun a => ?_).trans (read_3 m c t ⟨k, by omega⟩ d)
  match a with
  | ⟨0, _⟩ => exact (Nat.zero_add _).symm
  | ⟨1, _⟩ => exact (Nat.zero_add _).symm
theorem read_3b (c : Dev nD) (t : Fin cfg0.N) (k : Fin 256) (d : Fin 1024)  :
    View.ld (iblk m c 3 t) (Rect.unit ![256, 0] ![256, 1024] inb_S1024x1024_S256x1024_256_0) (ix2 k d) = m ((c : Thread nD τ).loc main_arg3) (ix2 ⟨256 + k, by omega⟩ d) := by
  refine (View.ld_unit_apply_of (iblk m c 3 t) _ _ _ (ix2 k d) (ix2 ⟨256 + k, by omega⟩ d) fun a => ?_).trans (read_3 m c t ⟨256 + k, by omega⟩ d)
  match a with
  | ⟨0, _⟩ => exact rfl
  | ⟨1, _⟩ => exact (Nat.zero_add _).symm
theorem read_3c (c : Dev nD) (t : Fin cfg0.N) (k : Fin 512) (d : Fin 1024)  :
    View.ld (iblk m c 3 t) (Rect.unit ![512, 0] ![512, 1024] inb_S1024x1024_S512x1024_512_0) (ix2 k d) = m ((c : Thread nD τ).loc main_arg3) (ix2 ⟨512 + k, by omega⟩ d) := by
  refine (View.ld_unit_apply_of (iblk m c 3 t) _ _ _ (ix2 k d) (ix2 ⟨512 + k, by omega⟩ d) fun a => ?_).trans (read_3 m c t ⟨512 + k, by omega⟩ d)
  match a with
  | ⟨0, _⟩ => exact rfl
  | ⟨1, _⟩ => exact (Nat.zero_add _).symm
theorem read_10 (c : Dev nD) (t : Fin cfg0.N) (e : Fin 1024) (j : Fin 1408) (h : (t : ℕ) % 2 * 1408 + j < 5632) :
    iblk m c 10 t (ix2 e j) = m ((c : Thread nD τ).loc main_arg7) (ix2 e ⟨t % 2 * 1408 + j, h⟩) := by
  blk_ext [iblk, V, idx t]
theorem read_11 (c : Dev nD) (t : Fin cfg0.N) (e : Fin 1024) (j : Fin 1408) (h : (2 + (t : ℕ) % 2) * 1408 + j < 5632) :
    iblk m c 11 t (ix2 e j) = m ((c : Thread nD τ).loc main_arg7) (ix2 e ⟨(2 + t % 2) * 1408 + j, h⟩) := by
  blk_ext [iblk, V, idx t]
theorem read_12 (c : Dev nD) (t : Fin cfg0.N) (j : Fin 1408) (d : Fin 1024) (h : (t : ℕ) % 2 * 1408 + j < 2816) :
    iblk m c 12 t (ix2 j d) = m ((c : Thread nD τ).loc main_arg8) (ix2 ⟨t % 2 * 1408 + j, h⟩ d) := by
  blk_ext [iblk, V, idx t]

theorem final (c : Dev nD) :
    (dats m 0 c).arrAt 13 (cfgs 0).N = FfnRefIdeal.Hand.REF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (dats m 0 c).arrAt_eq_of_covers 13 _ (by decide +kernel) fun t hf y => ?_
  have h1 : t.val % 2 = 1 := (flush0_13 t).mp hf
  blk_simp
  rw [after0_13]
  have ht : (t : ℕ) < 128 := t.isLt
  obtain ⟨r, d, rfl⟩ : ∃ (r : Fin 512) (d : Fin 1024), y = ix2 r d := ⟨y 0, y 1, eq_ix2 (n0 := 512) (n1 := 1024) y⟩
  have e : ((cfg0.win 13).blk t).view.emb (ix2 r d) = ix2 ⟨(t : ℕ) / 2 * 512 + r, by omega⟩ d := by
    blk_ext [iblk, V, idx t]
  refine Eq.trans ?_ (congrArg (FfnRefIdeal.Hand.REF _ _ _ _ _ _ _ _ _ ) e).symm
  obtain ⟨s, hs⟩ : ∃ s : Fin cfg0.N, (s : ℕ) = t.val - 1 := ⟨⟨t.val - 1, lt_of_le_of_lt (Nat.sub_le _ _) t.isLt⟩, rfl⟩
  have s2 : (s : ℕ) / 2 = t / 2 := by omega
  have s8 : (s : ℕ) / 8 = t / 8 := by omega
  have g0 : (s : ℕ) % 2 = 0 := by omega
  refine (congrFun (written m c s t hs.symm g0 (by omega) (by omega) h1) _).trans ?_
  have mix := mix_row (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) _ _ _ _ _ _ _ _ ⟨(t : ℕ) / 8, by omega⟩ ⟨(t : ℕ) / 2 % 4 * 512 + r, by omega⟩ r
    (fun k => (read_0 m c s r k (by omega)).trans (at2 _ (by dsimp only; omega) rfl))
    (fun k => (read_1 m c s r k (by omega)).trans (at2 _ (by dsimp only; omega) rfl))
    (fun k => (read_2 m c s r k (by omega)).trans (at2 _ (by dsimp only; omega) rfl))
    (fun k => (read_4 m c s r k (by omega)).trans (at2 _ (by dsimp only; omega) rfl))
    (fun d => (read_5 m c s d (by omega)).trans (at3 _ (by dsimp only; omega)))
    (read_3a m c s) (read_3b m c s) (read_3c m c s)
  refine row _ _ _ _ ⟨(t : ℕ) / 8, by omega⟩ ⟨(t : ℕ) / 2 % 4 * 512 + r, by omega⟩ r _ _ _ _ _ _ _ _ _ _ _ ⟨(t : ℕ) / 2 * 512 + r, by omega⟩
    (by dsimp only; omega) (by dsimp only; omega) (fun d => zeros_at r d) (fun d => (keep_at _ _ _ _ _ _ _ _ r d).trans (mix d))
    (fun d => norm_row _ (m ((c : Thread nD τ).loc main_arg6)) _ _ _ _ _ _ _ _ _ _ _ _ _ r _ mix
      (fun d => (read_6 m c s d (by omega)).trans (at3 _ (by dsimp only; omega))) (fun d => (read_7 m c s d (by omega)).trans (at3 _ (by dsimp only; omega)))
      (fun d => read_9 m c s d) d)
    (fun d => read_8 m c t d (by omega))
    (fun e j => (read_10 m c s e j (by omega)).trans (at2 _ rfl (by first | rfl | (dsimp only; omega) | omega)))
    (fun e j => (read_10 m c t e j (by omega)).trans (at2 _ rfl (by first | rfl | (dsimp only; omega) | omega)))
    (fun e j => (read_11 m c s e j (by omega)).trans (at2 _ rfl (by first | rfl | (dsimp only; omega) | omega)))
    (fun e j => (read_11 m c t e j (by omega)).trans (at2 _ rfl (by first | rfl | (dsimp only; omega) | omega)))
    (fun j d => (read_12 m c s j d (by omega)).trans (at2 _ (by first | rfl | (dsimp only; omega) | omega) rfl))
    (fun j d => (read_12 m c t j d (by omega)).trans (at2 _ (by first | rfl | (dsimp only; omega) | omega) rfl)) d

end Cert.FfnIdeal.Hand

end
-- ==== Proof.FfnAlg.lean ====
/- The feed-forward's value claim, from the two runs and the equality of their results. -/
module

public import proofs.«01_k».proof.Defs
public import proofs.«01_k».proof.Proof.FfnFinal
public import Idealize.ShloMosaic.Lib.Claim
public import Idealize.ShloMosaic.Adequacy
public import Idealize.ShloMosaic.Init

@[expose] public section

set_option maxHeartbeats 4000000

noncomputable section
namespace Cert.Proof

open Idealize.ShloMosaic Idealize.SL.Sem

/-- The feed-forward kernel's result is the reference's, for all arguments. -/
theorem ffn_algebraic : Cert.algebraic_FfnIdeal_FfnRefIdeal (hFfnIdeal := Cert.FfnIdeal.Gen.facts) (hFfnRefIdeal := Cert.FfnRefIdeal.Gen.facts) := by
  pair_intro
  · run_from Cert.FfnIdeal.Gen.run_main m g
  · run_from Cert.FfnRefIdeal.Value.run m' g'
    obtain ⟨h0, h1, h2, h3, h4, h5, h6, h7, h8⟩ := hagree c
    refine (Cert.FfnRefIdeal.Hand.res_eq m' c).trans ?_
    rw [h0, h1, h2, h3, h4, h5, h6, h7, h8]
    exact (Cert.FfnIdeal.Hand.final m c).symm

end Cert.Proof

end
-- ==== Proof.ExpIdealRuns.lean ====
/- The experts' call: what its region is launched with, and its body run in each of the four cases a grid point can be in — the tile in
   use or not, at the first or the second half of the hidden units. -/
module

public import proofs.«01_k».proof.Proof.Gen.ExpertsIdeal.Launch
public import proofs.«01_k».proof.Proof.Gen.ExpertsIdeal.Skeleton
public import Idealize.ShloMosaic.Lib.Pipeline.ValueKit
public import Idealize.ShloMosaic.Lib.Claim
public import Idealize.ShloMosaic.Lib.Pipeline.FrameBody
public import Idealize.ShloMosaic.Lib.Ring

@[expose] public section

set_option maxRecDepth 16384

noncomputable section

namespace Cert.ExpertsIdeal.Hand

open Cert.ExpertsIdeal Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two tables, and the conditions on them -/

/-- The table of the tiles' experts and the count of the tiles in use, as the body is handed them. -/
abbrev teM : Memref sig .tc .smem S136 .i32 := Memref.whole main_arg0
abbrev hteM : teM.IsWhole := Memref.isWhole_whole _
abbrev ntM : Memref sig .tc .smem S1 .i32 := Memref.whole main_arg1
abbrev hntM : ntM.IsWhole := Memref.isWhole_whole _

/-- A table's contents on core `c`, and the half of it that the body holds. -/
abbrev TbBuf (c : Dev nD) {S : Shape} {e : EltTy} (M : Memref sig .tc .smem S e) : Type := Buf (Elt F) (M.view.loc (c : Thread nD τ))
abbrev tbPt (c : Dev nD) {S : Shape} {e : EltTy} (M : Memref sig .tc .smem S e) (f : TbBuf (F := F) c M) : sProp 𝕄 :=
  M.view.loc (c : Thread nD τ) ↦{fullShare.right} f

/-- The count of the tiles in use, as the body loads it. -/
abbrev ntWord (c : Dev nD) (xt1 : TbBuf (F := F) c ntM) : BitVec 32 :=
  ntM.view.readAt (Elt F) (Rect.unit (s := S1) ![0] S1.size inb_S1_S1_0).toLoadRect xt1 (Shape.Idx.first (numel1_S1.symm ▸ Nat.one_pos))

/-- The tile of point `i` is below the count `v`. -/
abbrev used (i : grid0.Coords) (v : BitVec 32) : Prop := Scalar.cmpi .slt (BitVec.ofNat 32 (i 0).val) v = 1#1

/-- The body's six conditions, as it computes them. -/
abbrev cond0 (i : grid0.Coords) (v : BitVec 32) : Prop := (Scalar.cmpi .ne (Scalar.extui (Scalar.andi (Scalar.cmpi .slt (BitVec.ofNat 32 (i 0).val) v) (Scalar.cmpi .eq (BitVec.ofNat 32 (i 1).val) 0#32))) 0#32) = 1#1
abbrev cond1 (i : grid0.Coords) (v : BitVec 32) : Prop := (Scalar.cmpi .ne (Scalar.extui (Scalar.cmpi .slt (BitVec.ofNat 32 (i 0).val) v)) 0#32) = 1#1
abbrev cond2 (i : grid0.Coords) : Prop := (Scalar.cmpi .ne (Scalar.extui (Scalar.cmpi .eq (BitVec.ofNat 32 (i 1).val) 0#32)) 0#32) = 1#1
abbrev cond3 (i : grid0.Coords) : Prop := (Scalar.cmpi .ne (Scalar.extui (Scalar.cmpi .sgt (BitVec.ofNat 32 (i 1).val) 0#32)) 0#32) = 1#1
abbrev cond4 (i : grid0.Coords) (v : BitVec 32) : Prop := k0_cond5 i v = 1#1
abbrev cond5 (i : grid0.Coords) (v : BitVec 32) : Prop := k0_cond6 i v = 1#1

/-- A bit widened and compared with zero is the bit. -/
theorem ext_ne (b : BitVec 1) : Scalar.cmpi .ne (Scalar.extui b : BitVec 32) 0#32 = b := by
  revert b; decide
theorem bit_and (a b : BitVec 1) : Scalar.andi a b = 1#1 ↔ a = 1#1 ∧ b = 1#1 := by
  revert a b; decide
theorem bit_not (a : BitVec 1) : Scalar.xori a 1#1 = 1#1 ↔ ¬ a = 1#1 := by
  revert a; decide

/-- The second grid coordinate is zero or one: the comparisons with it decided. -/
theorem f_eq0 (i : grid0.Coords) : Scalar.cmpi .eq (BitVec.ofNat 32 (i 1).val) 0#32 = 1#1 ↔ (i 1).val = 0 := by
  have h : ∀ n : Fin 2, Scalar.cmpi .eq (BitVec.ofNat 32 n.val) 0#32 = 1#1 ↔ n.val = 0 := by decide
  exact h (i 1)
theorem f_gt0 (i : grid0.Coords) : Scalar.cmpi .sgt (BitVec.ofNat 32 (i 1).val) 0#32 = 1#1 ↔ (i 1).val = 1 := by
  have h : ∀ n : Fin 2, Scalar.cmpi .sgt (BitVec.ofNat 32 n.val) 0#32 = 1#1 ↔ n.val = 1 := by decide
  exact h (i 1)
theorem f_eq1 (i : grid0.Coords) : Scalar.cmpi .eq (BitVec.ofNat 32 (i 1).val) 1#32 = 1#1 ↔ (i 1).val = 1 := by
  have h : ∀ n : Fin 2, Scalar.cmpi .eq (BitVec.ofNat 32 n.val) 1#32 = 1#1 ↔ n.val = 1 := by decide
  exact h (i 1)

theorem cond0_iff (i : grid0.Coords) (v : BitVec 32) : cond0 i v ↔ used i v ∧ (i 1).val = 0 := by
  unfold cond0; rw [ext_ne, bit_and, f_eq0]
theorem cond1_iff (i : grid0.Coords) (v : BitVec 32) : cond1 i v ↔ used i v := by
  unfold cond1; rw [ext_ne]
theorem cond2_iff (i : grid0.Coords) : cond2 i ↔ (i 1).val = 0 := by
  unfold cond2; rw [ext_ne, f_eq0]
theorem cond3_iff (i : grid0.Coords) : cond3 i ↔ (i 1).val = 1 := by
  unfold cond3; rw [ext_ne, f_gt0]
theorem cond4_iff (i : grid0.Coords) (v : BitVec 32) : cond4 i v ↔ used i v ∧ (i 1).val = 1 := by
  unfold cond4 k0_cond5; dsimp only; rw [ext_ne, bit_and, f_eq1]
theorem cond5_iff (i : grid0.Coords) (v : BitVec 32) : cond5 i v ↔ ¬ used i v ∧ (i 1).val = 1 := by
  unfold cond5 k0_cond6; dsimp only; rw [ext_ne, bit_and, bit_not, f_eq1]

/-! ## The body on any staging memrefs -/

section
variable (c : Dev nD) (i : grid0.Coords) (arg4 : Memref sig .tc .vmem S512x1024 .f32) (harg4 : arg4.IsWhole) (arg5 : Memref sig .tc .vmem S1x1024x1408 .bf16) (harg5 : arg5.IsWhole) (arg6 : Memref sig .tc .vmem S1x1024x1408 .bf16) (harg6 : arg6.IsWhole) (arg7 : Memref sig .tc .vmem S1x1408x1024 .bf16) (harg7 : arg7.IsWhole) (arg8 : Memref sig .tc .vmem S512x1024 .f32) (harg8 : arg8.IsWhole) (arg9 : Memref sig .tc .vmem S512x1024 .bf16) (harg9 : arg9.IsWhole) (arg10 : Memref sig .tc .vmem S512x1024 .f32) (harg10 : arg10.IsWhole)
  (x0 : Vec F S512x1024 .f32) (x1 : Vec F S1x1024x1408 .bf16) (x2 : Vec F S1x1024x1408 .bf16) (x3 : Vec F S1x1408x1024 .bf16) (xt0 : TbBuf (F := F) c teM) (xt1 : TbBuf (F := F) c ntM)

/-- What the body keeps at every point: the four blocks it reads and its halves of the tables. -/
abbrev kept : sProp 𝕄 :=
  iprop(owns (c : Thread nD τ) arg4 fullShare x0 ∗ owns (c : Thread nD τ) arg5 fullShare x1 ∗ owns (c : Thread nD τ) arg6 fullShare x2 ∗ owns (c : Thread nD τ) arg7 fullShare x3 ∗ tbPt c teM xt0 ∗ tbPt c ntM xt1)

/-- The body, run at a point, ends in `K` — the body's triple with its continuation open. -/
abbrev bodyWp (E : Set ℕ) (K : PUnit → sProp 𝕄) : sProp 𝕄 :=
  wp frame (wpE (defs₀ (F := F)) Variants.none c none) E (cc0_moe_experts i teM hteM ntM hntM arg4 harg4 arg5 harg5 arg6 harg6 arg7 harg7 arg8 harg8 arg9 harg9 arg10 harg10) K

end

end Cert.ExpertsIdeal.Hand

end
-- ==== Proof.ExpIdealFirst.lean ====
/- The experts' call: the body run in one of its cases. -/
module

public import proofs.«01_k».proof.Proof.ExpIdealRuns

@[expose] public section

set_option maxRecDepth 16384

noncomputable section

namespace Cert.ExpertsIdeal.Hand

open Cert.ExpertsIdeal Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (c : Dev nD) (i : grid0.Coords) (arg4 : Memref sig .tc .vmem S512x1024 .f32) (harg4 : arg4.IsWhole) (arg5 : Memref sig .tc .vmem S1x1024x1408 .bf16) (harg5 : arg5.IsWhole) (arg6 : Memref sig .tc .vmem S1x1024x1408 .bf16) (harg6 : arg6.IsWhole) (arg7 : Memref sig .tc .vmem S1x1408x1024 .bf16) (harg7 : arg7.IsWhole) (arg8 : Memref sig .tc .vmem S512x1024 .f32) (harg8 : arg8.IsWhole) (arg9 : Memref sig .tc .vmem S512x1024 .bf16) (harg9 : arg9.IsWhole) (arg10 : Memref sig .tc .vmem S512x1024 .f32) (harg10 : arg10.IsWhole)
  (x0 : Vec F S512x1024 .f32) (x1 : Vec F S1x1024x1408 .bf16) (x2 : Vec F S1x1024x1408 .bf16) (x3 : Vec F S1x1408x1024 .bf16) (xt0 : TbBuf (F := F) c teM) (xt1 : TbBuf (F := F) c ntM)

set_option maxHeartbeats 1000000 in
/-- A tile in use, first half: the rows are kept in the first scratch, the half's product in the second; the output block is untouched. -/
noncomputable def runFirst (hc0 : cond0 i (ntWord c xt1)) (hc1 : cond1 i (ntWord c xt1)) (hc2 : cond2 i) (hc3 : ¬ cond3 i) (hc4 : ¬ cond4 i (ntWord c xt1)) (hc5 : ¬ cond5 i (ntWord c xt1)) :
    Σ' (LS0 : List (View.Piece (Elt F) S512x1024 .bf16)), { LS1 : List (View.Piece (Elt F) S512x1024 .f32) //
      ∀ (xi4 : Vec F S512x1024 .f32) (E : Set ℕ) (K : PUnit → sProp 𝕄),
        iprop(kept c arg4 arg5 arg6 arg7 x0 x1 x2 x3 xt0 xt1 ∗ owns (c : Thread nD τ) arg8 fullShare xi4 ∗ (∃ d, owns (c : Thread nD τ) arg9 fullShare d) ∗ (∃ d, owns (c : Thread nD τ) arg10 fullShare d)
            ∗ (iprop(kept c arg4 arg5 arg6 arg7 x0 x1 x2 x3 xt0 xt1 ∗ owns (c : Thread nD τ) arg8 fullShare xi4 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ bodyWp c i arg4 harg4 arg5 harg5 arg6 harg6 arg7 harg7 arg8 harg8 arg9 harg9 arg10 harg10 E K } := by
  refine ⟨?_, ?_, fun xi4 E K => ?run⟩
  case run =>
    unfold bodyWp; simp only [cc0_moe_experts_eq_skeleton]; unfold cc0_moe_experts_skel
    unfold kept owns
    iintro ⟨⟨⟨%f0, %hf0, H0⟩, ⟨%f1, %hf1, H1⟩, ⟨%f2, %hf2, H2⟩, ⟨%f3, %hf3, H3⟩, HT0, HT1⟩, ⟨%f4, %hf4, H4⟩, ⟨%ds0, %fs0, -, HS0⟩, ⟨%ds1, %fs1, -, HS1⟩, Hk⟩
    obtain rfl := harg4.eq_unread hf0; obtain rfl := harg5.eq_unread hf1; obtain rfl := harg6.eq_unread hf2; obtain rfl := harg7.eq_unread hf3; obtain rfl := harg8.eq_unread hf4
    sl_exec (disch := first | sl_exact hc0 | sl_exact hc1 | sl_exact hc2 | sl_exact hc3 | sl_exact hc4 | sl_exact hc5)
    sl_step
    iapply Hk
    isplitl [H0 H1 H2 H3 HT0 HT1]
    · isplitl [H0]
      · iexists _; isplitr; · ipureintro; exact harg4.read_unread _
        iexact H0
      isplitl [H1]
      · iexists _; isplitr; · ipureintro; exact harg5.read_unread _
        iexact H1
      isplitl [H2]
      · iexists _; isplitr; · ipureintro; exact harg6.read_unread _
        iexact H2
      isplitl [H3]
      · iexists _; isplitr; · ipureintro; exact harg7.read_unread _
        iexact H3
      isplitl [HT0]; · iexact HT0
      iexact HT1
    isplitl [H4]
    · iexists _; isplitr; · ipureintro; exact harg8.read_unread _
      iexact H4
    isplitl [HS0]; · iexists _; iexact HS0
    iexists _; iexact HS1

/-- The first half leaves the rows, rounded, in the first scratch, -/
theorem first_rows  (hc0 : cond0 i (ntWord c xt1)) (hc1 : cond1 i (ntWord c xt1)) (hc2 : cond2 i) (hc3 : ¬ cond3 i) (hc4 : ¬ cond4 i (ntWord c xt1)) (hc5 : ¬ cond5 i (ntWord c xt1)) (f : arg9.view.ty.Contents (Elt F)) :
    arg9.view.read (Elt F) (arg9.view.writes (Elt F) f (runFirst c i arg4 harg4 arg5 harg5 arg6 harg6 arg7 harg7 arg8 harg8 arg9 harg9 arg10 harg10 x0 x1 x2 x3 xt0 xt1 hc0 hc1 hc2 hc3 hc4 hc5).1) = k0_pay1 x0 := by
  refine (View.read_writes_of_cover arg9.view f (Memref.whole cc0_scratch0 : Memref sig .tc .vmem S512x1024 .bf16).view (Memref.whole cc0_scratch0 : Memref sig .tc .vmem S512x1024 .bf16).view.junk (runFirst c i arg4 harg4 arg5 harg5 arg6 harg6 arg7 harg7 arg8 harg8 arg9 harg9 arg10 harg10 x0 x1 x2 x3 xt0 xt1 hc0 hc1 hc2 hc3 hc4 hc5).1
    (fun y => View.cover_of_tiledL (runFirst c i arg4 harg4 arg5 harg5 arg6 harg6 arg7 harg7 arg8 harg8 arg9 harg9 arg10 harg10 x0 x1 x2 x3 xt0 xt1 hc0 hc1 hc2 hc3 hc4 hc5).1 S512x1024.size (by sl_kernel_rfl) y)).trans ?_
  unfold runFirst
  frame_out <;> rfl

/-- and its part of the sum in the second. -/
theorem first_part  (hc0 : cond0 i (ntWord c xt1)) (hc1 : cond1 i (ntWord c xt1)) (hc2 : cond2 i) (hc3 : ¬ cond3 i) (hc4 : ¬ cond4 i (ntWord c xt1)) (hc5 : ¬ cond5 i (ntWord c xt1)) (f : arg10.view.ty.Contents (Elt F)) :
    arg10.view.read (Elt F) (arg10.view.writes (Elt F) f (runFirst c i arg4 harg4 arg5 harg5 arg6 harg6 arg7 harg7 arg8 harg8 arg9 harg9 arg10 harg10 x0 x1 x2 x3 xt0 xt1 hc0 hc1 hc2 hc3 hc4 hc5).2.1) = k0_pay3 (k0_pay1 x0) x1 x2 x3 := by
  refine (View.read_writes_of_cover arg10.view f (Memref.whole cc0_scratch1 : Memref sig .tc .vmem S512x1024 .f32).view (Memref.whole cc0_scratch1 : Memref sig .tc .vmem S512x1024 .f32).view.junk (runFirst c i arg4 harg4 arg5 harg5 arg6 harg6 arg7 harg7 arg8 harg8 arg9 harg9 arg10 harg10 x0 x1 x2 x3 xt0 xt1 hc0 hc1 hc2 hc3 hc4 hc5).2.1
    (fun y => View.cover_of_tiledL (runFirst c i arg4 harg4 arg5 harg5 arg6 harg6 arg7 harg7 arg8 harg8 arg9 harg9 arg10 harg10 x0 x1 x2 x3 xt0 xt1 hc0 hc1 hc2 hc3 hc4 hc5).2.1 S512x1024.size (by sl_kernel_rfl) y)).trans ?_
  unfold runFirst
  frame_out <;> rfl

end

end Cert.ExpertsIdeal.Hand

end
-- ==== Proof.ExpIdealSecond.lean ====
/- The experts' call: the body run in one of its cases. -/
module

public import proofs.«01_k».proof.Proof.ExpIdealRuns

@[expose] public section

set_option maxRecDepth 16384

noncomputable section

namespace Cert.ExpertsIdeal.Hand

open Cert.ExpertsIdeal Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (c : Dev nD) (i : grid0.Coords) (arg4 : Memref sig .tc .vmem S512x1024 .f32) (harg4 : arg4.IsWhole) (arg5 : Memref sig .tc .vmem S1x1024x1408 .bf16) (harg5 : arg5.IsWhole) (arg6 : Memref sig .tc .vmem S1x1024x1408 .bf16) (harg6 : arg6.IsWhole) (arg7 : Memref sig .tc .vmem S1x1408x1024 .bf16) (harg7 : arg7.IsWhole) (arg8 : Memref sig .tc .vmem S512x1024 .f32) (harg8 : arg8.IsWhole) (arg9 : Memref sig .tc .vmem S512x1024 .bf16) (harg9 : arg9.IsWhole) (arg10 : Memref sig .tc .vmem S512x1024 .f32) (harg10 : arg10.IsWhole)
  (x0 : Vec F S512x1024 .f32) (x1 : Vec F S1x1024x1408 .bf16) (x2 : Vec F S1x1024x1408 .bf16) (x3 : Vec F S1x1408x1024 .bf16) (xt0 : TbBuf (F := F) c teM) (xt1 : TbBuf (F := F) c ntM)

set_option maxHeartbeats 1000000 in
/-- A tile in use, second half: the half's product is added to what the second scratch holds and the sum stored in the output block. -/
noncomputable def runSecond (xs0 : Vec F S512x1024 .bf16) (xs1 : Vec F S512x1024 .f32) (hc0 : ¬ cond0 i (ntWord c xt1)) (hc1 : cond1 i (ntWord c xt1)) (hc2 : ¬ cond2 i) (hc3 : cond3 i) (hc4 : cond4 i (ntWord c xt1)) (hc5 : ¬ cond5 i (ntWord c xt1)) :
    Σ' (L4 : List (View.Piece (Elt F) S512x1024 .f32)), { LS1 : List (View.Piece (Elt F) S512x1024 .f32) //
      ∀ (E : Set ℕ) (K : PUnit → sProp 𝕄),
        iprop(kept c arg4 arg5 arg6 arg7 x0 x1 x2 x3 xt0 xt1 ∗ (∃ d, owns (c : Thread nD τ) arg8 fullShare d) ∗ owns (c : Thread nD τ) arg9 fullShare xs0 ∗ owns (c : Thread nD τ) arg10 fullShare xs1
            ∗ (iprop(kept c arg4 arg5 arg6 arg7 x0 x1 x2 x3 xt0 xt1 ∗ (∃ f, arg8.view.loc (c : Thread nD τ) ↦[arg8.view.set]{fullShare} arg8.view.writes (Elt F) f L4) ∗ owns (c : Thread nD τ) arg9 fullShare xs0 ∗ (∃ f, arg10.view.loc (c : Thread nD τ) ↦[arg10.view.set]{fullShare} arg10.view.writes (Elt F) f LS1)) -∗ K ⟨⟩))
          ⊢ bodyWp c i arg4 harg4 arg5 harg5 arg6 harg6 arg7 harg7 arg8 harg8 arg9 harg9 arg10 harg10 E K } := by
  refine ⟨?_, ?_, fun E K => ?run⟩
  case run =>
    unfold bodyWp; simp only [cc0_moe_experts_eq_skeleton]; unfold cc0_moe_experts_skel
    unfold kept owns
    iintro ⟨⟨⟨%f0, %hf0, H0⟩, ⟨%f1, %hf1, H1⟩, ⟨%f2, %hf2, H2⟩, ⟨%f3, %hf3, H3⟩, HT0, HT1⟩, ⟨%d4, %f4, -, H4⟩, ⟨%fs0, %hfs0, HS0⟩, ⟨%fs1, %hfs1, HS1⟩, Hk⟩
    obtain rfl := harg4.eq_unread hf0; obtain rfl := harg5.eq_unread hf1; obtain rfl := harg6.eq_unread hf2; obtain rfl := harg7.eq_unread hf3; obtain rfl := harg9.eq_unread hfs0; obtain rfl := harg10.eq_unread hfs1
    sl_exec (disch := first | sl_exact hc0 | sl_exact hc1 | sl_exact hc2 | sl_exact hc3 | sl_exact hc4 | sl_exact hc5)
    sl_step
    iapply Hk
    isplitl [H0 H1 H2 H3 HT0 HT1]
    · isplitl [H0]
      · iexists _; isplitr; · ipureintro; exact harg4.read_unread _
        iexact H0
      isplitl [H1]
      · iexists _; isplitr; · ipureintro; exact harg5.read_unread _
        iexact H1
      isplitl [H2]
      · iexists _; isplitr; · ipureintro; exact harg6.read_unread _
        iexact H2
      isplitl [H3]
      · iexists _; isplitr; · ipureintro; exact harg7.read_unread _
        iexact H3
      isplitl [HT0]; · iexact HT0
      iexact HT1
    isplitl [H4]; · iexists _; iexact H4
    isplitl [HS0]
    · iexists _; isplitr; · ipureintro; exact harg9.read_unread _
      iexact HS0
    iexists _; iexact HS1

/-- The second half leaves the whole sum in the output block. -/
theorem second_out (xs0 : Vec F S512x1024 .bf16) (xs1 : Vec F S512x1024 .f32) (hc0 : ¬ cond0 i (ntWord c xt1)) (hc1 : cond1 i (ntWord c xt1)) (hc2 : ¬ cond2 i) (hc3 : cond3 i) (hc4 : cond4 i (ntWord c xt1)) (hc5 : ¬ cond5 i (ntWord c xt1)) (f : arg8.view.ty.Contents (Elt F)) :
    arg8.view.read (Elt F) (arg8.view.writes (Elt F) f (runSecond c i arg4 harg4 arg5 harg5 arg6 harg6 arg7 harg7 arg8 harg8 arg9 harg9 arg10 harg10 x0 x1 x2 x3 xt0 xt1 xs0 xs1 hc0 hc1 hc2 hc3 hc4 hc5).1) = k0_pay4 xs0 x1 x2 x3 xs1 := by
  refine (View.read_writes_of_cover arg8.view f (Memref.whole cc0_stg4_0 : Memref sig .tc .vmem S512x1024 .f32).view (Memref.whole cc0_stg4_0 : Memref sig .tc .vmem S512x1024 .f32).view.junk (runSecond c i arg4 harg4 arg5 harg5 arg6 harg6 arg7 harg7 arg8 harg8 arg9 harg9 arg10 harg10 x0 x1 x2 x3 xt0 xt1 xs0 xs1 hc0 hc1 hc2 hc3 hc4 hc5).1
    (fun y => View.cover_of_tiledL (runSecond c i arg4 harg4 arg5 harg5 arg6 harg6 arg7 harg7 arg8 harg8 arg9 harg9 arg10 harg10 x0 x1 x2 x3 xt0 xt1 xs0 xs1 hc0 hc1 hc2 hc3 hc4 hc5).1 S512x1024.size (by sl_kernel_rfl) y)).trans ?_
  unfold runSecond
  frame_out <;> rfl

end

end Cert.ExpertsIdeal.Hand

end
-- ==== Proof.ExpIdealSkip.lean ====
/- The experts' call: the body run in one of its cases. -/
module

public import proofs.«01_k».proof.Proof.ExpIdealRuns

@[expose] public section

set_option maxRecDepth 16384

noncomputable section

namespace Cert.ExpertsIdeal.Hand

open Cert.ExpertsIdeal Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (c : Dev nD) (i : grid0.Coords) (arg4 : Memref sig .tc .vmem S512x1024 .f32) (harg4 : arg4.IsWhole) (arg5 : Memref sig .tc .vmem S1x1024x1408 .bf16) (harg5 : arg5.IsWhole) (arg6 : Memref sig .tc .vmem S1x1024x1408 .bf16) (harg6 : arg6.IsWhole) (arg7 : Memref sig .tc .vmem S1x1408x1024 .bf16) (harg7 : arg7.IsWhole) (arg8 : Memref sig .tc .vmem S512x1024 .f32) (harg8 : arg8.IsWhole) (arg9 : Memref sig .tc .vmem S512x1024 .bf16) (harg9 : arg9.IsWhole) (arg10 : Memref sig .tc .vmem S512x1024 .f32) (harg10 : arg10.IsWhole)
  (x0 : Vec F S512x1024 .f32) (x1 : Vec F S1x1024x1408 .bf16) (x2 : Vec F S1x1024x1408 .bf16) (x3 : Vec F S1x1408x1024 .bf16) (xt0 : TbBuf (F := F) c teM) (xt1 : TbBuf (F := F) c ntM)

set_option maxHeartbeats 1000000 in
/-- A tile not in use, first half: nothing is stored. -/
theorem runSkip (xi4 : Vec F S512x1024 .f32) (hc0 : ¬ cond0 i (ntWord c xt1)) (hc1 : ¬ cond1 i (ntWord c xt1)) (hc4 : ¬ cond4 i (ntWord c xt1)) (hc5 : ¬ cond5 i (ntWord c xt1)) (E : Set ℕ) (K : PUnit → sProp 𝕄) :
        iprop(kept c arg4 arg5 arg6 arg7 x0 x1 x2 x3 xt0 xt1 ∗ owns (c : Thread nD τ) arg8 fullShare xi4
            ∗ (iprop(kept c arg4 arg5 arg6 arg7 x0 x1 x2 x3 xt0 xt1 ∗ owns (c : Thread nD τ) arg8 fullShare xi4) -∗ K ⟨⟩))
          ⊢ bodyWp c i arg4 harg4 arg5 harg5 arg6 harg6 arg7 harg7 arg8 harg8 arg9 harg9 arg10 harg10 E K := by
  unfold bodyWp; simp only [cc0_moe_experts_eq_skeleton]; unfold cc0_moe_experts_skel kept
  iintro ⟨⟨H0, H1, H2, H3, HT0, HT1⟩, H4, Hk⟩
  sl_exec (disch := first | sl_exact hc0 | sl_exact hc1 | sl_exact hc4 | sl_exact hc5)
  sl_step
  iapply Hk
  isplitl [H0 H1 H2 H3 HT0 HT1]
  · isplitl [H0]; · iexact H0
    isplitl [H1]; · iexact H1
    isplitl [H2]; · iexact H2
    isplitl [H3]; · iexact H3
    isplitl [HT0]; · iexact HT0
    iexact HT1
  iexact H4

end

end Cert.ExpertsIdeal.Hand

end
-- ==== Proof.ExpIdealZero.lean ====
/- The experts' call: the body run in one of its cases. -/
module

public import proofs.«01_k».proof.Proof.ExpIdealRuns

@[expose] public section

set_option maxRecDepth 16384

noncomputable section

namespace Cert.ExpertsIdeal.Hand

open Cert.ExpertsIdeal Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (c : Dev nD) (i : grid0.Coords) (arg4 : Memref sig .tc .vmem S512x1024 .f32) (harg4 : arg4.IsWhole) (arg5 : Memref sig .tc .vmem S1x1024x1408 .bf16) (harg5 : arg5.IsWhole) (arg6 : Memref sig .tc .vmem S1x1024x1408 .bf16) (harg6 : arg6.IsWhole) (arg7 : Memref sig .tc .vmem S1x1408x1024 .bf16) (harg7 : arg7.IsWhole) (arg8 : Memref sig .tc .vmem S512x1024 .f32) (harg8 : arg8.IsWhole) (arg9 : Memref sig .tc .vmem S512x1024 .bf16) (harg9 : arg9.IsWhole) (arg10 : Memref sig .tc .vmem S512x1024 .f32) (harg10 : arg10.IsWhole)
  (x0 : Vec F S512x1024 .f32) (x1 : Vec F S1x1024x1408 .bf16) (x2 : Vec F S1x1024x1408 .bf16) (x3 : Vec F S1x1408x1024 .bf16) (xt0 : TbBuf (F := F) c teM) (xt1 : TbBuf (F := F) c ntM)

set_option maxHeartbeats 1000000 in
/-- A tile not in use, second half: the output block is filled with zeros. -/
noncomputable def runZero (hc0 : ¬ cond0 i (ntWord c xt1)) (hc1 : ¬ cond1 i (ntWord c xt1)) (hc4 : ¬ cond4 i (ntWord c xt1)) (hc5 : cond5 i (ntWord c xt1)) :
    { L4 : List (View.Piece (Elt F) S512x1024 .f32) //
      ∀ (E : Set ℕ) (K : PUnit → sProp 𝕄),
        iprop(kept c arg4 arg5 arg6 arg7 x0 x1 x2 x3 xt0 xt1 ∗ (∃ d, owns (c : Thread nD τ) arg8 fullShare d)
            ∗ (iprop(kept c arg4 arg5 arg6 arg7 x0 x1 x2 x3 xt0 xt1 ∗ (∃ f, arg8.view.loc (c : Thread nD τ) ↦[arg8.view.set]{fullShare} arg8.view.writes (Elt F) f L4)) -∗ K ⟨⟩))
          ⊢ bodyWp c i arg4 harg4 arg5 harg5 arg6 harg6 arg7 harg7 arg8 harg8 arg9 harg9 arg10 harg10 E K } := by
  refine ⟨?_, fun E K => ?run⟩
  case run =>
    unfold bodyWp; simp only [cc0_moe_experts_eq_skeleton]; unfold cc0_moe_experts_skel
    unfold kept owns
    iintro ⟨⟨⟨%f0, %hf0, H0⟩, ⟨%f1, %hf1, H1⟩, ⟨%f2, %hf2, H2⟩, ⟨%f3, %hf3, H3⟩, HT0, HT1⟩, ⟨%d4, %f4, -, H4⟩, Hk⟩
    obtain rfl := harg4.eq_unread hf0; obtain rfl := harg5.eq_unread hf1; obtain rfl := harg6.eq_unread hf2; obtain rfl := harg7.eq_unread hf3
    sl_exec (disch := first | sl_exact hc0 | sl_exact hc1 | sl_exact hc4 | sl_exact hc5)
    sl_step
    iapply Hk
    isplitl [H0 H1 H2 H3 HT0 HT1]
    · isplitl [H0]
      · iexists _; isplitr; · ipureintro; exact harg4.read_unread _
        iexact H0
      isplitl [H1]
      · iexists _; isplitr; · ipureintro; exact harg5.read_unread _
        iexact H1
      isplitl [H2]
      · iexists _; isplitr; · ipureintro; exact harg6.read_unread _
        iexact H2
      isplitl [H3]
      · iexists _; isplitr; · ipureintro; exact harg7.read_unread _
        iexact H3
      isplitl [HT0]; · iexact HT0
      iexact HT1
    iexists _; iexact H4

/-- The second half of a tile not in use leaves zeros in the output block. -/
theorem zero_out  (hc0 : ¬ cond0 i (ntWord c xt1)) (hc1 : ¬ cond1 i (ntWord c xt1)) (hc4 : ¬ cond4 i (ntWord c xt1)) (hc5 : cond5 i (ntWord c xt1)) (f : arg8.view.ty.Contents (Elt F)) :
    arg8.view.read (Elt F) (arg8.view.writes (Elt F) f (runZero c i arg4 harg4 arg5 harg5 arg6 harg6 arg7 harg7 arg8 harg8 arg9 harg9 arg10 harg10 x0 x1 x2 x3 xt0 xt1 hc0 hc1 hc4 hc5).1) = k0_pay5 (F := F) := by
  refine (View.read_writes_of_cover arg8.view f (Memref.whole cc0_stg4_0 : Memref sig .tc .vmem S512x1024 .f32).view (Memref.whole cc0_stg4_0 : Memref sig .tc .vmem S512x1024 .f32).view.junk (runZero c i arg4 harg4 arg5 harg5 arg6 harg6 arg7 harg7 arg8 harg8 arg9 harg9 arg10 harg10 x0 x1 x2 x3 xt0 xt1 hc0 hc1 hc4 hc5).1
    (fun y => View.cover_of_tiledL (runZero c i arg4 harg4 arg5 harg5 arg6 harg6 arg7 harg7 arg8 harg8 arg9 harg9 arg10 harg10 x0 x1 x2 x3 xt0 xt1 hc0 hc1 hc4 hc5).1 S512x1024.size (by sl_kernel_rfl) y)).trans ?_
  unfold runZero
  frame_out <;> rfl

end

end Cert.ExpertsIdeal.Hand

end
-- ==== Proof.ExpIdealFrame.lean ====
/- The experts' call: it runs, leaves its arguments alone, and what its output array holds at the end — a block of the result is written
   at the second half of its tile, from what the first half left in the two scratches. -/
module

public import proofs.«01_k».proof.Proof.ExpIdealFirst
public import proofs.«01_k».proof.Proof.ExpIdealSecond
public import proofs.«01_k».proof.Proof.ExpIdealSkip
public import proofs.«01_k».proof.Proof.ExpIdealZero

@[expose] public section

set_option maxRecDepth 16384

noncomputable section

namespace Cert.ExpertsIdeal.Hand

open Cert.ExpertsIdeal Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s TensorCore buffers when the region is entered: as launched (@main is the region alone). -/
abbrev V (c : Dev nD) (b : Ref sig .tc) : Buf (Elt F) ((c : Thread nD τ).loc b) := m ((c : Thread nD τ).loc b)

/-- The function up to the region: the region alone. -/
theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl
theorem V_main_arg4 (c : Dev nD) : V m c main_arg4 = m ((c : Thread nD τ).loc main_arg4) := rfl

/-! ## The prefetched tables, read off the launch memory -/

/-- The tables, as launched. -/
def tbl : pre0.Contents (Elt F) := fun j => V m (0 : Dev nD) (pre0.ref j)
/-- There is one device. -/
theorem V_pre (c : Dev nD) (j : Fin 2) : V m c (pre0.ref j) = tbl m j := by
  obtain rfl : c = 0 := Subsingleton.elim _ _; rfl
/-- Every block the tables name lies in its array. -/
abbrev Ok : Prop := ok0 (F := F) (tbl m)
/-- The tables as contents the pipeline may run on, and the pipeline at them. -/
abbrev adm (hO : Ok m) : (pcfg0 (F := F)).Adm := ⟨tbl m, hO⟩
abbrev cfgM (hO : Ok m) : Pipeline.Cfg sig Λ₀ := cfg0 (adm m hO)

/-- The tables' halves the body is handed. -/
theorem PhiT0_eq (c : Dev nD) : (Pipeline.ΦT pre0 (tbl m) c : sProp 𝕄) = iprop(tbPt c teM (tbl m 0) ∗ tbPt c ntM (tbl m 1)) := by
  unfold Pipeline.ΦT Pipeline.prefHeld
  rw [show (Finset.univ : Finset (Fin 2)) = insert (0 : Fin 2) {(1 : Fin 2)} from by decide,
    bigSep_insert (by decide), bigSep_singleton]
  rfl

/-! ## The windows' blocks -/

/-- Window `w`'s block at point `t`. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- An input window's staging buffer holds its block at every point: the body leaves it there, and where it is not fetched again its block has not moved. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- The arguments end unchanged, read off a run's final arrays. -/
theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).1 0).trans (((dats 0 c).arrAt_in 0 rfl _).trans ((hA c 0).trans (V_main_arg2 m c))),
      ((h c).1 2).trans (((dats 0 c).arrAt_in 2 rfl _).trans ((hA c 2).trans (V_main_arg3 m c))),
      ((h c).1 3).trans (((dats 0 c).arrAt_in 3 rfl _).trans ((hA c 3).trans (V_main_arg4 m c)))⟩) h

/-! ## The schedule -/

/-- A point's coordinates: its tile and its half. -/
theorem coord0 (t : Fin grid0.N) : (grid0.coords t 0).val = t.val / 2 := by
  have ht : t.val < 272 := Nat.lt_of_lt_of_eq t.isLt N_0
  have e0 : (grid0.coords t 0).val = t.val / 2 % 136 := Pipeline.Grid.coords_val t 0 (by decide) rfl
  omega
theorem coord1 (t : Fin grid0.N) : (grid0.coords t 1).val = t.val % 2 := by
  have e1 : (grid0.coords t 1).val = t.val / 1 % 2 := Pipeline.Grid.coords_val t 1 (by decide) rfl
  omega

/-- The output's block is written back at the second half of each tile. -/
theorem flush0_4 (a : (pcfg0 (F := F)).Adm) : ∀ t : Fin (cfg0 a).N, ((cfg0 a).win 4).flush t = true ↔ t.val % 2 = 1 :=
  (fun t => Pipeline.Window.flushOf_reads cc0_transform_4 reads0_4 hreads0_4 0 (by decide) (by decide) (Pipeline.Window.sep_of_coord cc0_transform_4 0 0 (fun _ => rfl) (by decide)) (P := 2) (m := 1) (by decide) rfl t : ∀ t : Fin grid0.N, Pipeline.Window.flushOf grid0 true cc0_transform_4 t = true ↔ t.val % 2 = 1)

/-- An input is staged at every point; -/
theorem live0 (hO : Ok m) : ∀ t : Fin (cfgM m hO).N, (cfgM m hO).idle 0 (grid0.coords t) = false := fun _ => rfl
theorem live1 (hO : Ok m) : ∀ t : Fin (cfgM m hO).N, (cfgM m hO).idle 1 (grid0.coords t) = false := fun _ => rfl
theorem live2 (hO : Ok m) : ∀ t : Fin (cfgM m hO).N, (cfgM m hO).idle 2 (grid0.coords t) = false := fun _ => rfl
theorem live3 (hO : Ok m) : ∀ t : Fin (cfgM m hO).N, (cfgM m hO).idle 3 (grid0.coords t) = false := fun _ => rfl

/-! ## The staging buffers and the scratches -/

/-- The windows' staging buffers at a point. -/
abbrev ms0_0 (hO : Ok m) (t : Fin (cfgM m hO).N) : Memref sig .tc .vmem S512x1024 .f32 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x1024x1408 .bf16 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x1024x1408 .bf16 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x1408x1024 .bf16 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S512x1024 .f32 := spec0_4.stage ((cfgM m hO).slots t 4)
abbrev hs0_4 (hO : Ok m) (t : Fin (cfgM m hO).N) : (ms0_4 m hO t).IsWhole := hstage0_4 (((cfgM m hO).slots t 4).cast nbuf0_4)

/-- The body at a point. -/
abbrev bodyAt0 (a : (pcfg0 (F := F)).Adm) (t : Fin (cfg0 a).N) : Prog (TpuEff nD τ sig (Elt F) Λ₀ .tc) PUnit :=
  cc0_moe_experts (grid0.coords t) teM hteM ntM hntM (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (Memref.whole cc0_scratch0) (Memref.isWhole_whole _) (Memref.whole cc0_scratch1) (Memref.isWhole_whole _)

/-- The two scratches. -/
abbrev scM0_0 : Memref sig .tc .vmem S512x1024 .bf16 := Memref.whole cc0_scratch0
abbrev scM0_1 : Memref sig .tc .vmem S512x1024 .f32 := Memref.whole cc0_scratch1

/-- What the region is launched with beside the windows: the scratches at anything, and the generator register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-! ## What is kept between the points -/

/-- The count of the tiles in use, and whether tile `n` is one of them. -/
abbrev count (c : Dev nD) : BitVec 32 := ntWord (F := F) c (tbl m 1)
abbrev usedT (c : Dev nD) (n : ℕ) : Prop := Scalar.cmpi .slt (BitVec.ofNat 32 n) (count m c) = 1#1

/-- The point before, and the first point of a tile. -/
def prev (hO : Ok m) (n : ℕ) (h : n ≤ (cfgM m hO).N) : Fin (cfgM m hO).N := ⟨n - 1, by have : (cfgM m hO).N = 272 := N_0; omega⟩

/-- The rows a point stages, rounded, and the product of its half of the hidden units. -/
def rowsAt (hO : Ok m) (c : Dev nD) (t : Fin (cfgM m hO).N) : Vec F S512x1024 .bf16 := k0_pay1 (iblk m hO c 0 t)
def partAt (hO : Ok m) (c : Dev nD) (t : Fin (cfgM m hO).N) : Vec F S512x1024 .f32 := k0_pay3 (rowsAt m hO c t) (iblk m hO c 1 t) (iblk m hO c 2 t) (iblk m hO c 3 t)

/-- The block written at a second half: the sum of the two halves' products for a tile in use, zeros for another. -/
def outAt (hO : Ok m) (c : Dev nD) (t : Fin (cfgM m hO).N) : Vec F S512x1024 .f32 :=
  if usedT m c (t.val / 2) then
    k0_pay4 (rowsAt m hO c (prev m hO t.val (Nat.le_of_lt t.isLt))) (iblk m hO c 1 t) (iblk m hO c 2 t) (iblk m hO c 3 t) (partAt m hO c (prev m hO t.val (Nat.le_of_lt t.isLt)))
  else k0_pay5

/-- The scratches before point `n`: within a tile in use, what its first half left; at anything otherwise. -/
def scr (hO : Ok m) (c : Dev nD) (n : ℕ) (h : n ≤ (cfgM m hO).N) : sProp 𝕄 :=
  if n % 2 = 1 ∧ usedT m c (n / 2) then
    iprop(owns (c : Thread nD τ) scM0_0 fullShare (rowsAt m hO c (prev m hO n h)) ∗ owns (c : Thread nD τ) scM0_1 fullShare (partAt m hO c (prev m hO n h)))
  else iprop((∃ d, owns (c : Thread nD τ) scM0_0 fullShare d) ∗ (∃ d, owns (c : Thread nD τ) scM0_1 fullShare d))

theorem scr_named (hO : Ok m) (c : Dev nD) (n : ℕ) {h : n ≤ (cfgM m hO).N} (hu : n % 2 = 1 ∧ usedT m c (n / 2)) :
    scr m hO c n h = iprop(owns (c : Thread nD τ) scM0_0 fullShare (rowsAt m hO c (prev m hO n h)) ∗ owns (c : Thread nD τ) scM0_1 fullShare (partAt m hO c (prev m hO n h))) := if_pos hu
theorem scr_any (hO : Ok m) (c : Dev nD) (n : ℕ) {h : n ≤ (cfgM m hO).N} (hu : ¬ (n % 2 = 1 ∧ usedT m c (n / 2))) :
    scr m hO c n h = iprop((∃ d, owns (c : Thread nD τ) scM0_0 fullShare d) ∗ (∃ d, owns (c : Thread nD τ) scM0_1 fullShare d)) := if_neg hu

/-- All that is kept before point `n`: the scratches, the generator register, the tables' halves. -/
def PhiS (hO : Ok m) (c : Dev nD) (n : ℕ) (h : n ≤ (cfgM m hO).N) : sProp 𝕄 :=
  iprop(iprop(scr m hO c n h ∗ (∃ r, prngReg c r)) ∗ Pipeline.ΦT pre0 (tbl m) c)

/-- The data of the proof: what each window holds after each point, and what is kept between the points. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => outAt m hO c t
  Φ t := PhiS m hO c t.val (Nat.le_of_lt_succ t.isLt)
  q w := Pipeline.shareOf spec0 w
  owed _ := 0

theorem A_eq (hO : Ok m) (c : Dev nD) (w : Fin (cfgM m hO).W) : (dats m hO 0 c).A w = V m c (Pipeline.arrRef spec0 w) := by
  dsimp only [dats]

theorem PhiS_castSucc (hO : Ok m) (c : Dev nD) (t : Fin (cfgM m hO).N) :
    (dats m hO 0 c).Φ t.castSucc = PhiS m hO c t.val (Nat.le_of_lt t.isLt) := by
  dsimp only [dats]; exact Pipeline.Dat.Φ_castSucc (PhiS m hO c) t

theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = outAt m hO c t := by dsimp only [dats]; try rfl

theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d

/-- What the body is called with at point `t` , -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d)))

/-- and what it returns. -/
def bodyPost (hO : Ok m) (c : Dev nD) (t : Fin (cfgM m hO).N) : sProp 𝕄 :=
  iprop((dats m hO 0 c).Φ t.succ ∗ (dats m hO 0 c).owesAt () t.succ
    ∗ (dats m hO 0 c).leavesExact 0 t
    ∗ (dats m hO 0 c).leavesExact 1 t
    ∗ (dats m hO 0 c).leavesExact 2 t
    ∗ (dats m hO 0 c).leavesExact 3 t
    ∗ (dats m hO 0 c).leavesExact 4 t)

/-- The output's window is idle at a first half, whatever the tables hold, and not at a second. -/
theorem idle_first (i : grid0.Coords) (h : (i 1).val = 0) (v : BitVec 32) : (!(k0_cond5 i v == 1#1) && !(k0_cond6 i v == 1#1)) = true := by
  have a : ¬ k0_cond5 i v = 1#1 := fun hc => by have := ((cond4_iff _ v).mp hc).2; omega
  have b : ¬ k0_cond6 i v = 1#1 := fun hc => by have := ((cond5_iff _ v).mp hc).2; omega
  rw [beq_eq_false_iff_ne.mpr a, beq_eq_false_iff_ne.mpr b]; rfl
theorem live_second (i : grid0.Coords) (h : (i 1).val = 1) (v : BitVec 32) : (!(k0_cond5 i v == 1#1) && !(k0_cond6 i v == 1#1)) = false := by
  by_cases hu : used i v
  · have a : k0_cond5 i v = 1#1 := (cond4_iff _ _).mpr ⟨hu, h⟩
    rw [beq_iff_eq.mpr a]; rfl
  · have b : k0_cond6 i v = 1#1 := (cond5_iff _ _).mpr ⟨hu, h⟩
    rw [beq_iff_eq.mpr b]; exact Bool.and_false _
theorem idle4 (hO : Ok m) (t : Fin (cfgM m hO).N) (h : t.val % 2 = 0) : (cfgM m hO).idle 4 (grid0.coords t) = true :=
  idle_first (grid0.coords t) ((coord1 t).trans h) _
theorem live4 (hO : Ok m) (t : Fin (cfgM m hO).N) (h : t.val % 2 = 1) : (cfgM m hO).idle 4 (grid0.coords t) = false :=
  live_second (grid0.coords t) ((coord1 t).trans h) _
theorem keep4 (hO : Ok m) (t : Fin (cfgM m hO).N) (h : t.val % 2 = 0) : ((cfgM m hO).win 4).flush t = false := by
  rw [← Bool.not_eq_true, flush0_4]; omega

set_option maxHeartbeats 3200000 in
/-- The body at any point, by the half it is at and whether its tile is in use. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3]
  rw [show (dats m hO 0 c).owesAt () t.succ = (dats m hO 0 c).owesAt () t.castSucc from rfl]
  rw [show (dats m hO 0 c).Φ t.succ = PhiS m hO c (t.val + 1) t.isLt from rfl, PhiS_castSucc]
  unfold PhiS
  rw [PhiT0_eq]
  have hN : t.val < 272 := lt_of_lt_of_eq t.isLt (show (cfgM m hO).N = 272 from N_0)
  have e0 := coord0 t
  have e1 := coord1 t
  have hus : used (grid0.coords t) (ntWord (F := F) c (tbl m 1)) ↔ usedT m c (t.val / 2) := by unfold used; rw [e0]
  rw [show (dats m hO 0 c).leavesExact 0 t = owns (c : Thread nD τ) (ms0_0 m hO t) fullShare ((dats m hO 0 c).after 0 t) from by
    unfold Dat.leavesExact; rw [live0 m hO t]; try rfl, after0_0]
  rw [show (dats m hO 0 c).leavesExact 1 t = owns (c : Thread nD τ) (ms0_1 m hO t) fullShare ((dats m hO 0 c).after 1 t) from by
    unfold Dat.leavesExact; rw [live1 m hO t]; try rfl, after0_1]
  rw [show (dats m hO 0 c).leavesExact 2 t = owns (c : Thread nD τ) (ms0_2 m hO t) fullShare ((dats m hO 0 c).after 2 t) from by
    unfold Dat.leavesExact; rw [live2 m hO t]; try rfl, after0_2]
  rw [show (dats m hO 0 c).leavesExact 3 t = owns (c : Thread nD τ) (ms0_3 m hO t) fullShare ((dats m hO 0 c).after 3 t) from by
    unfold Dat.leavesExact; rw [live3 m hO t]; try rfl, after0_3]
  by_cases h2 : t.val % 2 = 0
  · rw [Dat.leavesExact_idle (dats m hO 0 c) 4 t (idle4 m hO t h2) (keep4 m hO t h2)]
    rw [scr_any m hO c t.val (fun h => by have := h.1; omega)]
    by_cases hu : usedT m c (t.val / 2)
    · rw [scr_named m hO c (t.val + 1) ⟨by omega, by rw [show (t.val + 1) / 2 = t.val / 2 by omega]; exact hu⟩]
      rw [show prev m hO (t.val + 1) t.isLt = t from Fin.ext rfl]
      have c0 : cond0 (grid0.coords t) (ntWord (F := F) c (tbl m 1)) := (cond0_iff _ _).mpr ⟨hus.mpr hu, by omega⟩
      have c1 : cond1 (grid0.coords t) (ntWord (F := F) c (tbl m 1)) := (cond1_iff _ _).mpr (hus.mpr hu)
      have c2 : cond2 (grid0.coords t) := (cond2_iff _).mpr (by omega)
      have c3 : ¬ cond3 (grid0.coords t) := fun h => by have := (cond3_iff _).mp h; omega
      have c4 : ¬ cond4 (grid0.coords t) (ntWord (F := F) c (tbl m 1)) := fun h => by have := ((cond4_iff _ _).mp h).2; omega
      have c5 : ¬ cond5 (grid0.coords t) (ntWord (F := F) c (tbl m 1)) := fun h => by have := ((cond5_iff _ _).mp h).2; omega
      iintro ⟨⟨⟨⟨HS0, HS1⟩, Hg⟩, ⟨HT0, HT1⟩⟩, Ho, ⟨%d0, H0⟩, ⟨%d1, H1⟩, ⟨%d2, H2⟩, ⟨%d3, H3⟩, ⟨%d4, H4⟩⟩
      iapply ((runFirst c (grid0.coords t) _ _ _ _ _ _ _ _ _ _ _ _ _ _ (iblk m hO c 0 t) (iblk m hO c 1 t) (iblk m hO c 2 t) (iblk m hO c 3 t) (tbl m 0) (tbl m 1) c0 c1 c2 c3 c4 c5).2.2 _ Set.univ _)
      unfold kept
      isplitl [H0 H1 H2 H3 HT0 HT1]
      · isplitl [H0]; · iexact H0
        isplitl [H1]; · iexact H1
        isplitl [H2]; · iexact H2
        isplitl [H3]; · iexact H3
        isplitl [HT0]; · iexact HT0
        iexact HT1
      isplitl [H4]; · iexact H4
      isplitl [HS0]; · iexact HS0
      isplitl [HS1]; · iexact HS1
      iintro ⟨⟨H0, H1, H2, H3, HT0, HT1⟩, H4, ⟨%es0, HS0⟩, ⟨%es1, HS1⟩⟩
      isplitl [HS0 HS1 Hg HT0 HT1]
      · isplitl [HS0 HS1 Hg]
        · isplitl [HS0 HS1]
          · isplitl [HS0]
            · unfold owns; iexists _; isplitr
              swap; · iexact HS0
              ipureintro; exact first_rows c _ _ _ _ _ _ _ _ _ _ _ _ _ _ _ _ _ _ _ _ _ _ _ _ _ _ _ _
            unfold owns; iexists _; isplitr
            swap; · iexact HS1
            ipureintro; exact first_part c _ _ _ _ _ _ _ _ _ _ _ _ _ _ _ _ _ _ _ _ _ _ _ _ _ _ _ _
          iexact Hg
        isplitl [HT0]; · iexact HT0
        iexact HT1
      isplitl [Ho]; · iexact Ho
      isplitl [H0]; · iexact H0
      isplitl [H1]; · iexact H1
      isplitl [H2]; · iexact H2
      isplitl [H3]; · iexact H3
      iexists _; iexact H4
    · rw [scr_any m hO c (t.val + 1) (fun h => hu (by have := h.2; rwa [show (t.val + 1) / 2 = t.val / 2 by omega] at this))]
      have c0 : ¬ cond0 (grid0.coords t) (ntWord (F := F) c (tbl m 1)) := fun h => hu (hus.mp ((cond0_iff _ _).mp h).1)
      have c1 : ¬ cond1 (grid0.coords t) (ntWord (F := F) c (tbl m 1)) := fun h => hu (hus.mp ((cond1_iff _ _).mp h))
      have c4 : ¬ cond4 (grid0.coords t) (ntWord (F := F) c (tbl m 1)) := fun h => by have := ((cond4_iff _ _).mp h).2; omega
      have c5 : ¬ cond5 (grid0.coords t) (ntWord (F := F) c (tbl m 1)) := fun h => by have := ((cond5_iff _ _).mp h).2; omega
      iintro ⟨⟨⟨⟨HS0, HS1⟩, Hg⟩, ⟨HT0, HT1⟩⟩, Ho, ⟨%d0, H0⟩, ⟨%d1, H1⟩, ⟨%d2, H2⟩, ⟨%d3, H3⟩, ⟨%d4, H4⟩⟩
      iapply (runSkip c (grid0.coords t) _ _ _ _ _ _ _ _ _ _ _ _ _ _ (iblk m hO c 0 t) (iblk m hO c 1 t) (iblk m hO c 2 t) (iblk m hO c 3 t) (tbl m 0) (tbl m 1) _ c0 c1 c4 c5 Set.univ _)
      unfold kept
      isplitl [H0 H1 H2 H3 HT0 HT1]
      · isplitl [H0]; · iexact H0
        isplitl [H1]; · iexact H1
        isplitl [H2]; · iexact H2
        isplitl [H3]; · iexact H3
        isplitl [HT0]; · iexact HT0
        iexact HT1
      isplitl [H4]; · iexact H4
      iintro ⟨⟨H0, H1, H2, H3, HT0, HT1⟩, H4⟩
      isplitl [HS0 HS1 Hg HT0 HT1]
      · isplitl [HS0 HS1 Hg]
        · isplitl [HS0 HS1]
          · isplitl [HS0]; · iexact HS0
            iexact HS1
          iexact Hg
        isplitl [HT0]; · iexact HT0
        iexact HT1
      isplitl [Ho]; · iexact Ho
      isplitl [H0]; · iexact H0
      isplitl [H1]; · iexact H1
      isplitl [H2]; · iexact H2
      isplitl [H3]; · iexact H3
      iexists _; iexact H4
  · rw [scr_any m hO c (t.val + 1) (fun h => by have := h.1; omega)]
    rw [show (dats m hO 0 c).leavesExact 4 t = owns (c : Thread nD τ) (ms0_4 m hO t) fullShare ((dats m hO 0 c).after 4 t) from by
      unfold Dat.leavesExact; rw [live4 m hO t (by omega)]; try rfl, after0_4]
    by_cases hu : usedT m c (t.val / 2)
    · rw [scr_named m hO c t.val ⟨by omega, hu⟩]
      rw [show outAt m hO c t = _ from if_pos hu]
      have c0 : ¬ cond0 (grid0.coords t) (ntWord (F := F) c (tbl m 1)) := fun h => by have := ((cond0_iff _ _).mp h).2; omega
      have c1 : cond1 (grid0.coords t) (ntWord (F := F) c (tbl m 1)) := (cond1_iff _ _).mpr (hus.mpr hu)
      have c2 : ¬ cond2 (grid0.coords t) := fun h => by have := (cond2_iff _).mp h; omega
      have c3 : cond3 (grid0.coords t) := (cond3_iff _).mpr (by omega)
      have c4 : cond4 (grid0.coords t) (ntWord (F := F) c (tbl m 1)) := (cond4_iff _ _).mpr ⟨hus.mpr hu, by omega⟩
      have c5 : ¬ cond5 (grid0.coords t) (ntWord (F := F) c (tbl m 1)) := fun h => ((cond5_iff _ _).mp h).1 (hus.mpr hu)
      iintro ⟨⟨⟨⟨HS0, HS1⟩, Hg⟩, ⟨HT0, HT1⟩⟩, Ho, ⟨%d0, H0⟩, ⟨%d1, H1⟩, ⟨%d2, H2⟩, ⟨%d3, H3⟩, ⟨%d4, H4⟩⟩
      iapply ((runSecond c (grid0.coords t) _ _ _ _ _ _ _ _ _ _ _ _ _ _ (iblk m hO c 0 t) (iblk m hO c 1 t) (iblk m hO c 2 t) (iblk m hO c 3 t) (tbl m 0) (tbl m 1) _ _ c0 c1 c2 c3 c4 c5).2.2 Set.univ _)
      unfold kept
      isplitl [H0 H1 H2 H3 HT0 HT1]
      · isplitl [H0]; · iexact H0
        isplitl [H1]; · iexact H1
        isplitl [H2]; · iexact H2
        isplitl [H3]; · iexact H3
        isplitl [HT0]; · iexact HT0
        iexact HT1
      isplitl [H4]; · iexists _; iexact H4
      isplitl [HS0]; · iexact HS0
      isplitl [HS1]; · iexact HS1
      iintro ⟨⟨H0, H1, H2, H3, HT0, HT1⟩, ⟨%e4, H4⟩, HS0, ⟨%es1, HS1⟩⟩
      isplitl [HS0 HS1 Hg HT0 HT1]
      · isplitl [HS0 HS1 Hg]
        · isplitl [HS0 HS1]
          · isplitl [HS0]; · iexists _; iexact HS0
            iexists _; unfold owns; iexists _; isplitr
            swap; · iexact HS1
            ipureintro; rfl
          iexact Hg
        isplitl [HT0]; · iexact HT0
        iexact HT1
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact second_out c _ _ _ _ _ _ _ _ _ _ _ _ _ _ _ _ _ _ _ _ _ _ _ _ _ _ _ _ _ _
    · rw [scr_any m hO c t.val (fun h => hu h.2)]
      rw [show outAt m hO c t = k0_pay5 from if_neg hu]
      have c0 : ¬ cond0 (grid0.coords t) (ntWord (F := F) c (tbl m 1)) := fun h => hu (hus.mp ((cond0_iff _ _).mp h).1)
      have c1 : ¬ cond1 (grid0.coords t) (ntWord (F := F) c (tbl m 1)) := fun h => hu (hus.mp ((cond1_iff _ _).mp h))
      have c4 : ¬ cond4 (grid0.coords t) (ntWord (F := F) c (tbl m 1)) := fun h => hu (hus.mp ((cond4_iff _ _).mp h).1)
      have c5 : cond5 (grid0.coords t) (ntWord (F := F) c (tbl m 1)) := (cond5_iff _ _).mpr ⟨fun h => hu (hus.mp h), by omega⟩
      iintro ⟨⟨⟨⟨HS0, HS1⟩, Hg⟩, ⟨HT0, HT1⟩⟩, Ho, ⟨%d0, H0⟩, ⟨%d1, H1⟩, ⟨%d2, H2⟩, ⟨%d3, H3⟩, ⟨%d4, H4⟩⟩
      iapply ((runZero c (grid0.coords t) _ _ _ _ _ _ _ _ _ _ _ _ _ _ (iblk m hO c 0 t) (iblk m hO c 1 t) (iblk m hO c 2 t) (iblk m hO c 3 t) (tbl m 0) (tbl m 1) c0 c1 c4 c5).2 Set.univ _)
      unfold kept
      isplitl [H0 H1 H2 H3 HT0 HT1]
      · isplitl [H0]; · iexact H0
        isplitl [H1]; · iexact H1
        isplitl [H2]; · iexact H2
        isplitl [H3]; · iexact H3
        isplitl [HT0]; · iexact HT0
        iexact HT1
      isplitl [H4]; · iexists _; iexact H4
      iintro ⟨⟨H0, H1, H2, H3, HT0, HT1⟩, ⟨%e4, H4⟩⟩
      isplitl [HS0 HS1 Hg HT0 HT1]
      · isplitl [HS0 HS1 Hg]
        · isplitl [HS0 HS1]
          · isplitl [HS0]; · iexact HS0
            iexact HS1
          iexact Hg
        isplitl [HT0]; · iexact HT0
        iexact HT1
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact zero_out c _ _ _ _ _ _ _ _ _ _ _ _ _ _ _ _ _ _ _ _ _ _ _ _ _ _

/-- The pipeline calls the body on the point's staging buffers. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The body does, at every point, what the pipeline asks of it. -/
theorem body_obligation (hO : Ok m) (c : Dev nD) : BodyObligation (dats (F := F) m hO 0 c) (defs₀ (F := F)) Variants.none () Set.univ := fun t => by
  rw [bigSep_W0, bigSep_W0, defs₀_row m hO]
  exact triple_restated (sound_body m hO c t) rfl .rfl fun _ => .rfl

/-- What the launch hands the region is what is kept before the first point, -/
theorem hin (hO : Ok m) (c : Dev nD) : iprop(Pipeline.ΦA spec0 c ∗ Pipeline.ΦT pre0 (tbl m) c) ⊢ (dats m hO 0 c).Φ 0 := by
  rw [show (dats m hO 0 c).Φ 0 = PhiS m hO c 0 (Nat.zero_le _) from rfl]
  unfold PhiS
  rw [scr_any m hO c 0 (fun h => absurd h.1 (by decide)), PhiA0_eq]

/-- and after the last point it is handed back. -/
theorem hout (hO : Ok m) (c : Dev nD) : (dats m hO 0 c).Φ (Fin.last (cfgM m hO).N) ⊢ Pipeline.ΦA spec0 c := by
  rw [show (dats m hO 0 c).Φ (Fin.last (cfgM m hO).N) = PhiS m hO c (cfgM m hO).N (Nat.le_refl _) from rfl]
  have hN : (cfgM m hO).N = 272 := N_0
  unfold PhiS
  rw [scr_any m hO c _ (fun h => absurd h.1 (by omega)), PhiA0_eq]
  iintro ⟨H, -⟩
  iexact H

set_option backward.isDefEq.respectTransparency.types false in
/-- The launch, with every semaphore at zero at the end. -/
theorem run_main_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_track_shared (Q' := _) pcfgs (fun _ => adm m hO) (dats m hO) (0 : Fin 1) launch₀0 defs₀ Variants.none m ρ main
    (hbody := fun c => (body_obligation m hO c).loose) (hq := fun _ _ _ => rfl)
    (howed := fun _ _ => rfl) (V := V m) (hmain := hmain m Variants.none) (hA := A_eq m hO) (hpf := V_pre m)
    (hin := hin m hO) (hout := hout m hO)

/-- The launch: every array ends as the data of the proof computes it. -/
theorem run_main (hO : Ok m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO)

/-- `frame` without the counters: the argument arrays end unchanged. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ hO (dats m hO) (A_eq m hO) (run_main m ρ hO)

/-- The call terminates, its arguments end unchanged and every semaphore at zero, wherever the tables name blocks of the arrays. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ hO) ((θ_run defs _ _).mono (fun _ h => h.2) (run_main_quiescent m ρ hO))

end Cert.ExpertsIdeal.Hand

end
-- ==== Proof.ExpIdealOk.lean ====
/- The blocks the experts' tables name lie in their arrays where every tile names an expert. -/
module

public import proofs.«01_k».proof.Proof.ExpIdealFrame
public import Idealize.ShloMosaic.Lib.Decide

@[expose] public section

set_option maxRecDepth 16384

noncomputable section

namespace Cert.ExpertsIdeal.Hand

open Cert.ExpertsIdeal Cert.ExpertsIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Every tile names one of the eight experts. -/
abbrev Named : Prop := ∀ j : S136.Idx, BitVec.toNat (w := 32) (tbl m 0 j) < 8

/-- A block of one expert's gate and up weights: all the rows of a quarter of the columns. -/
theorem block_gu (ix : Fin 3 → ℕ) (e : Fin 8) (f : Fin 4) (h : ix = ![e.val, 0, f.val]) :
    ∃ h : (∀ a, (ix a + 1) * S1x1024x1408.size a ≤ S8x1024x5632.size a), EltTy.bits .bf16 = 32 ∨ (Rect.block (s := S8x1024x5632) S1x1024x1408.size ix h).WholeWords (EltTy.packing .bf16) := by
  subst h
  revert e f
  decide +kernel

/-- A block of one expert's down weights: half of the rows. -/
theorem block_down (ix : Fin 3 → ℕ) (e : Fin 8) (f : Fin 2) (h : ix = ![e.val, f.val, 0]) :
    ∃ h : (∀ a, (ix a + 1) * S1x1408x1024.size a ≤ S8x2816x1024.size a), EltTy.bits .bf16 = 32 ∨ (Rect.block (s := S8x2816x1024) S1x1408x1024.size ix h).WholeWords (EltTy.packing .bf16) := by
  subst h
  revert e f
  decide +kernel

/-- The half, as a word and back. -/
theorem half_word (f : Fin 2) : (BitVec.ofNat 32 f.val).toNat = f.val ∧ (Scalar.addi 2#32 (BitVec.ofNat 32 f.val)).toNat = 2 + f.val := by
  revert f; decide

/-- Where a point's tile stands in the table, and the expert it names. -/
abbrev tileIx (i : grid0.Coords) : S136.Idx := (Rect.unit (s := S136) (k0_off1 i) S1.size (k0_off1_inb i)).emb (Shape.Idx.first (numel1_S1.symm ▸ Nat.one_pos))
abbrev expertAt (i : grid0.Coords) : BitVec 32 := tbl m 0 (tileIx i)

theorem ok (hT : Named m) : Ok m := by
  refine ⟨fun i => ?_, fun i => ?_, fun i => ?_⟩
  · refine block_gu _ ⟨(expertAt m i).toNat, hT _⟩ ⟨(i 1).val, Nat.lt_of_lt_of_le (i 1).isLt (by decide)⟩ ?_
    show ![(expertAt m i).toNat, (0#32 : BitVec 32).toNat, (BitVec.ofNat 32 (i 1).val).toNat] = _
    rw [(half_word (i 1)).1]; rfl
  · refine block_gu _ ⟨(expertAt m i).toNat, hT _⟩ ⟨2 + (i 1).val, by have h : (i 1).val < 2 := (i 1).isLt; omega⟩ ?_
    show ![(expertAt m i).toNat, (0#32 : BitVec 32).toNat, (Scalar.addi 2#32 (BitVec.ofNat 32 (i 1).val)).toNat] = _
    rw [(half_word (i 1)).2]; rfl
  · refine block_down _ ⟨(expertAt m i).toNat, hT _⟩ (i 1) ?_
    show ![(expertAt m i).toNat, (BitVec.ofNat 32 (i 1).val).toNat, (0#32 : BitVec 32).toNat] = _
    rw [(half_word (i 1)).1]; rfl

end Cert.ExpertsIdeal.Hand

end
-- ==== Proof.ExpPre.lean ====
/- What the precondition `tiles_name_experts` says of the table of the tiles' experts. -/
module

public import proofs.«01_k».proof.Proof.Gen.Pre_tiles_name_experts
public import Idealize.ShloMosaic.Lib.ReduceAll
public import Idealize.ShloMosaic.Lib.Affine
public import Idealize.ShloMosaic.Lib.Pointwise

@[expose] public section

set_option maxRecDepth 16384

noncomputable section

namespace Cert.Pre_tiles_name_experts.Hand

open Cert.Pre_tiles_name_experts Idealize.ShloMosaic Idealize.ShloMosaic.TcCoe Idealize.SL.Sem

instance : Subsingleton S_.Idx := ⟨fun a b => funext fun i => i.elim0⟩

variable {F : FTy → Type} [FloatOps F]

/-- A word that is at least zero and below eight, signed, is one of the first eight naturals. -/
theorem word_named (v : BitVec 32) (h0 : IntOp.cmpi .sge v 0#32 = 1#1) (h8 : IntOp.cmpi .slt v 8#32 = 1#1) : v.toNat < 8 := by
  simp only [IntOp.cmpi] at h0 h8
  have a : (0#32).sle v = true := by
    by_contra hn
    simp_all
  have b : v.slt 8#32 = true := by
    by_contra hn
    simp_all
  rw [BitVec.sle_eq_decide, decide_eq_true_eq] at a
  rw [BitVec.slt_eq_decide, decide_eq_true_eq] at b
  simp only [BitVec.toInt_eq_toNat_cond] at a b
  have := v.isLt
  norm_num at a b
  split_ifs at a b <;> omega

/-- Every tile names one of the eight experts. -/
theorem named (te : IVec S136 32) (nt : IVec S1 32) (xs : FVec F S69632x1024 .f32) (wgu : FVec F S8x1024x5632 .bf16) (wd : FVec F S8x2816x1024 .bf16)
    (h : fn (F := F) te nt xs wgu wd = fun _ => 1#1) (j : S136.Idx) : (te j).toNat < 8 := by
  have e := congrFun h (fun i => i.elim0)
  dsimp only [fn] at e
  obtain ⟨h0, h8⟩ := IntOp.andi_eq_one.1 (Host.reduce_andi_all _ _ _ _ _ e j)
  exact word_named _ h0 h8

end Cert.Pre_tiles_name_experts.Hand

end
-- ==== Proof.ExpBlock.lean ====
/- What the experts' kernel computes of one block, read at an index. -/
module

public import proofs.«01_k».proof.Proof.Gen.ExpertsIdeal.Skeleton
public import proofs.«01_k».proof.Proof.FfnMath

@[expose] public section

set_option maxRecDepth 16384

noncomputable section

namespace Cert.ExpertsIdeal.Hand

open Cert.ExpertsIdeal Cert.ExpertsIdeal.Gen Idealize.ShloMosaic Idealize.ShloMosaic.TcCoe Idealize.SL.Sem Cert.FfnMath

theorem rows_at (x : Vec Ideal S512x1024 .f32) (r : Fin 512) (d : Fin 1024) : k0_pay1 (F := Ideal) x (ix2 r d) = (show EReal from x (ix2 r d)) := by
  pointwise [k0_pay1]

theorem zeros_at (r : Fin 512) (d : Fin 1024) : k0_pay5 (F := Ideal) (ix2 r d) = (0 : EReal) := by
  pointwise [k0_pay5]

theorem half_at (x : Vec Ideal S512x1024 .bf16) (g u : Vec Ideal S1x1024x1408 .bf16) (v : Vec Ideal S1x1408x1024 .bf16) (r : Fin 512) (d : Fin 1024) :
    k0_pay2 (F := Ideal) x g u v (ix2 r d)
      = ∑ j : Fin 1408, hid (fun e => x (ix2 r e)) (fun e => g (ix3 0 e j)) (fun e => u (ix3 0 e j)) * v (ix3 0 j d) := by
  unfold hid
  pointwise [k0_pay2]

theorem first_at (x : Vec Ideal S512x1024 .bf16) (g u : Vec Ideal S1x1024x1408 .bf16) (v : Vec Ideal S1x1408x1024 .bf16) (r : Fin 512) (d : Fin 1024) :
    k0_pay3 (F := Ideal) x g u v (ix2 r d) = (show EReal from k0_pay2 (F := Ideal) x g u v (ix2 r d)) := by
  pointwise [k0_pay3]

theorem second_at (x : Vec Ideal S512x1024 .bf16) (g u : Vec Ideal S1x1024x1408 .bf16) (v : Vec Ideal S1x1408x1024 .bf16) (a : Vec Ideal S512x1024 .f32) (r : Fin 512) (d : Fin 1024) :
    k0_pay4 (F := Ideal) x g u v a (ix2 r d) = (show EReal from a (ix2 r d)) + (show EReal from k0_pay2 (F := Ideal) x g u v (ix2 r d)) := by
  pointwise [k0_pay4]

end Cert.ExpertsIdeal.Hand

end
-- ==== Proof.ExpRefPure.lean ====
/- The experts reference's result, read at an index. -/
module

public import proofs.«01_k».proof.Proof.Gen.ExpertsRefIdeal.Run
public import proofs.«01_k».proof.Proof.FfnMath

@[expose] public section

set_option maxRecDepth 16384

noncomputable section

namespace Cert.ExpertsRefIdeal.Hand

open Cert.ExpertsRefIdeal Cert.ExpertsRefIdeal.Gen Idealize.ShloMosaic Idealize.ShloMosaic.TcCoe Idealize.SL.Sem Idealize.ShloMosaic.StableHlo Cert.FfnMath

/-- For every row, one at the expert its tile names where the tile is used, else zero. -/
def choice (te : IVec S136 32) (nt : IVec S1 32) : FVec Ideal S69632x8 .f32 :=
  shapeCast _ (broadcastInDim S136x512x8 ![0, 1, 2] bcast_S136x1x8_S136x512x8_0_1_2 (broadcastInDim S136x1x8 ![0, 2] bcast_S136x8_S136x1x8_0_2
    (select (broadcastInDim S136x8 ![0, 1] bcast_S136x1_S136x8_0_1 (broadcastInDim S136x1 ![0] bcast_S136_S136x1_0
        (cmpi .slt (iotaInDim S136 32 0) (broadcastInDim S136 ![] bcast_S_S136 (shapeCast _ nt shapeCasts_S1_S_)))))
      (uitofp .f32 (cmpi .eq (broadcastInDim S136x8 ![0, 1] bcast_S136x1_S136x8_0_1 (broadcastInDim S136x1 ![0] bcast_S136_S136x1_0 te))
        (broadcastInDim S136x8 ![0, 1] bcast_S1x8_S136x8_0_1 (iotaInDim S1x8 32 1))))
      (broadcastInDim S136x8 ![] bcast_S_S136x8 (id (constant S_ .f32 0x00000000#32)))))) shapeCasts_S136x512x8_S69632x8

def zeros : FVec Ideal S69632x1024 .f32 := broadcastInDim S69632x1024 ![] bcast_S_S69632x1024 (constant S_ .f32 0x00000000#32)

/-- The gate's and the up projection's columns under one expert's weights. -/
def both (xs : FVec Ideal S69632x1024 .f32) (w : FVec Ideal S1x1024x5632 .bf16) : FVec Ideal S69632x5632 .f32 :=
  Host.dotGeneral dot_S69632x1024_S1024x5632_S69632x5632_1_0_0_1_n_n none xs (extf .f32 (shapeCast _ w shapeCasts_S1x1024x5632_S1024x5632) bitsLt_bf16_f32)

/-- The hidden units of the two halves of `G`. -/
def units (G : FVec Ideal S69632x5632 .f32) : FVec Ideal S69632x2816 .f32 :=
  mulf (mulf (extractStridedSlice S69632x2816 ![0, 0] G slices_S69632x5632_S69632x2816_0_0)
    (Host.divf (broadcastInDim S69632x2816 ![] bcast_S_S69632x2816 (constant S_ .f32 0x3F800000#32)) (addf (broadcastInDim S69632x2816 ![] bcast_S_S69632x2816 (constant S_ .f32 0x3F800000#32))
      (Host.exp (Host.negf (extractStridedSlice S69632x2816 ![0, 0] G slices_S69632x5632_S69632x2816_0_0))))))
    (extractStridedSlice S69632x2816 ![0, 2816] G slices_S69632x5632_S69632x2816_0_2816)

/-- One expert's output, every row under that expert's weight. -/
def weighted (k : FVec Ideal S69632x1 .f32) (xs : FVec Ideal S69632x1024 .f32) (w : FVec Ideal S1x1024x5632 .bf16) (v : FVec Ideal S1x2816x1024 .bf16) : FVec Ideal S69632x1024 .f32 :=
  mulf (broadcastInDim S69632x1024 ![0, 1] bcast_S69632x1_S69632x1024_0_1 k)
    (Host.dotGeneral dot_S69632x2816_S2816x1024_S69632x1024_1_0_0_1_n_n none (units (both xs w)) (extf .f32 (shapeCast _ v shapeCasts_S1x2816x1024_S2816x1024) bitsLt_bf16_f32))

/-- The reference's result over its five arguments. -/
def REF (te : IVec S136 32) (nt : IVec S1 32) (xs : FVec Ideal S69632x1024 .f32) (wgu : FVec Ideal S8x1024x5632 .bf16) (wd : FVec Ideal S8x2816x1024 .bf16) : FVec Ideal S69632x1024 .f32 :=
  addf (addf (addf (addf (addf (addf (addf (addf zeros (weighted (extractStridedSlice S69632x1 ![0, 0] (choice te nt) slices_S69632x8_S69632x1_0_0) xs (extractStridedSlice S1x1024x5632 ![0, 0, 0] wgu slices_S8x1024x5632_S1x1024x5632_0_0_0) (extractStridedSlice S1x2816x1024 ![0, 0, 0] wd slices_S8x2816x1024_S1x2816x1024_0_0_0)))
    (weighted (extractStridedSlice S69632x1 ![0, 1] (choice te nt) slices_S69632x8_S69632x1_0_1) xs (extractStridedSlice S1x1024x5632 ![1, 0, 0] wgu slices_S8x1024x5632_S1x1024x5632_1_0_0) (extractStridedSlice S1x2816x1024 ![1, 0, 0] wd slices_S8x2816x1024_S1x2816x1024_1_0_0)))
    (weighted (extractStridedSlice S69632x1 ![0, 2] (choice te nt) slices_S69632x8_S69632x1_0_2) xs (extractStridedSlice S1x1024x5632 ![2, 0, 0] wgu slices_S8x1024x5632_S1x1024x5632_2_0_0) (extractStridedSlice S1x2816x1024 ![2, 0, 0] wd slices_S8x2816x1024_S1x2816x1024_2_0_0)))
    (weighted (extractStridedSlice S69632x1 ![0, 3] (choice te nt) slices_S69632x8_S69632x1_0_3) xs (extractStridedSlice S1x1024x5632 ![3, 0, 0] wgu slices_S8x1024x5632_S1x1024x5632_3_0_0) (extractStridedSlice S1x2816x1024 ![3, 0, 0] wd slices_S8x2816x1024_S1x2816x1024_3_0_0)))
    (weighted (extractStridedSlice S69632x1 ![0, 4] (choice te nt) slices_S69632x8_S69632x1_0_4) xs (extractStridedSlice S1x1024x5632 ![4, 0, 0] wgu slices_S8x1024x5632_S1x1024x5632_4_0_0) (extractStridedSlice S1x2816x1024 ![4, 0, 0] wd slices_S8x2816x1024_S1x2816x1024_4_0_0)))
    (weighted (extractStridedSlice S69632x1 ![0, 5] (choice te nt) slices_S69632x8_S69632x1_0_5) xs (extractStridedSlice S1x1024x5632 ![5, 0, 0] wgu slices_S8x1024x5632_S1x1024x5632_5_0_0) (extractStridedSlice S1x2816x1024 ![5, 0, 0] wd slices_S8x2816x1024_S1x2816x1024_5_0_0)))
    (weighted (extractStridedSlice S69632x1 ![0, 6] (choice te nt) slices_S69632x8_S69632x1_0_6) xs (extractStridedSlice S1x1024x5632 ![6, 0, 0] wgu slices_S8x1024x5632_S1x1024x5632_6_0_0) (extractStridedSlice S1x2816x1024 ![6, 0, 0] wd slices_S8x2816x1024_S1x2816x1024_6_0_0)))
    (weighted (extractStridedSlice S69632x1 ![0, 7] (choice te nt) slices_S69632x8_S69632x1_0_7) xs (extractStridedSlice S1x1024x5632 ![7, 0, 0] wgu slices_S8x1024x5632_S1x1024x5632_7_0_0) (extractStridedSlice S1x2816x1024 ![7, 0, 0] wd slices_S8x2816x1024_S1x2816x1024_7_0_0))

theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v138) = REF (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  Value.run (F := Ideal) m ρ

theorem both_at (xs : FVec Ideal S69632x1024 .f32) (w : FVec Ideal S1x1024x5632 .bf16) (i : Fin 69632) (n : Fin 5632) :
    both xs w (ix2 i n) = ∑ e : Fin 1024, (show EReal from xs (ix2 i e)) * w (ix3 0 e n) := by
  pointwise [both]

theorem units_at (G : FVec Ideal S69632x5632 .f32) (i : Fin 69632) (n : Fin 2816) :
    units G (ix2 i n) = (show EReal from G (ix2 i ⟨n, by omega⟩)) * Ideal.div one (one + Ideal.exp (-(show EReal from G (ix2 i ⟨n, by omega⟩)))) * G (ix2 i ⟨2816 + n, by omega⟩) := by
  pointwise [units]

theorem weighted_raw (k : FVec Ideal S69632x1 .f32) (xs : FVec Ideal S69632x1024 .f32) (w : FVec Ideal S1x1024x5632 .bf16) (v : FVec Ideal S1x2816x1024 .bf16) (i : Fin 69632) (d : Fin 1024) :
    weighted k xs w v (ix2 i d) = (show EReal from k (ix2 i 0)) * ∑ n : Fin 2816, (show EReal from units (both xs w) (ix2 i n)) * v (ix3 0 n d) := by
  pointwise [weighted]

/-- One expert's output at an index: the sum over its hidden units. -/
theorem weighted_at (k : FVec Ideal S69632x1 .f32) (xs : FVec Ideal S69632x1024 .f32) (w : FVec Ideal S1x1024x5632 .bf16) (v : FVec Ideal S1x2816x1024 .bf16) (i : Fin 69632) (d : Fin 1024) :
    weighted k xs w v (ix2 i d) = (show EReal from k (ix2 i 0)) * ∑ n : Fin 2816,
      hid (fun e => xs (ix2 i e)) (fun e => w (ix3 0 e ⟨n, by omega⟩)) (fun e => w (ix3 0 e ⟨2816 + n, by omega⟩)) * v (ix3 0 n d) := by
  rw [weighted_raw]
  congr 1
  refine Finset.sum_congr rfl fun n _ => ?_
  rw [units_at, both_at, both_at]
  unfold hid
  rw [gate_eq]

theorem choice_at (te : IVec S136 32) (nt : IVec S1 32) (i : Fin 69632) (e : Fin 8) (j : Fin 136) (hj : (j : ℕ) = i / 512) :
    choice te nt (ix2 i e) = if (BitVec.ofNat 32 j).slt (nt (ix1 0)) then (if te (ix1 j) = BitVec.ofNat 32 e then (1 : EReal) else 0) else (0 : EReal) := by
  obtain ⟨j, lj⟩ := j
  dsimp only at hj
  subst hj
  pointwise [choice]
  unfold Scalar.select IntOp.cmpi
  show (if BitVec.ofBool ((BitVec.ofNat 32 ((i : ℕ) / 512)).slt (nt (ix1 0))) = 1
      then (((BitVec.ofBool (te (ix1 ⟨(i : ℕ) / 512, _⟩) == BitVec.ofNat 32 (e : ℕ))).toNat : ℝ) : EReal) else zero) = _
  rw [zero_eq]
  by_cases h1 : (BitVec.ofNat 32 ((i : ℕ) / 512)).slt (nt (ix1 0)) = true
  · by_cases h2 : te (ix1 ⟨(i : ℕ) / 512, by omega⟩) = BitVec.ofNat 32 (e : ℕ)
    · simp [h1, h2]
    · simp [h1, h2]
  · simp [h1]

/-- One expert's output at row `i`: the sum over its hidden units. -/
def expert (xs : FVec Ideal S69632x1024 .f32) (wgu : FVec Ideal S8x1024x5632 .bf16) (wd : FVec Ideal S8x2816x1024 .bf16) (e : Fin 8) (i : Fin 69632) (d : Fin 1024) : EReal :=
  ∑ n : Fin 2816, hid (fun k => xs (ix2 i k)) (fun k => wgu (ix3 e k ⟨n, by omega⟩)) (fun k => wgu (ix3 e k ⟨2816 + n, by omega⟩)) * wd (ix3 e n d)

/-- One expert's slices of the arrays, read at an index. -/
theorem weighted_expert (C : FVec Ideal S69632x8 .f32) (xs : FVec Ideal S69632x1024 .f32) (wgu : FVec Ideal S8x1024x5632 .bf16) (wd : FVec Ideal S8x2816x1024 .bf16) (e : Fin 8)
    (h0 : S69632x8.Slices ![0, (e : ℕ)] S69632x1) (h1 : S8x1024x5632.Slices ![(e : ℕ), 0, 0] S1x1024x5632) (h2 : S8x2816x1024.Slices ![(e : ℕ), 0, 0] S1x2816x1024) (i : Fin 69632) (d : Fin 1024) :
    weighted (extractStridedSlice S69632x1 ![0, (e : ℕ)] C h0) xs (extractStridedSlice S1x1024x5632 ![(e : ℕ), 0, 0] wgu h1) (extractStridedSlice S1x2816x1024 ![(e : ℕ), 0, 0] wd h2) (ix2 i d)
      = (show EReal from C (ix2 i e)) * expert xs wgu wd e i d := by
  rw [weighted_at]
  have k0 : extractStridedSlice S69632x1 ![0, (e : ℕ)] C h0 (ix2 i 0) = C (ix2 i e) := by pointwise []
  have k1 : ∀ k n, extractStridedSlice S1x1024x5632 ![(e : ℕ), 0, 0] wgu h1 (ix3 0 k n) = wgu (ix3 e k n) := fun k n => by pointwise []
  have k2 : ∀ n d, extractStridedSlice S1x2816x1024 ![(e : ℕ), 0, 0] wd h2 (ix3 0 n d) = wd (ix3 e n d) := fun n d => by pointwise []
  unfold expert
  simp only [k0, k1, k2]

theorem sum_at (te : IVec S136 32) (nt : IVec S1 32) (xs : FVec Ideal S69632x1024 .f32) (wgu : FVec Ideal S8x1024x5632 .bf16) (wd : FVec Ideal S8x2816x1024 .bf16) (i : Fin 69632) (d : Fin 1024) :
    REF te nt xs wgu wd (ix2 i d) = ∑ e : Fin 8, (show EReal from choice te nt (ix2 i e)) * expert xs wgu wd e i d := by
  simp only [Fin.sum_univ_eight]
  show (show EReal from zeros (ix2 i d)) + weighted _ _ _ _ (ix2 i d) + weighted _ _ _ _ (ix2 i d) + weighted _ _ _ _ (ix2 i d) + weighted _ _ _ _ (ix2 i d)
    + weighted _ _ _ _ (ix2 i d) + weighted _ _ _ _ (ix2 i d) + weighted _ _ _ _ (ix2 i d) + weighted _ _ _ _ (ix2 i d) = _
  have hz : zeros (ix2 i d) = (0 : EReal) := by pointwise [zeros]
  rw [hz, zero_add]
  refine congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (weighted_expert _ xs wgu wd 0 _ _ _ i d) (weighted_expert _ xs wgu wd 1 _ _ _ i d)) (weighted_expert _ xs wgu wd 2 _ _ _ i d)) (weighted_expert _ xs wgu wd 3 _ _ _ i d)) (weighted_expert _ xs wgu wd 4 _ _ _ i d)) (weighted_expert _ xs wgu wd 5 _ _ _ i d)) (weighted_expert _ xs wgu wd 6 _ _ _ i d)) (weighted_expert _ xs wgu wd 7 _ _ _ i d)

/-- The reference's result at row `i`: the output of the expert that the row's tile names, or zero where the tile is not used. -/
theorem ref_at (te : IVec S136 32) (nt : IVec S1 32) (xs : FVec Ideal S69632x1024 .f32) (wgu : FVec Ideal S8x1024x5632 .bf16) (wd : FVec Ideal S8x2816x1024 .bf16) (i : Fin 69632) (d : Fin 1024)
    (j : Fin 136) (hj : (j : ℕ) = i / 512) (e : Fin 8) (he : (te (ix1 j)).toNat = e) :
    REF te nt xs wgu wd (ix2 i d) = if (BitVec.ofNat 32 j).slt (nt (ix1 0)) then expert xs wgu wd e i d else 0 := by
  rw [sum_at]
  have w : ∀ e' : Fin 8, te (ix1 j) = BitVec.ofNat 32 (e' : ℕ) ↔ e' = e := fun e' => by
    constructor
    · intro h
      rw [h] at he
      apply Fin.ext
      rw [← he, BitVec.toNat_ofNat]
      omega
    · rintro rfl
      apply BitVec.eq_of_toNat_eq
      rw [he, BitVec.toNat_ofNat]
      omega
  simp only [choice_at te nt i _ j hj, w]
  split_ifs
  · simp [ite_mul]
  · simp

end Cert.ExpertsRefIdeal.Hand

end
-- ==== Proof.ExpFinal.lean ====
/- The experts' kernel's result array is the reference's result over the same arguments. -/
module

public import proofs.«01_k».proof.Proof.ExpIdealOk
public import proofs.«01_k».proof.Proof.ExpBlock
public import proofs.«01_k».proof.Proof.ExpRefPure
public import Idealize.ShloMosaic.Lib.Pipeline.Value
public import Idealize.ShloMosaic.Lib.Pipeline.ValueKit

@[expose] public section

set_option maxRecDepth 16384

noncomputable section

namespace Cert.ExpertsIdeal.Hand

open Cert.ExpertsIdeal Cert.ExpertsIdeal.Gen Idealize.ShloMosaic Idealize.ShloMosaic.TcCoe Idealize.SL.Sem Cert.FfnMath
open Idealize.ShloMosaic.Pipeline (Dat)

variable (m : (ℓ : Loc nD τ sig) → Buf (Elt Ideal) ℓ)

theorem points (hO : Ok m) (t : Fin (cfgM m hO).N) : (t : ℕ) < 272 := lt_of_lt_of_eq t.isLt N_0

/-- A small number as a word and back. -/
theorem small (n : ℕ) (h : n < 272) : (BitVec.ofNat 32 n).toNat = n := by
  rw [BitVec.toNat_ofNat]; omega

theorem half_up (n : ℕ) (h : n < 2) : (Scalar.addi 2#32 (BitVec.ofNat 32 n)).toNat = 2 + n := (half_word ⟨n, h⟩).2

theorem coords0 (hO : Ok m) (t : Fin (cfgM m hO).N) : (BitVec.ofNat 32 (grid0.coords t 0).val).toNat = (t : ℕ) / 2 := by
  have := points m hO t
  rw [coord0, small _ (by omega)]
theorem coords1 (hO : Ok m) (t : Fin (cfgM m hO).N) : (BitVec.ofNat 32 (grid0.coords t 1).val).toNat = (t : ℕ) % 2 := by
  rw [coord1, small _ (by omega)]
theorem coords1_up (hO : Ok m) (t : Fin (cfgM m hO).N) : (Scalar.addi 2#32 (BitVec.ofNat 32 (grid0.coords t 1).val)).toNat = 2 + (t : ℕ) % 2 := by
  rw [coord1, half_up _ (by omega)]

/-- Where the blocks lie in their arrays. -/
theorem emb_0 (hO : Ok m) (t : Fin (cfgM m hO).N) (r : Fin 512) (d : Fin 1024) (h : (t : ℕ) / 2 * 512 + r < 69632) :
    (((cfgM m hO).win 0).blk t).view.emb (ix2 r d) = ix2 ⟨(t : ℕ) / 2 * 512 + r, h⟩ d := by
  funext a
  apply Fin.ext
  refine (Pipeline.Window.rect_emb_val ((cfgM m hO).win 0) t (ix2 r d) a).trans ?_
  match a with
  | ⟨0, _⟩ => show (BitVec.ofNat 32 (grid0.coords t 0).val).toNat * 512 + (r : ℕ) = (t : ℕ) / 2 * 512 + r; rw [coords0 m hO]
  | ⟨1, _⟩ => show 0 * 1024 + (d : ℕ) = d; omega

theorem emb_4 (hO : Ok m) (t : Fin (cfgM m hO).N) (r : Fin 512) (d : Fin 1024) (h : (t : ℕ) / 2 * 512 + r < 69632) :
    (((cfgM m hO).win 4).blk t).view.emb (ix2 r d) = ix2 ⟨(t : ℕ) / 2 * 512 + r, h⟩ d := by
  funext a
  apply Fin.ext
  refine (Pipeline.Window.rect_emb_val ((cfgM m hO).win 4) t (ix2 r d) a).trans ?_
  match a with
  | ⟨0, _⟩ => show (BitVec.ofNat 32 (grid0.coords t 0).val).toNat * 512 + (r : ℕ) = (t : ℕ) / 2 * 512 + r; rw [coords0 m hO]
  | ⟨1, _⟩ => show 0 * 1024 + (d : ℕ) = d; omega

theorem emb_1 (hO : Ok m) (t : Fin (cfgM m hO).N) (e : Fin 8) (he : (expertAt m (grid0.coords t)).toNat = e) (k : Fin 1024) (j : Fin 1408) (h : (t : ℕ) % 2 * 1408 + j < 5632) :
    (((cfgM m hO).win 1).blk t).view.emb (ix3 0 k j) = ix3 e k ⟨(t : ℕ) % 2 * 1408 + j, h⟩ := by
  funext a
  apply Fin.ext
  refine (Pipeline.Window.rect_emb_val ((cfgM m hO).win 1) t (ix3 0 k j) a).trans ?_
  match a with
  | ⟨0, _⟩ => show (expertAt m (grid0.coords t)).toNat * 1 + 0 = (e : ℕ); omega
  | ⟨1, _⟩ => show 0 * 1024 + (k : ℕ) = k; omega
  | ⟨2, _⟩ => show (BitVec.ofNat 32 (grid0.coords t 1).val).toNat * 1408 + (j : ℕ) = (t : ℕ) % 2 * 1408 + j; rw [coords1 m hO]

theorem emb_2 (hO : Ok m) (t : Fin (cfgM m hO).N) (e : Fin 8) (he : (expertAt m (grid0.coords t)).toNat = e) (k : Fin 1024) (j : Fin 1408) (h : (2 + (t : ℕ) % 2) * 1408 + j < 5632) :
    (((cfgM m hO).win 2).blk t).view.emb (ix3 0 k j) = ix3 e k ⟨(2 + (t : ℕ) % 2) * 1408 + j, h⟩ := by
  funext a
  apply Fin.ext
  refine (Pipeline.Window.rect_emb_val ((cfgM m hO).win 2) t (ix3 0 k j) a).trans ?_
  match a with
  | ⟨0, _⟩ => show (expertAt m (grid0.coords t)).toNat * 1 + 0 = (e : ℕ); omega
  | ⟨1, _⟩ => show 0 * 1024 + (k : ℕ) = k; omega
  | ⟨2, _⟩ => show (Scalar.addi 2#32 (BitVec.ofNat 32 (grid0.coords t 1).val)).toNat * 1408 + (j : ℕ) = (2 + (t : ℕ) % 2) * 1408 + j; rw [coords1_up m hO]

theorem emb_3 (hO : Ok m) (t : Fin (cfgM m hO).N) (e : Fin 8) (he : (expertAt m (grid0.coords t)).toNat = e) (j : Fin 1408) (d : Fin 1024) (h : (t : ℕ) % 2 * 1408 + j < 2816) :
    (((cfgM m hO).win 3).blk t).view.emb (ix3 0 j d) = ix3 e ⟨(t : ℕ) % 2 * 1408 + j, h⟩ d := by
  funext a
  apply Fin.ext
  refine (Pipeline.Window.rect_emb_val ((cfgM m hO).win 3) t (ix3 0 j d) a).trans ?_
  match a with
  | ⟨0, _⟩ => show (expertAt m (grid0.coords t)).toNat * 1 + 0 = (e : ℕ); omega
  | ⟨1, _⟩ => show (BitVec.ofNat 32 (grid0.coords t 1).val).toNat * 1408 + (j : ℕ) = (t : ℕ) % 2 * 1408 + j; rw [coords1 m hO]
  | ⟨2, _⟩ => show 0 * 1024 + (d : ℕ) = d; omega

/-- The blocks the points read, at an index. -/
theorem read_0 (hO : Ok m) (c : Dev nD) (t : Fin (cfgM m hO).N) (r : Fin 512) (d : Fin 1024) (h : (t : ℕ) / 2 * 512 + r < 69632) :
    iblk m hO c 0 t (ix2 r d) = m ((c : Thread nD τ).loc main_arg2) (ix2 ⟨(t : ℕ) / 2 * 512 + r, h⟩ d) :=
  congrArg (m ((c : Thread nD τ).loc main_arg2)) (emb_0 m hO t r d h)
theorem read_1 (hO : Ok m) (c : Dev nD) (t : Fin (cfgM m hO).N) (e : Fin 8) (he : (expertAt m (grid0.coords t)).toNat = e) (k : Fin 1024) (j : Fin 1408) (h : (t : ℕ) % 2 * 1408 + j < 5632) :
    iblk m hO c 1 t (ix3 0 k j) = m ((c : Thread nD τ).loc main_arg3) (ix3 e k ⟨(t : ℕ) % 2 * 1408 + j, h⟩) :=
  congrArg (m ((c : Thread nD τ).loc main_arg3)) (emb_1 m hO t e he k j h)
theorem read_2 (hO : Ok m) (c : Dev nD) (t : Fin (cfgM m hO).N) (e : Fin 8) (he : (expertAt m (grid0.coords t)).toNat = e) (k : Fin 1024) (j : Fin 1408) (h : (2 + (t : ℕ) % 2) * 1408 + j < 5632) :
    iblk m hO c 2 t (ix3 0 k j) = m ((c : Thread nD τ).loc main_arg3) (ix3 e k ⟨(2 + (t : ℕ) % 2) * 1408 + j, h⟩) :=
  congrArg (m ((c : Thread nD τ).loc main_arg3)) (emb_2 m hO t e he k j h)
theorem read_3 (hO : Ok m) (c : Dev nD) (t : Fin (cfgM m hO).N) (e : Fin 8) (he : (expertAt m (grid0.coords t)).toNat = e) (j : Fin 1408) (d : Fin 1024) (h : (t : ℕ) % 2 * 1408 + j < 2816) :
    iblk m hO c 3 t (ix3 0 j d) = m ((c : Thread nD τ).loc main_arg4) (ix3 e ⟨(t : ℕ) % 2 * 1408 + j, h⟩ d) :=
  congrArg (m ((c : Thread nD τ).loc main_arg4)) (emb_3 m hO t e he j d h)

/-- The expert a point's tile names, as the table holds it. -/
theorem expert_named (hO : Ok m) (c : Dev nD) (t : Fin (cfgM m hO).N) (h : (t : ℕ) / 2 < 136) :
    expertAt m (grid0.coords t) = m ((c : Thread nD τ).loc main_arg0) (ix1 ⟨(t : ℕ) / 2, h⟩) := by
  obtain rfl : c = 0 := Subsingleton.elim _ _
  refine congrArg (m (((0 : Dev nD) : Thread nD τ).loc main_arg0)) ?_
  funext a
  apply Fin.ext
  match a with
  | ⟨0, _⟩ => show (BitVec.ofNat 32 (grid0.coords t 0).val).toNat + 1 * 0 = (t : ℕ) / 2; rw [coords0 m hO]; omega

/-- The count of the tiles in use, as its array holds it. -/
theorem count_eq (c : Dev nD) : count m c = m ((c : Thread nD τ).loc main_arg1) (ix1 0) := by
  obtain rfl : c = 0 := Subsingleton.elim _ _
  refine congrArg (m (((0 : Dev nD) : Thread nD τ).loc main_arg1)) ?_
  funext a
  apply Fin.ext
  match a with
  | ⟨0, _⟩ => rfl

theorem used_iff (c : Dev nD) (n : ℕ) : usedT m c n ↔ (BitVec.ofNat 32 n).slt (m ((c : Thread nD τ).loc main_arg1) (ix1 0)) = true := by
  unfold usedT
  rw [count_eq]
  show BitVec.ofBool ((BitVec.ofNat 32 n).slt (m ((c : Thread nD τ).loc main_arg1) (ix1 0))) = 1#1 ↔ _
  cases (BitVec.ofNat 32 n).slt (m ((c : Thread nD τ).loc main_arg1) (ix1 0)) <;> simp

/-- The two points of one tile, over blocks that are read out of the arrays, give the expert's output. -/
theorem row (xs : FVec Ideal S69632x1024 .f32) (wgu : FVec Ideal S8x1024x5632 .bf16) (wd : FVec Ideal S8x2816x1024 .bf16) (e : Fin 8) (i : Fin 69632) (r : Fin 512)
    (X : Vec Ideal S512x1024 .bf16) (P Q P' Q' : Vec Ideal S1x1024x1408 .bf16) (R R' : Vec Ideal S1x1408x1024 .bf16)
    (hX : ∀ k, X (ix2 r k) = xs (ix2 i k))
    (p : ∀ k j, P (ix3 0 k j) = wgu (ix3 e k ⟨j, by omega⟩)) (p' : ∀ k j, P' (ix3 0 k j) = wgu (ix3 e k ⟨1408 + j, by omega⟩))
    (q : ∀ k j, Q (ix3 0 k j) = wgu (ix3 e k ⟨2816 + j, by omega⟩)) (q' : ∀ k j, Q' (ix3 0 k j) = wgu (ix3 e k ⟨2816 + (1408 + j), by omega⟩))
    (hR : ∀ j d, R (ix3 0 j d) = wd (ix3 e ⟨j, by omega⟩ d)) (hR' : ∀ j d, R' (ix3 0 j d) = wd (ix3 e ⟨1408 + j, by omega⟩ d)) (d : Fin 1024) :
    k0_pay4 X P' Q' R' (k0_pay3 X P Q R) (ix2 r d) = ExpertsRefIdeal.Hand.expert xs wgu wd e i d := by
  rw [second_at, first_at, half_at, half_at]
  unfold ExpertsRefIdeal.Hand.expert
  rw [sum_tiles]
  simp only [hX, p, p', q, q', hR, hR']

/-- Two readings of one array at equal places. -/
theorem at3_col {n0 n1 n2 : ℕ} {α : Type} (f : Shape.Idx ⟨3, ![n0, n1, n2]⟩ → α) (i : Fin n0) (k : Fin n1) {j j' : Fin n2} (hj : (j : ℕ) = j') : f (ix3 i k j) = f (ix3 i k j') := by
  rw [Fin.ext hj]
theorem at3_row {n0 n1 n2 : ℕ} {α : Type} (f : Shape.Idx ⟨3, ![n0, n1, n2]⟩ → α) (i : Fin n0) (k : Fin n2) {j j' : Fin n1} (hj : (j : ℕ) = j') : f (ix3 i j k) = f (ix3 i j' k) := by
  rw [Fin.ext hj]
theorem at2_row {n0 n1 : ℕ} {α : Type} (f : Shape.Idx ⟨2, ![n0, n1]⟩ → α) (k : Fin n1) {j j' : Fin n0} (hj : (j : ℕ) = j') : f (ix2 j k) = f (ix2 j' k) := by
  rw [Fin.ext hj]

/-- What a tile's second point writes: the expert's output for a tile in use, zero for another. -/
theorem out_at (hO : Ok m) (c : Dev nD) (t : Fin (cfgM m hO).N) (h1 : (t : ℕ) % 2 = 1) (e : Fin 8) (h : (t : ℕ) / 2 < 136) (he : (m ((c : Thread nD τ).loc main_arg0) (ix1 ⟨(t : ℕ) / 2, h⟩)).toNat = e)
    (r : Fin 512) (d : Fin 1024) (hr : (t : ℕ) / 2 * 512 + r < 69632) :
    outAt m hO c t (ix2 r d) = if (BitVec.ofNat 32 ((t : ℕ) / 2)).slt (m ((c : Thread nD τ).loc main_arg1) (ix1 0)) then
      ExpertsRefIdeal.Hand.expert (m ((c : Thread nD τ).loc main_arg2)) (m ((c : Thread nD τ).loc main_arg3)) (m ((c : Thread nD τ).loc main_arg4)) e ⟨(t : ℕ) / 2 * 512 + r, hr⟩ d else 0 := by
  unfold outAt
  by_cases hu : usedT m c ((t : ℕ) / 2)
  · rw [if_pos hu, if_pos ((used_iff m c _).mp hu)]
    unfold partAt
    obtain ⟨s, hs, es⟩ : ∃ s : Fin (cfgM m hO).N, (s : ℕ) = t - 1 ∧ prev m hO t.val (Nat.le_of_lt t.isLt) = s := ⟨_, rfl, rfl⟩
    rw [es]
    have s2 : (s : ℕ) / 2 = t / 2 := by omega
    have s1 : (s : ℕ) % 2 = 0 := by omega
    have et : (expertAt m (grid0.coords t)).toNat = e := by rw [expert_named m hO c t h]; exact he
    have ee : (expertAt m (grid0.coords s)).toNat = e := by
      rw [expert_named m hO c s (by omega)]
      refine Eq.trans ?_ he
      congr 3
      exact Fin.ext s2
    refine row _ _ _ e _ r _ _ _ _ _ _ _ (fun k => (rows_at _ r k).trans ((read_0 m hO c s r k (by omega)).trans (at2_row _ _ (by dsimp only; omega))))
      (fun k j => (read_1 m hO c s e ee k j (by omega)).trans (at3_col _ _ _ (by dsimp only; omega)))
      (fun k j => (read_1 m hO c t e et k j (by omega)).trans (at3_col _ _ _ (by dsimp only; omega)))
      (fun k j => (read_2 m hO c s e ee k j (by omega)).trans (at3_col _ _ _ (by dsimp only; omega)))
      (fun k j => (read_2 m hO c t e et k j (by omega)).trans (at3_col _ _ _ (by dsimp only; omega)))
      (fun j d => (read_3 m hO c s e ee j d (by omega)).trans (at3_row _ _ _ (by dsimp only; omega)))
      (fun j d => (read_3 m hO c t e et j d (by omega)).trans (at3_row _ _ _ (by dsimp only; omega))) d
  · rw [if_neg hu, if_neg (fun h => hu ((used_iff m c _).mpr h))]
    exact zeros_at r d

/-- Every element of the result lies in the block that some tile's second point writes back. -/
theorem cover (hO : Ok m) (i : S69632x1024.Idx) : ∃ t : Fin (cfgM m hO).N, ((cfgM m hO).win 4).flush t = true ∧ i ∈ (((cfgM m hO).win 4).blk t).view.set := by
  obtain ⟨q, d, rfl⟩ : ∃ (q : Fin 69632) (d : Fin 1024), i = ix2 q d := ⟨i 0, i 1, eq_ix2 (n0 := 69632) (n1 := 1024) i⟩
  have hN : (cfgM m hO).N = 272 := N_0
  obtain ⟨t, ht⟩ : ∃ t : Fin (cfgM m hO).N, (t : ℕ) = 2 * ((q : ℕ) / 512) + 1 := ⟨⟨2 * ((q : ℕ) / 512) + 1, by omega⟩, rfl⟩
  refine ⟨t, (flush0_4 (adm m hO) t).mpr (by omega), ?_⟩
  have e : (((cfgM m hO).win 4).blk t).view.emb (ix2 ⟨(q : ℕ) % 512, by omega⟩ d) = ix2 q d :=
    (emb_4 m hO t ⟨(q : ℕ) % 512, by omega⟩ d (by dsimp only; omega)).trans (congrArg (fun q => ix2 q d) (Fin.ext (by dsimp only; omega)))
  rw [← e]
  exact View.emb_mem_set _ _

/-- The result array after the launch is the reference's result. -/
theorem final (hT : ∀ c : Dev nD, ∀ j : S136.Idx, BitVec.toNat (w := 32) (m ((c : Thread nD τ).loc main_arg0) j) < 8) (hO : Ok m) (c : Dev nD) :
    (dats m hO 0 c).arrAt 4 (cfgM m hO).N = ExpertsRefIdeal.Hand.REF (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m hO 0 c).arrAt_eq_of_emb 4 _ (fun t hf y => ?_) (cover m hO)
  have h1 : t.val % 2 = 1 := (flush0_4 (adm m hO) t).mp hf
  have ht := points m hO t
  obtain ⟨r, d, rfl⟩ : ∃ (r : Fin 512) (d : Fin 1024), y = ix2 r d :=
    ⟨(show S512x1024.Idx from y) 0, (show S512x1024.Idx from y) 1, eq_ix2 (n0 := 512) (n1 := 1024) y⟩
  refine Eq.trans ?_ (congrArg (ExpertsRefIdeal.Hand.REF _ _ _ _ _) (emb_4 m hO t r d (by omega))).symm
  refine (out_at m hO c t h1 ⟨_, hT c (ix1 ⟨(t : ℕ) / 2, by omega⟩)⟩ (by omega) rfl r d (by omega)).trans ?_
  exact (ExpertsRefIdeal.Hand.ref_at _ _ _ _ _ ⟨(t : ℕ) / 2 * 512 + r, by omega⟩ d ⟨(t : ℕ) / 2, by omega⟩ (by dsimp only; omega) ⟨_, hT c (ix1 ⟨(t : ℕ) / 2, by omega⟩)⟩ rfl).symm

end Cert.ExpertsIdeal.Hand

end
-- ==== Proof.ExpAlg.lean ====
/- The experts' value claim, from the two runs and the equality of their results. -/
module

public import proofs.«01_k».proof.Defs
public import proofs.«01_k».proof.Proof.ExpFinal
public import proofs.«01_k».proof.Proof.ExpPre
public import Idealize.ShloMosaic.Lib.Claim
public import Idealize.ShloMosaic.Adequacy
public import Idealize.ShloMosaic.Init

@[expose] public section

set_option maxHeartbeats 4000000

noncomputable section
namespace Cert.Proof

open Idealize.ShloMosaic Idealize.ShloMosaic.TcCoe Idealize.SL.Sem

/-- Under the precondition every entry of the table names one of the eight experts. -/
theorem experts_named (m : (ℓ : Loc Cert.ExpertsIdeal.nD Cert.ExpertsIdeal.τ Cert.ExpertsIdeal.sig) → Buf (Elt Ideal) ℓ)
    (h : Cert.Pre_ExpertsIdeal (hPre_tiles_name_experts := Cert.Pre_tiles_name_experts.Gen.facts) m) (c : Dev Cert.ExpertsIdeal.nD)
    (j : Cert.ExpertsIdeal.S136.Idx) : BitVec.toNat (w := 32) (m ((c : Thread Cert.ExpertsIdeal.nD Cert.ExpertsIdeal.τ).loc Cert.ExpertsIdeal.main_arg0) j) < 8 :=
  Cert.Pre_tiles_name_experts.Hand.named (F := Ideal) _ _ _ _ _ (h c) j

/-- The same, of the copy of the table that the launch reads. -/
theorem experts_ok (m : (ℓ : Loc Cert.ExpertsIdeal.nD Cert.ExpertsIdeal.τ Cert.ExpertsIdeal.sig) → Buf (Elt Ideal) ℓ)
    (h : Cert.Pre_ExpertsIdeal (hPre_tiles_name_experts := Cert.Pre_tiles_name_experts.Gen.facts) m) : Cert.ExpertsIdeal.Hand.Ok m :=
  Cert.ExpertsIdeal.Hand.ok m fun j => experts_named m h 0 j

/-- The experts' kernel's result is the reference's, wherever every tile names an expert. -/
theorem experts_algebraic : Cert.algebraic_ExpertsIdeal_ExpertsRefIdeal (hExpertsIdeal := Cert.ExpertsIdeal.Gen.facts)
    (hExpertsRefIdeal := Cert.ExpertsRefIdeal.Gen.facts) (hPre_tiles_name_experts := Cert.Pre_tiles_name_experts.Gen.facts) := by
  intro m g m' g' hpre hagree
  have hO := experts_ok m hpre
  refine ⟨fun c => Cert.ExpertsRefIdeal.Hand.REF (m ((c : Thread Cert.ExpertsIdeal.nD Cert.ExpertsIdeal.τ).loc Cert.ExpertsIdeal.main_arg0))
    (m ((c : Thread Cert.ExpertsIdeal.nD Cert.ExpertsIdeal.τ).loc Cert.ExpertsIdeal.main_arg1)) (m ((c : Thread Cert.ExpertsIdeal.nD Cert.ExpertsIdeal.τ).loc Cert.ExpertsIdeal.main_arg2))
    (m ((c : Thread Cert.ExpertsIdeal.nD Cert.ExpertsIdeal.τ).loc Cert.ExpertsIdeal.main_arg3)) (m ((c : Thread Cert.ExpertsIdeal.nD Cert.ExpertsIdeal.τ).loc Cert.ExpertsIdeal.main_arg4)), ?_, ?_⟩
  · refine (θ_run Cert.ExpertsIdeal.defs _ _).mono (fun r h c => ⟨?_, h.2 c⟩)
      (θ_run_and (Cert.ExpertsIdeal.Hand.run_main m g hO) (Cert.ExpertsIdeal.Hand.unchanged m g hO))
    exact ((h.1 c).1 4).trans (Cert.ExpertsIdeal.Hand.final m (experts_named m hpre) hO c)
  · refine (θ_run Cert.ExpertsRefIdeal.defs _ _).mono (fun r h c => ⟨?_, (h c).2⟩) (Cert.ExpertsRefIdeal.Hand.run_ref m' g')
    obtain ⟨h0, h1, h2, h3, h4⟩ := hagree c
    refine (h c).1.trans ?_
    rw [h0, h1, h2, h3, h4]

end Cert.Proof

end
-- ==== Proof.InpRefPure.lean ====
/- The input projection's reference, read at an index. -/
module

public import proofs.«01_k».proof.Proof.Gen.InpRefIdeal.Run
public import proofs.«01_k».proof.Proof.FfnMath

@[expose] public section

set_option maxRecDepth 16384

noncomputable section

namespace Cert.InpRefIdeal.Hand

open Cert.InpRefIdeal Cert.InpRefIdeal.Gen Idealize.ShloMosaic Idealize.ShloMosaic.TcCoe Idealize.SL.Sem Idealize.ShloMosaic.StableHlo Cert.FfnMath

/-- The normalised and modulated rows. -/
def refA (x0 : FVec Ideal S32768x1024 .f32) (x1 : FVec Ideal S144x1x1024 .f32) (x2 : FVec Ideal S1x1024 .f32) : FVec Ideal S16x2048x1024 .f32 :=
  addf (mulf (mulf (mulf (shapeCast _ x0 shapeCasts_S32768x1024_S16x2048x1024) (broadcastInDim S16x2048x1024 ![0, 1, 2] bcast_S16x2048x1_S16x2048x1024_0_1_2 (Host.rsqrt (addf (Host.divf (broadcastInDim S16x2048x1 ![0, 1] bcast_S16x2048_S16x2048x1_0_1 (Host.reduceAdd (mulf (shapeCast _ x0 shapeCasts_S32768x1024_S16x2048x1024) (shapeCast _ x0 shapeCasts_S32768x1024_S16x2048x1024)) (constant S_ .f32 0x00000000#32) reducesTo_S16x2048x1024_S16x2048_d2 h_S_)) (broadcastInDim S16x2048x1 ![] bcast_S_S16x2048x1 (constant S_ .f32 0x44800000#32))) (broadcastInDim S16x2048x1 ![] bcast_S_S16x2048x1 (constant S_ .f32 0x358637BD#32)))))) (broadcastInDim S16x2048x1024 ![0, 1, 2] bcast_S1x1x1024_S16x2048x1024_0_1_2 (broadcastInDim S1x1x1024 ![2] bcast_S1024_S1x1x1024_2 (shapeCast _ x2 shapeCasts_S1x1024_S1024)))) (broadcastInDim S16x2048x1024 ![0, 1, 2] bcast_S16x1x1024_S16x2048x1024_0_1_2 (addf (broadcastInDim S16x1x1024 ![] bcast_S_S16x1x1024 (constant S_ .f32 0x3F800000#32)) (extractStridedSlice S16x1x1024 ![0, 0, 1024] (extractStridedSlice S16x1x6144 ![0, 0, 0] (shapeCast _ x1 shapeCasts_S144x1x1024_S24x1x6144) slices_S24x1x6144_S16x1x6144_0_0_0) slices_S16x1x6144_S16x1x1024_0_0_1024)))) (broadcastInDim S16x2048x1024 ![0, 1, 2] bcast_S16x1x1024_S16x2048x1024_0_1_2 (extractStridedSlice S16x1x1024 ![0, 0, 0] (extractStridedSlice S16x1x6144 ![0, 0, 0] (shapeCast _ x1 shapeCasts_S144x1x1024_S24x1x6144) slices_S24x1x6144_S16x1x6144_0_0_0) slices_S16x1x6144_S16x1x1024_0_0_0))

/-- The combined projection: all 2944 columns. -/
def refP (x0 : FVec Ideal S32768x1024 .f32) (x1 : FVec Ideal S144x1x1024 .f32) (x2 : FVec Ideal S1x1024 .f32) (x3 : FVec Ideal S1024x2944 .bf16) : FVec Ideal S32768x2944 .f32 :=
  shapeCast _ (Host.dotGeneral dot_S16x2048x1024_S1024x2944_S16x2048x2944_2_0_01_1_n_n none (refA x0 x1 x2) (extf .f32 x3 bitsLt_bf16_f32)) shapeCasts_S16x2048x2944_S32768x2944

/-- The three results: column ranges of the projection. -/
def REF0 (x0 : FVec Ideal S32768x1024 .f32) (x1 : FVec Ideal S144x1x1024 .f32) (x2 : FVec Ideal S1x1024 .f32) (x3 : FVec Ideal S1024x2944 .bf16) : FVec Ideal S32768x1024 .f32 :=
  extractStridedSlice S32768x1024 ![0, 0] (refP x0 x1 x2 x3) slices_S32768x2944_S32768x1024_0_0
def REF1 (x0 : FVec Ideal S32768x1024 .f32) (x1 : FVec Ideal S144x1x1024 .f32) (x2 : FVec Ideal S1x1024 .f32) (x3 : FVec Ideal S1024x2944 .bf16) : FVec Ideal S32768x1024 .f32 :=
  extractStridedSlice S32768x1024 ![0, 1024] (refP x0 x1 x2 x3) slices_S32768x2944_S32768x1024_0_1024
def REF2 (x0 : FVec Ideal S32768x1024 .f32) (x1 : FVec Ideal S144x1x1024 .f32) (x2 : FVec Ideal S1x1024 .f32) (x3 : FVec Ideal S1024x2944 .bf16) : FVec Ideal S32768x128 .f32 :=
  extractStridedSlice S32768x128 ![0, 2816] (refP x0 x1 x2 x3) slices_S32768x2944_S32768x128_0_2816

/-- The reference's run: the three results by name, and the arguments unchanged. -/
theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v32) = REF0 (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v33) = REF1 (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v34) = REF2 (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  Value.run (F := Ideal) m ρ

/-- Row `q` of sequence `b`, normalised and modulated. -/
theorem A_at (x0 : FVec Ideal S32768x1024 .f32) (x1 : FVec Ideal S144x1x1024 .f32) (x2 : FVec Ideal S1x1024 .f32) (b : Fin 16) (q : Fin 2048) (d : Fin 1024) :
    refA x0 x1 x2 (ix3 b q d) = normed (fun k => x0 (ix2 ⟨b * 2048 + q, by omega⟩ k)) (fun k => x2 (ix2 0 k)) (fun k => x1 (ix3 ⟨b * 6 + 1, by omega⟩ 0 k)) (fun k => x1 (ix3 ⟨b * 6, by omega⟩ 0 k)) d := by
  rw [normed_eq]
  pointwise [refA]
  have e1 : (1024 + (d : ℕ)) / 1024 = 1 := by omega
  have e0 : (d : ℕ) / 1024 = 0 := by omega
  have ed : (d : ℕ) % 1024 = d := by omega
  simp only [e1, e0, ed, Nat.add_zero, Fin.eta]

theorem P_at (x0 : FVec Ideal S32768x1024 .f32) (x1 : FVec Ideal S144x1x1024 .f32) (x2 : FVec Ideal S1x1024 .f32) (x3 : FVec Ideal S1024x2944 .bf16) (i : Fin 32768) (n : Fin 2944) :
    refP x0 x1 x2 x3 (ix2 i n) = ∑ e : Fin 1024, (show EReal from refA x0 x1 x2 (ix3 ⟨i / 2048, by omega⟩ ⟨i % 2048, by omega⟩ e)) * x3 (ix2 e n) := by
  pointwise [refP]

theorem REF0_at (x0 : FVec Ideal S32768x1024 .f32) (x1 : FVec Ideal S144x1x1024 .f32) (x2 : FVec Ideal S1x1024 .f32) (x3 : FVec Ideal S1024x2944 .bf16) (i : Fin 32768) (n : Fin 1024) :
    REF0 x0 x1 x2 x3 (ix2 i n) = refP x0 x1 x2 x3 (ix2 i ⟨n, by omega⟩) := by
  pointwise [REF0]
theorem REF1_at (x0 : FVec Ideal S32768x1024 .f32) (x1 : FVec Ideal S144x1x1024 .f32) (x2 : FVec Ideal S1x1024 .f32) (x3 : FVec Ideal S1024x2944 .bf16) (i : Fin 32768) (n : Fin 1024) :
    REF1 x0 x1 x2 x3 (ix2 i n) = refP x0 x1 x2 x3 (ix2 i ⟨1024 + n, by omega⟩) := by
  pointwise [REF1]
theorem REF2_at (x0 : FVec Ideal S32768x1024 .f32) (x1 : FVec Ideal S144x1x1024 .f32) (x2 : FVec Ideal S1x1024 .f32) (x3 : FVec Ideal S1024x2944 .bf16) (i : Fin 32768) (n : Fin 128) :
    REF2 x0 x1 x2 x3 (ix2 i n) = refP x0 x1 x2 x3 (ix2 i ⟨2816 + n, by omega⟩) := by
  pointwise [REF2]

end Cert.InpRefIdeal.Hand

end
-- ==== Proof.InpFinal.lean ====
/- The input projection's kernel: what it computes of one block, and its result arrays, which are the reference's. -/
module

public import proofs.«01_k».proof.Proof.InpRefPure
public import proofs.«01_k».proof.Proof.Gen.InpIdeal.Value
public import Idealize.ShloMosaic.Lib.Pipeline.ValueKit
public import Idealize.ShloMosaic.Lib.Pointwise

@[expose] public section

set_option maxRecDepth 16384

noncomputable section

namespace Cert.InpIdeal.Hand

open Cert.InpIdeal Cert.InpIdeal.Gen Idealize.ShloMosaic Idealize.ShloMosaic.TcCoe Idealize.SL.Sem Cert.FfnMath

/-- The product of the normalised and modulated rows of a block with all columns of the weights. -/
theorem product_at (x : Vec Ideal S512x1024 .f32) (gain : Vec Ideal S1x1024 .f32) (sc sh : Vec Ideal S1x1x1024 .f32) (w : Vec Ideal S1024x2944 .bf16) (r : Fin 512) (n : Fin 2944) :
    k0_pay3 (F := Ideal) x gain sc sh w (ix2 r n)
      = ∑ e : Fin 1024, normed (fun k => x (ix2 r k)) (fun k => gain (ix2 0 k)) (fun k => sc (ix3 0 0 k)) (fun k => sh (ix3 0 0 k)) e * w (ix2 e n) := by
  unfold normed
  pointwise [k0_pay3]

/-- The three stores of its columns. -/
theorem gla_at (x : Vec Ideal S512x1024 .f32) (gain : Vec Ideal S1x1024 .f32) (sc sh : Vec Ideal S1x1x1024 .f32) (w : Vec Ideal S1024x2944 .bf16) (r : Fin 512) (n : Fin 1024) :
    k0_pay4 (F := Ideal) x gain sc sh w (ix2 r n) = k0_pay3 (F := Ideal) x gain sc sh w (ix2 r ⟨n, by omega⟩) := by
  pointwise [k0_pay4]
theorem gdn_at (x : Vec Ideal S512x1024 .f32) (gain : Vec Ideal S1x1024 .f32) (sc sh : Vec Ideal S1x1x1024 .f32) (w : Vec Ideal S1024x2944 .bf16) (r : Fin 512) (n : Fin 1024) :
    k0_pay5 (F := Ideal) x gain sc sh w (ix2 r n) = k0_pay3 (F := Ideal) x gain sc sh w (ix2 r ⟨1024 + n, by omega⟩) := by
  pointwise [k0_pay5]
theorem small_at (x : Vec Ideal S512x1024 .f32) (gain : Vec Ideal S1x1024 .f32) (sc sh : Vec Ideal S1x1x1024 .f32) (w : Vec Ideal S1024x2944 .bf16) (r : Fin 512) (n : Fin 128) :
    k0_pay6 (F := Ideal) x gain sc sh w (ix2 r n) = k0_pay3 (F := Ideal) x gain sc sh w (ix2 r ⟨2816 + n, by omega⟩) := by
  pointwise [k0_pay6]

variable (m : (ℓ : Loc nD τ sig) → Buf (Elt Ideal) ℓ)

theorem idx : ∀ t : Fin cfg0.N, win0_0.index t = ![t.val, 0] ∧ win0_1.index t = ![t.val / 4 * 6, 0, 0] ∧ win0_2.index t = ![t.val / 4 * 6 + 1, 0, 0]
    ∧ win0_3.index t = ![0, 0] ∧ win0_4.index t = ![0, 0] ∧ win0_9.index t = ![t.val, 0] ∧ win0_10.index t = ![t.val, 0] ∧ win0_13.index t = ![t.val, 0] :=
  (by decide +kernel : ∀ t : Fin grid0.N, _)

theorem read_0 (c : Dev nD) (t : Fin cfg0.N) (r : Fin 512) (k : Fin 1024) (h : (t : ℕ) * 512 + r < 32768) :
    iblk m c 0 t (ix2 r k) = m ((c : Thread nD τ).loc main_arg0) (ix2 ⟨t * 512 + r, h⟩ k) := by
  blk_ext [iblk, V, idx t]
theorem read_1 (c : Dev nD) (t : Fin cfg0.N) (d : Fin 1024) (h : (t : ℕ) / 4 * 6 < 144) :
    iblk m c 1 t (ix3 0 0 d) = m ((c : Thread nD τ).loc main_arg1) (ix3 ⟨t / 4 * 6, h⟩ 0 d) := by
  blk_ext [iblk, V, idx t]
theorem read_2 (c : Dev nD) (t : Fin cfg0.N) (d : Fin 1024) (h : (t : ℕ) / 4 * 6 + 1 < 144) :
    iblk m c 2 t (ix3 0 0 d) = m ((c : Thread nD τ).loc main_arg1) (ix3 ⟨t / 4 * 6 + 1, h⟩ 0 d) := by
  blk_ext [iblk, V, idx t]
theorem read_3 (c : Dev nD) (t : Fin cfg0.N) (d : Fin 1024) : iblk m c 3 t (ix2 0 d) = m ((c : Thread nD τ).loc main_arg2) (ix2 0 d) := by
  blk_ext [iblk, V, idx t]
theorem read_4 (c : Dev nD) (t : Fin cfg0.N) (e : Fin 1024) (n : Fin 2944) : iblk m c 4 t (ix2 e n) = m ((c : Thread nD τ).loc main_arg3) (ix2 e n) := by
  blk_ext [iblk, V, idx t]

/-- One product over blocks that are read out of the arrays is the reference's. -/
theorem row (x0 : FVec Ideal S32768x1024 .f32) (x1 : FVec Ideal S144x1x1024 .f32) (x2 : FVec Ideal S1x1024 .f32) (x3 : FVec Ideal S1024x2944 .bf16)
    (X : Vec Ideal S512x1024 .f32) (G : Vec Ideal S1x1024 .f32) (SC SH : Vec Ideal S1x1x1024 .f32) (W : Vec Ideal S1024x2944 .bf16) (r : Fin 512) (i : Fin 32768)
    (hX : ∀ k, X (ix2 r k) = x0 (ix2 i k)) (hG : ∀ k, G (ix2 0 k) = x2 (ix2 0 k)) (hC : ∀ k, SC (ix3 0 0 k) = x1 (ix3 ⟨i / 2048 * 6 + 1, by omega⟩ 0 k))
    (hH : ∀ k, SH (ix3 0 0 k) = x1 (ix3 ⟨i / 2048 * 6, by omega⟩ 0 k)) (hW : ∀ e n, W (ix2 e n) = x3 (ix2 e n)) (n : Fin 2944) :
    k0_pay3 (F := Ideal) X G SC SH W (ix2 r n) = InpRefIdeal.Hand.refP x0 x1 x2 x3 (ix2 i n) := by
  rw [product_at, InpRefIdeal.Hand.P_at]
  have ei : ∀ h : (i : ℕ) / 2048 * 2048 + i % 2048 < 32768, (⟨(i : ℕ) / 2048 * 2048 + i % 2048, h⟩ : Fin 32768) = i := fun h => Fin.ext (by dsimp only; omega)
  simp only [InpRefIdeal.Hand.A_at, hX, hG, hC, hH, hW, ei]

/-- Two readings of the modulation at equal places. -/
theorem at3 {n0 n2 : ℕ} {α : Type} (f : Shape.Idx ⟨3, ![n0, 1, n2]⟩ → α) {i i' : Fin n0} {j : Fin n2} (hi : (i : ℕ) = i') : f (ix3 i 0 j) = f (ix3 i' 0 j) := by
  rw [Fin.ext hi]

/-- Point `t`'s product is rows `512 t` and on of the reference's. -/
theorem block (c : Dev nD) (t : Fin cfg0.N) (r : Fin 512) (n : Fin 2944) (h : (t : ℕ) * 512 + r < 32768) :
    k0_pay3 (F := Ideal) (iblk m c 0 t) (iblk m c 3 t) (iblk m c 2 t) (iblk m c 1 t) (iblk m c 4 t) (ix2 r n)
      = InpRefIdeal.Hand.refP (m ((c : Thread nD τ).loc main_arg0)) (m ((c : Thread nD τ).loc main_arg1)) (m ((c : Thread nD τ).loc main_arg2)) (m ((c : Thread nD τ).loc main_arg3)) (ix2 ⟨t * 512 + r, h⟩ n) := by
  have ht : (t : ℕ) < 64 := t.isLt
  exact row _ _ _ _ _ _ _ _ _ r _ (fun k => read_0 m c t r k h) (read_3 m c t)
    (fun k => (read_2 m c t k (by omega)).trans (at3 _ (by dsimp only; omega))) (fun k => (read_1 m c t k (by omega)).trans (at3 _ (by dsimp only; omega))) (read_4 m c t) n

/-! The three result arrays. -/

theorem final0 (c : Dev nD) : (dats m 0 c).arrAt 9 (cfgs 0).N = InpRefIdeal.Hand.REF0 (m ((c : Thread nD τ).loc main_arg0)) (m ((c : Thread nD τ).loc main_arg1)) (m ((c : Thread nD τ).loc main_arg2)) (m ((c : Thread nD τ).loc main_arg3)) := by
  refine (dats m 0 c).arrAt_eq_of_covers 9 _ (by decide +kernel) fun t _ y => ?_
  blk_simp
  rw [after0_9]
  unfold_out out0_9
  frame_out
  have ht : (t : ℕ) < 64 := t.isLt
  obtain ⟨r, n, rfl⟩ : ∃ (r : Fin 512) (n : Fin 1024), y = ix2 r n := ⟨y 0, y 1, eq_ix2 (n0 := 512) (n1 := 1024) y⟩
  have e : ((cfg0.win 9).blk t).view.emb (ix2 r n) = ix2 ⟨(t : ℕ) * 512 + r, by omega⟩ n := by
    blk_ext [iblk, V, idx t]
  refine Eq.trans ?_ (congrArg (InpRefIdeal.Hand.REF0 _ _ _ _) e).symm
  refine Eq.trans ?_ ((InpRefIdeal.Hand.REF0_at _ _ _ _ _ n).trans (block m c t r ⟨n, by omega⟩ _).symm).symm
  refine (gla_at _ _ _ _ _ r n).trans ?_
  rfl

theorem final1 (c : Dev nD) : (dats m 0 c).arrAt 10 (cfgs 0).N = InpRefIdeal.Hand.REF1 (m ((c : Thread nD τ).loc main_arg0)) (m ((c : Thread nD τ).loc main_arg1)) (m ((c : Thread nD τ).loc main_arg2)) (m ((c : Thread nD τ).loc main_arg3)) := by
  refine (dats m 0 c).arrAt_eq_of_covers 10 _ (by decide +kernel) fun t _ y => ?_
  blk_simp
  rw [after0_10]
  unfold_out out0_10
  frame_out
  have ht : (t : ℕ) < 64 := t.isLt
  obtain ⟨r, n, rfl⟩ : ∃ (r : Fin 512) (n : Fin 1024), y = ix2 r n := ⟨y 0, y 1, eq_ix2 (n0 := 512) (n1 := 1024) y⟩
  have e : ((cfg0.win 10).blk t).view.emb (ix2 r n) = ix2 ⟨(t : ℕ) * 512 + r, by omega⟩ n := by
    blk_ext [iblk, V, idx t]
  refine Eq.trans ?_ (congrArg (InpRefIdeal.Hand.REF1 _ _ _ _) e).symm
  refine Eq.trans ?_ ((InpRefIdeal.Hand.REF1_at _ _ _ _ _ n).trans (block m c t r ⟨1024 + n, by omega⟩ _).symm).symm
  refine (gdn_at _ _ _ _ _ r n).trans ?_
  rfl

theorem final2 (c : Dev nD) : (dats m 0 c).arrAt 13 (cfgs 0).N = InpRefIdeal.Hand.REF2 (m ((c : Thread nD τ).loc main_arg0)) (m ((c : Thread nD τ).loc main_arg1)) (m ((c : Thread nD τ).loc main_arg2)) (m ((c : Thread nD τ).loc main_arg3)) := by
  refine (dats m 0 c).arrAt_eq_of_covers 13 _ (by decide +kernel) fun t _ y => ?_
  blk_simp
  rw [after0_13]
  unfold_out out0_13
  frame_out
  have ht : (t : ℕ) < 64 := t.isLt
  obtain ⟨r, n, rfl⟩ : ∃ (r : Fin 512) (n : Fin 128), y = ix2 r n := ⟨y 0, y 1, eq_ix2 (n0 := 512) (n1 := 128) y⟩
  have e : ((cfg0.win 13).blk t).view.emb (ix2 r n) = ix2 ⟨(t : ℕ) * 512 + r, by omega⟩ n := by
    blk_ext [iblk, V, idx t]
  refine Eq.trans ?_ (congrArg (InpRefIdeal.Hand.REF2 _ _ _ _) e).symm
  refine Eq.trans ?_ ((InpRefIdeal.Hand.REF2_at _ _ _ _ _ n).trans (block m c t r ⟨2816 + n, by omega⟩ _).symm).symm
  refine (small_at _ _ _ _ _ r n).trans ?_
  rfl

end Cert.InpIdeal.Hand

end
-- ==== Proof.InpAlg.lean ====
/- The input projection's value claim, from the two runs and the equality of their results. -/
module

public import proofs.«01_k».proof.Defs
public import proofs.«01_k».proof.Proof.InpFinal
public import Idealize.ShloMosaic.Lib.Claim
public import Idealize.ShloMosaic.Adequacy
public import Idealize.ShloMosaic.Init

@[expose] public section

set_option maxHeartbeats 4000000

noncomputable section
namespace Cert.Proof

open Idealize.ShloMosaic Idealize.ShloMosaic.TcCoe Idealize.SL.Sem

/-- The input projection's three plain results are the reference's, for all arguments. -/
theorem inp_algebraic : Cert.algebraic_InpIdeal_InpRefIdeal (hInpIdeal := Cert.InpIdeal.Gen.facts) (hInpRefIdeal := Cert.InpRefIdeal.Gen.facts) := by
  intro m g m' g' _ hagree
  refine ⟨fun c => Cert.InpRefIdeal.Hand.REF0 (m ((c.tc : Thread Cert.InpIdeal.nD Cert.InpIdeal.τ).loc Cert.InpIdeal.main_arg0)) (m ((c.tc : Thread Cert.InpIdeal.nD Cert.InpIdeal.τ).loc Cert.InpIdeal.main_arg1)) (m ((c.tc : Thread Cert.InpIdeal.nD Cert.InpIdeal.τ).loc Cert.InpIdeal.main_arg2)) (m ((c.tc : Thread Cert.InpIdeal.nD Cert.InpIdeal.τ).loc Cert.InpIdeal.main_arg3)),
    fun c => Cert.InpRefIdeal.Hand.REF1 (m ((c.tc : Thread Cert.InpIdeal.nD Cert.InpIdeal.τ).loc Cert.InpIdeal.main_arg0)) (m ((c.tc : Thread Cert.InpIdeal.nD Cert.InpIdeal.τ).loc Cert.InpIdeal.main_arg1)) (m ((c.tc : Thread Cert.InpIdeal.nD Cert.InpIdeal.τ).loc Cert.InpIdeal.main_arg2)) (m ((c.tc : Thread Cert.InpIdeal.nD Cert.InpIdeal.τ).loc Cert.InpIdeal.main_arg3)),
    fun c => Cert.InpRefIdeal.Hand.REF2 (m ((c.tc : Thread Cert.InpIdeal.nD Cert.InpIdeal.τ).loc Cert.InpIdeal.main_arg0)) (m ((c.tc : Thread Cert.InpIdeal.nD Cert.InpIdeal.τ).loc Cert.InpIdeal.main_arg1)) (m ((c.tc : Thread Cert.InpIdeal.nD Cert.InpIdeal.τ).loc Cert.InpIdeal.main_arg2)) (m ((c.tc : Thread Cert.InpIdeal.nD Cert.InpIdeal.τ).loc Cert.InpIdeal.main_arg3)), ?_, ?_⟩
  · refine (θ_run Cert.InpIdeal.defs _ _).mono (fun r h c => ⟨?_, ?_, ?_, h.2 c⟩) (θ_run_and (Cert.InpIdeal.Gen.run_main m g) (Cert.InpIdeal.Gen.unchanged m g))
    · exact ((h.1 c).1 9).trans (Cert.InpIdeal.Hand.final0 m c)
    · exact ((h.1 c).1 10).trans (Cert.InpIdeal.Hand.final1 m c)
    · exact ((h.1 c).1 13).trans (Cert.InpIdeal.Hand.final2 m c)
  · refine (θ_run Cert.InpRefIdeal.defs _ _).mono (fun r h c => ⟨?_, ?_, ?_, (h c).2.2.2⟩) (Cert.InpRefIdeal.Hand.run_ref m' g')
    all_goals obtain ⟨h0, h1, h2, h3, -⟩ := hagree c
    · refine (h c).1.trans ?_
      rw [h0, h1, h2, h3]
    · refine (h c).2.1.trans ?_
      rw [h0, h1, h2, h3]
    · refine (h c).2.2.1.trans ?_
      rw [h0, h1, h2, h3]

end Cert.Proof

end
-- ==== Proof.lean ====
module

public import proofs.«01_k».proof.Defs
public import proofs.«01_k».proof.Proof.Gen.Att
public import proofs.«01_k».proof.Proof.Gen.Att.Skeleton
public import proofs.«01_k».proof.Proof.Gen.Att.Launch
public import proofs.«01_k».proof.Proof.Gen.Att.Points
public import proofs.«01_k».proof.Proof.Gen.Att.Frame
public import proofs.«01_k».proof.Proof.Gen.AttIdeal
public import proofs.«01_k».proof.Proof.Gen.AttIdeal.Skeleton
public import proofs.«01_k».proof.Proof.Gen.AttIdeal.Launch
public import proofs.«01_k».proof.Proof.Gen.AttIdeal.Points
public import proofs.«01_k».proof.Proof.Gen.AttIdeal.Frame
public import proofs.«01_k».proof.Proof.Gen.AttRefIdeal
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnRefIdeal
public import proofs.«01_k».proof.Proof.Gen.Experts
public import proofs.«01_k».proof.Proof.Gen.Experts.Skeleton
public import proofs.«01_k».proof.Proof.Gen.Experts.Launch
public import proofs.«01_k».proof.Proof.Gen.ExpertsIdeal
public import proofs.«01_k».proof.Proof.Gen.ExpertsIdeal.Skeleton
public import proofs.«01_k».proof.Proof.Gen.ExpertsIdeal.Launch
public import proofs.«01_k».proof.Proof.Gen.ExpertsRefIdeal
public import proofs.«01_k».proof.Proof.Gen.ExpertsRefIdeal.Run
public import proofs.«01_k».proof.Proof.Gen.Inp
public import proofs.«01_k».proof.Proof.Gen.Inp.Skeleton
public import proofs.«01_k».proof.Proof.Gen.Inp.Launch
public import proofs.«01_k».proof.Proof.Gen.Inp.Points
public import proofs.«01_k».proof.Proof.Gen.Inp.Frame
public import proofs.«01_k».proof.Proof.Gen.InpIdeal
public import proofs.«01_k».proof.Proof.Gen.InpIdeal.Skeleton
public import proofs.«01_k».proof.Proof.Gen.InpIdeal.Launch
public import proofs.«01_k».proof.Proof.Gen.InpIdeal.Points
public import proofs.«01_k».proof.Proof.Gen.InpIdeal.Frame
public import proofs.«01_k».proof.Proof.Gen.InpIdeal.Value
public import proofs.«01_k».proof.Proof.Gen.InpRefIdeal
public import proofs.«01_k».proof.Proof.Gen.InpRefIdeal.Run
public import proofs.«01_k».proof.Proof.Gen.Pre_finite_scores
public import proofs.«01_k».proof.Proof.Gen.Pre_tiles_name_experts
public import proofs.«01_k».proof.Proof.Gen.AttIdeal.Value
public import proofs.«01_k».proof.Proof.Gen.AttRefIdeal.Run
public import proofs.«01_k».proof.Proof.Gen.FfnIdeal.Value
public import proofs.«01_k».proof.Proof.Gen.FfnRefIdeal.Run
public import proofs.«01_k».proof.Proof.AttAlg
public import proofs.«01_k».proof.Proof.FfnAlg
public import proofs.«01_k».proof.Proof.ExpOk
public import proofs.«01_k».proof.Proof.ExpIdealOk
public import proofs.«01_k».proof.Proof.ExpPre
public import proofs.«01_k».proof.Proof.ExpAlg
public import proofs.«01_k».proof.Proof.InpAlg
public import Idealize.ShloMosaic.Lib.Claim
public import Idealize.ShloMosaic.Adequacy
public import Idealize.ShloMosaic.Init

@[expose] public section

noncomputable section

namespace Cert.Proof

open Idealize.ShloMosaic Idealize.SL.Sem Cert.Att

/-- The attention reference ends, its arguments unchanged; it declares no semaphore. -/
theorem attRef_quiescent : Cert.quiescent_AttRefIdeal (hAttRefIdeal := Cert.AttRefIdeal.Gen.facts) := by
  intro m g _
  exact (θ_run Cert.AttRefIdeal.defs _ _).mono (fun r h => ⟨fun c => (h c).2, Idealize.ShloMosaic.sem_eq_zero_of_no_sems (by decide) r.2⟩)
    (Cert.AttRefIdeal.Value.run (F := Ideal) m g)

/-- The feed-forward reference ends, its arguments unchanged; it declares no semaphore. -/
theorem ffnRef_quiescent : Cert.quiescent_FfnRefIdeal (hFfnRefIdeal := Cert.FfnRefIdeal.Gen.facts) := by
  intro m g _
  exact (θ_run Cert.FfnRefIdeal.defs _ _).mono (fun r h => ⟨fun c => (h c).2, Idealize.ShloMosaic.sem_eq_zero_of_no_sems (by decide) r.2⟩)
    (Cert.FfnRefIdeal.Value.run (F := Ideal) m g)

/-- The experts' reference ends, its arguments unchanged; it declares no semaphore. -/
theorem expertsRef_quiescent : Cert.quiescent_ExpertsRefIdeal (hExpertsRefIdeal := Cert.ExpertsRefIdeal.Gen.facts) := by
  intro m g _
  exact (θ_run Cert.ExpertsRefIdeal.defs _ _).mono (fun r h => ⟨fun c => (h c).2, Idealize.ShloMosaic.sem_eq_zero_of_no_sems (by decide) r.2⟩)
    (Cert.ExpertsRefIdeal.Value.run (F := Ideal) m g)

/-- The experts' kernel ends, its arguments unchanged, wherever every tile names an expert. -/
theorem experts_quiescent : Cert.quiescent_Experts (hExperts := Cert.Experts.Gen.facts) (hPre_tiles_name_experts := Cert.Pre_tiles_name_experts.Gen.facts) :=
  fun m g h => Cert.Experts.Hand.frame m g (Cert.Experts.Hand.ok m fun j => Cert.Pre_tiles_name_experts.Hand.named (F := Bits) _ _ _ _ _ (h 0) j)

/-- The input projection's reference ends, its arguments unchanged; it declares no semaphore. -/
theorem inpRef_quiescent : Cert.quiescent_InpRefIdeal (hInpRefIdeal := Cert.InpRefIdeal.Gen.facts) := by
  intro m g _
  exact (θ_run Cert.InpRefIdeal.defs _ _).mono (fun r h => ⟨fun c => (h c).2.2.2, Idealize.ShloMosaic.sem_eq_zero_of_no_sems (by decide) r.2⟩)
    (Cert.InpRefIdeal.Value.run (F := Ideal) m g)

theorem claim : Cert.Claim := ⟨Cert.Att.Gen.facts, Cert.AttIdeal.Gen.facts, Cert.AttRefIdeal.Gen.facts, Cert.Ffn.Gen.facts, Cert.FfnIdeal.Gen.facts, Cert.FfnRefIdeal.Gen.facts,
  Cert.Experts.Gen.facts, Cert.ExpertsIdeal.Gen.facts, Cert.ExpertsRefIdeal.Gen.facts,
  Cert.Inp.Gen.facts, Cert.InpIdeal.Gen.facts, Cert.InpRefIdeal.Gen.facts, Cert.Pre_finite_scores.Gen.facts, Cert.Pre_tiles_name_experts.Gen.facts,
  fun m g _ => Cert.Att.Gen.frame m g,
  fun m g _ => Cert.AttIdeal.Gen.frame m g,
  fun m g _ => Cert.AttIdeal.Gen.frame m g,
  attRef_quiescent,
  fun m g _ => attRef_quiescent m g trivial,
  fun m g _ => Cert.Ffn.Gen.frame m g,
  fun m g _ => Cert.FfnIdeal.Gen.frame m g,
  ffnRef_quiescent,
  experts_quiescent,
  fun m g h => Cert.ExpertsIdeal.Hand.frame m g (experts_ok m h),
  expertsRef_quiescent,
  fun m g _ => expertsRef_quiescent m g trivial,
  fun m g _ => Cert.Inp.Gen.frame m g,
  fun m g _ => Cert.InpIdeal.Gen.frame m g,
  inpRef_quiescent,
  trivial,
  att_algebraic,
  trivial,
  ffn_algebraic,
  trivial,
  experts_algebraic,
  trivial,
  inp_algebraic⟩

end Cert.Proof

end
